-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_grouped_scores [hPre_finite_grouped_scores : Cert.Pre_finite_grouped_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_grouped_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite_grouped_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_grouped_scores [hPre_finite_grouped_scores : Cert.Pre_finite_grouped_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_grouped_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite_grouped_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_grouped_scores [hKernel5Ideal : Cert.Kernel5Ideal.Facts] [hPre_finite_grouped_scores : Cert.Pre_finite_grouped_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_grouped_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_grouped_scores [hReference5Ideal : Cert.Reference5Ideal.Facts] [hPre_finite_grouped_scores : Cert.Pre_finite_grouped_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_grouped_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v105) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal_pre_finite_grouped_scores [hKernel5Ideal : Cert.Kernel5Ideal.Facts] [hReference5Ideal : Cert.Reference5Ideal.Facts] [hPre_finite_grouped_scores : Cert.Pre_finite_grouped_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_grouped_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v76_1)) (v1 : (c : Dev Cert.Kernel6Ideal.nD) → Buf (Elt Ideal) ((c.tc : Thread Cert.Kernel6Ideal.nD Cert.Kernel6Ideal.τ).loc Cert.Kernel6Ideal.main_v76_4)) (v2 : (c : Dev Cert.Kernel6Ideal.nD) → Buf (Elt Ideal) ((c.tc : Thread Cert.Kernel6Ideal.nD Cert.Kernel6Ideal.τ).loc Cert.Kernel6Ideal.main_v76_6)) (v3 : (c : Dev Cert.Kernel6Ideal.nD) → Buf (Elt Ideal) ((c.tc : Thread Cert.Kernel6Ideal.nD Cert.Kernel6Ideal.τ).loc Cert.Kernel6Ideal.main_v76_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v76_1) = v0 c
          ∧ r.2.mem ((c.tc : Thread Cert.Kernel6Ideal.nD Cert.Kernel6Ideal.τ).loc Cert.Kernel6Ideal.main_v76_4) = v1 c
          ∧ r.2.mem ((c.tc : Thread Cert.Kernel6Ideal.nD Cert.Kernel6Ideal.τ).loc Cert.Kernel6Ideal.main_v76_6) = v2 c
          ∧ r.2.mem ((c.tc : Thread Cert.Kernel6Ideal.nD Cert.Kernel6Ideal.τ).loc Cert.Kernel6Ideal.main_v76_7) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v60) = v0 c
          ∧ r.2.mem ((c.tc : Thread Cert.Reference6Ideal.nD Cert.Reference6Ideal.τ).loc Cert.Reference6Ideal.main_v62) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_v38) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_finite_grouped_scores : Cert.Pre_finite_grouped_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_grouped_scores (hKernel5Ideal := hKernel5Ideal) (hPre_finite_grouped_scores := hPre_finite_grouped_scores)
    ∧ quiescent_Reference5Ideal (hReference5Ideal := hReference5Ideal)
    ∧ quiescent_Reference5Ideal_pre_finite_grouped_scores (hReference5Ideal := hReference5Ideal) (hPre_finite_grouped_scores := hPre_finite_grouped_scores)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_grouped_scores (hKernel5Ideal := hKernel5Ideal) (hReference5Ideal := hReference5Ideal) (hPre_finite_grouped_scores := hPre_finite_grouped_scores)
    ∧ preserves_Kernel6_Kernel6Ideal
    ∧ algebraic_Kernel6Ideal_Reference6Ideal (hKernel6Ideal := hKernel6Ideal) (hReference6Ideal := hReference6Ideal)
-- ==== Pre_finite_grouped_scores.lean ====
abbrev S32x2304x1024 : Shape := ⟨3, ![32, 2304, 1024]⟩
abbrev S32x4x2304x128 : Shape := ⟨4, ![32, 4, 2304, 128]⟩
abbrev S32x256x2304 : Shape := ⟨3, ![32, 256, 2304]⟩
abbrev S_ : Shape := ⟨0, ![]⟩

class Facts : Prop where
  bitsLt_bf16_f32 : FTy.bits .bf16 < FTy.bits .f32
  bcast_S_S32x2304x1024 : S_.BroadcastsInDim S32x2304x1024 (![] : Fin 0 → Fin S32x2304x1024.rank)
  bcast_S_S32x4x2304x128 : S_.BroadcastsInDim S32x4x2304x128 (![] : Fin 0 → Fin S32x4x2304x128.rank)

variable [Facts]

def fn {F : FTy → Type} [FloatOps F] (main_arg0 : FVec F S32x2304x1024 .bf16) (main_arg1 : FVec F S32x4x2304x128 .bf16) (main_arg2 : FVec F S32x256x2304 .bf16) : IVec S32x2304x1024 1 × IVec S32x4x2304x128 1 :=
  let main_v0 : FVec F S32x2304x1024 .f32 := (extf .f32 · bitsLt_bf16_f32) main_arg0
  let main_v1 : FVec F S32x2304x1024 .f32 := Host.absf main_v0
  let main_cst : FVec F S_ .f32 := constant S_ .f32 0x7F800000#32
  let main_v2 : FVec F S32x2304x1024 .f32 := broadcastInDim S32x2304x1024 ![] bcast_S_S32x2304x1024 main_cst
  let main_v3 : IVec S32x2304x1024 1 := cmpf .olt main_v1 main_v2
  let main_v4 : FVec F S32x4x2304x128 .f32 := (extf .f32 · bitsLt_bf16_f32) main_arg1
  let main_v5 : FVec F S32x4x2304x128 .f32 := Host.absf main_v4
  let main_cst_0 : FVec F S_ .f32 := constant S_ .f32 0x7F800000#32
  let main_v6 : FVec F S32x4x2304x128 .f32 := broadcastInDim S32x4x2304x128 ![] bcast_S_S32x4x2304x128 main_cst_0
  let main_v7 : IVec S32x4x2304x128 1 := cmpf .olt main_v5 main_v6
  (main_v3, main_v7)
-- ==== Pre_finite_scores.lean ====
abbrev S32x2304x2048 : Shape := ⟨3, ![32, 2304, 2048]⟩
abbrev S32x16x2304x128 : Shape := ⟨4, ![32, 16, 2304, 128]⟩
abbrev S32x1024x2304 : Shape := ⟨3, ![32, 1024, 2304]⟩
abbrev S_ : Shape := ⟨0, ![]⟩

class Facts : Prop where
  bitsLt_bf16_f32 : FTy.bits .bf16 < FTy.bits .f32
  bcast_S_S32x2304x2048 : S_.BroadcastsInDim S32x2304x2048 (![] : Fin 0 → Fin S32x2304x2048.rank)
  bcast_S_S32x16x2304x128 : S_.BroadcastsInDim S32x16x2304x128 (![] : Fin 0 → Fin S32x16x2304x128.rank)

variable [Facts]

def fn {F : FTy → Type} [FloatOps F] (main_arg0 : FVec F S32x2304x2048 .bf16) (main_arg1 : FVec F S32x16x2304x128 .bf16) (main_arg2 : FVec F S32x1024x2304 .bf16) : IVec S32x2304x2048 1 × IVec S32x16x2304x128 1 :=
  let main_v0 : FVec F S32x2304x2048 .f32 := (extf .f32 · bitsLt_bf16_f32) main_arg0
  let main_v1 : FVec F S32x2304x2048 .f32 := Host.absf main_v0
  let main_cst : FVec F S_ .f32 := constant S_ .f32 0x7F800000#32
  let main_v2 : FVec F S32x2304x2048 .f32 := broadcastInDim S32x2304x2048 ![] bcast_S_S32x2304x2048 main_cst
  let main_v3 : IVec S32x2304x2048 1 := cmpf .olt main_v1 main_v2
  let main_v4 : FVec F S32x16x2304x128 .f32 := (extf .f32 · bitsLt_bf16_f32) main_arg1
  let main_v5 : FVec F S32x16x2304x128 .f32 := Host.absf main_v4
  let main_cst_0 : FVec F S_ .f32 := constant S_ .f32 0x7F800000#32
  let main_v6 : FVec F S32x16x2304x128 .f32 := broadcastInDim S32x16x2304x128 ![] bcast_S_S32x16x2304x128 main_cst_0
  let main_v7 : IVec S32x16x2304x128 1 := cmpf .olt main_v5 main_v6
  (main_v3, main_v7)
-- ==== Kernel.lean ====
abbrev S32x2304x2048 : Shape := ⟨3, ![32, 2304, 2048]⟩
abbrev S32x16x2304x128 : Shape := ⟨4, ![32, 16, 2304, 128]⟩
abbrev S32x1024x2304 : Shape := ⟨3, ![32, 1024, 2304]⟩
abbrev S32x2304x1024 : Shape := ⟨3, ![32, 2304, 1024]⟩
abbrev S1x256x2048 : Shape := ⟨3, ![1, 256, 2048]⟩
abbrev S1x16x2304x128 : Shape := ⟨4, ![1, 16, 2304, 128]⟩
abbrev S1x1024x2304 : Shape := ⟨3, ![1, 1024, 2304]⟩
abbrev S1x256x1024 : Shape := ⟨3, ![1, 256, 1024]⟩
abbrev S1x256x128 : Shape := ⟨3, ![1, 256, 128]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S1x256 : Shape := ⟨2, ![1, 256]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩
abbrev S128x256 : Shape := ⟨2, ![128, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x2304x2048, .bf16⟩
  | .hbm, ⟨1, _⟩ => ⟨S32x16x2304x128, .bf16⟩
  | .hbm, ⟨2, _⟩ => ⟨S32x1024x2304, .bf16⟩
  | .hbm, ⟨3, _⟩ => ⟨S32x2304x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x16x2304x128, .bf16⟩
  | .local _ .vmem, ⟨3, _⟩ => ⟨S1x16x2304x128, .bf16⟩
  | .local _ .vmem, ⟨4, _⟩ => ⟨S1x1024x2304, .bf16⟩
  | .local _ .vmem, ⟨5, _⟩ => ⟨S1x1024x2304, .bf16⟩
  | .local _ .vmem, ⟨6, _⟩ => ⟨S1x256x1024, .bf16⟩
  | .local _ .vmem, ⟨7, _⟩ => ⟨S1x256x1024, .bf16⟩
  | _, _ => ⟨S32x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 9], ![false, false, false]⟩

def k0_cond1 (i : grid0.Coords) : BitVec 1 :=
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .slt arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32x2304x2048 : Shape := ⟨3, ![32, 2304, 2048]⟩
abbrev S32x16x2304x128 : Shape := ⟨4, ![32, 16, 2304, 128]⟩
abbrev S32x1024x2304 : Shape := ⟨3, ![32, 1024, 2304]⟩
abbrev S32x2304x16x128 : Shape := ⟨4, ![32, 2304, 16, 128]⟩
abbrev S32x16x64x2304 : Shape := ⟨4, ![32, 16, 64, 2304]⟩
abbrev S32x2048x16x128 : Shape := ⟨4, ![32, 2048, 16, 128]⟩
abbrev S32x16x2048x2304 : Shape := ⟨4, ![32, 16, 2048, 2304]⟩
abbrev S_ : Shape := ⟨0, ![]⟩
abbrev S32x16x2048 : Shape := ⟨3, ![32, 16, 2048]⟩
abbrev S32x16x2048x1 : Shape := ⟨4, ![32, 16, 2048, 1]⟩
abbrev S32x16x64x2048 : Shape := ⟨4, ![32, 16, 64, 2048]⟩
abbrev S32x2048x16x64 : Shape := ⟨4, ![32, 2048, 16, 64]⟩
abbrev S32x256x16x128 : Shape := ⟨4, ![32, 256, 16, 128]⟩
abbrev S32x16x256x128 : Shape := ⟨4, ![32, 16, 256, 128]⟩
abbrev S32x16x64x256 : Shape := ⟨4, ![32, 16, 64, 256]⟩
abbrev S32x16x256x256 : Shape := ⟨4, ![32, 16, 256, 256]⟩
abbrev S32x16x256 : Shape := ⟨3, ![32, 16, 256]⟩
abbrev S32x16x256x1 : Shape := ⟨4, ![32, 16, 256, 1]⟩
abbrev S32x256x16x64 : Shape := ⟨4, ![32, 256, 16, 64]⟩
abbrev S32x2304x16x64 : Shape := ⟨4, ![32, 2304, 16, 64]⟩
abbrev S32x2304x1024 : Shape := ⟨3, ![32, 2304, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32x2304x2048, .bf16⟩
  | .hbm, ⟨1, _⟩ => ⟨S32x16x2304x128, .bf16⟩
  | .hbm, ⟨2, _⟩ => ⟨S32x1024x2304, .bf16⟩
  | .hbm, ⟨3, _⟩ => ⟨S32x2304x2048, .f32⟩
  | .hbm, ⟨4, _⟩ => ⟨S32x2304x16x128, .f32⟩
  | .hbm, ⟨5, _⟩ => ⟨S32x16x2304x128, .f32⟩
  | .hbm, ⟨6, _⟩ => ⟨S32x1024x2304, .f32⟩
  | .hbm, ⟨7, _⟩ => ⟨S32x16x64x2304, .f32⟩
  | .hbm, ⟨8, _⟩ => ⟨S32x2048x16x128, .f32⟩
  | .hbm, ⟨9, _⟩ => ⟨S32x16x2048x2304, .f32⟩
  | .hbm, ⟨10, _⟩ => ⟨S_, .f32⟩
  | .hbm, ⟨11, _⟩ => ⟨S_, .f32⟩
  | .hbm, ⟨12, _⟩ => ⟨S32x16x2048x2304, .f32⟩
  | .hbm, ⟨13, _⟩ => ⟨S32x16x2048x2304, .f32⟩
  | .hbm, ⟨14, _⟩ => ⟨S_, .f32⟩
  | .hbm, ⟨15, _⟩ => ⟨S32x16x2048, .f32⟩
  | .hbm, ⟨16, _⟩ => ⟨S_, .f32⟩
  | .hbm, ⟨17, _⟩ => ⟨S32x16x2048, .f32⟩
  | .hbm, ⟨18, _⟩ => ⟨S32x16x2048, .f32⟩
  | .hbm, ⟨19, _⟩ => ⟨S32x16x2048x1, .f32⟩
  | .hbm, ⟨20, _⟩ => ⟨S32x16x2048x2304, .f32⟩
  | .hbm, ⟨21, _⟩ => ⟨S32x16x2048x2304, .f32⟩
  | .hbm, ⟨22, _⟩ => ⟨S32x16x2048x2304, .f32⟩
  | .hbm, ⟨23, _⟩ => ⟨S_, .f32⟩
  | .hbm, ⟨24, _⟩ => ⟨S32x16x2048, .f32⟩
  | .hbm, ⟨25, _⟩ => ⟨S32x16x2048x1, .f32⟩
  | .hbm, ⟨26, _⟩ => ⟨S32x16x2048x2304, .f32⟩
  | .hbm, ⟨27, _⟩ => ⟨S32x16x2048x2304, .f32⟩
  | .hbm, ⟨28, _⟩ => ⟨S32x16x64x2048, .f32⟩
  | .hbm, ⟨29, _⟩ => ⟨S32x2048x16x64, .f32⟩
  | .hbm, ⟨30, _⟩ => ⟨S32x256x16x128, .f32⟩
  | .hbm, ⟨31, _⟩ => ⟨S32x16x256x128, .f32⟩
  | .hbm, ⟨32, _⟩ => ⟨S32x16x64x256, .f32⟩
  | .hbm, ⟨33, _⟩ => ⟨S32x16x256x256, .f32⟩
  | .hbm, ⟨34, _⟩ => ⟨S_, .f32⟩
  | .hbm, ⟨35, _⟩ => ⟨S_, .f32⟩
  | .hbm, ⟨36, _⟩ => ⟨S32x16x256x256, .f32⟩
  | .hbm, ⟨37, _⟩ => ⟨S32x16x256x256, .f32⟩
  | .hbm, ⟨38, _⟩ => ⟨S_, .f32⟩
  | .hbm, ⟨39, _⟩ => ⟨S32x16x256, .f32⟩
  | .hbm, ⟨40, _⟩ => ⟨S_, .f32⟩
  | .hbm, ⟨41, _⟩ => ⟨S32x16x256, .f32⟩
  | .hbm, ⟨42, _⟩ => ⟨S32x16x256, .f32⟩
  | .hbm, ⟨43, _⟩ => ⟨S32x16x256x1, .f32⟩
  | .hbm, ⟨44, _⟩ => ⟨S32x16x256x256, .f32⟩
  | .hbm, ⟨45, _⟩ => ⟨S32x16x256x256, .f32⟩
  | .hbm, ⟨46, _⟩ => ⟨S32x16x256x256, .f32⟩
  | .hbm, ⟨47, _⟩ => ⟨S_, .f32⟩
  | .hbm, ⟨48, _⟩ => ⟨S32x16x256, .f32⟩
  | .hbm, ⟨49, _⟩ => ⟨S32x16x256x1, .f32⟩
  | .hbm, ⟨50, _⟩ => ⟨S32x16x256x256, .f32⟩
  | .hbm, ⟨51, _⟩ => ⟨S32x16x256x256, .f32⟩
  | .hbm, ⟨52, _⟩ => ⟨S32x16x64x256, .f32⟩
  | .hbm, ⟨53, _⟩ => ⟨S32x256x16x64, .f32⟩
  | .hbm, ⟨54, _⟩ => ⟨S32x2304x16x64, .f32⟩
  | .hbm, ⟨55, _⟩ => ⟨S32x2304x1024, .f32⟩
  | .hbm, ⟨56, _⟩ => ⟨S32x2304x1024, .bf16⟩
  | _, _ => ⟨S32x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel2.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x2816 : Shape := ⟨2, ![1024, 2816]⟩
abbrev S2816x1024 : Shape := ⟨2, ![2816, 1024]⟩
abbrev S1x768x1024 : Shape := ⟨3, ![1, 768, 1024]⟩
abbrev S1x9x1024 : Shape := ⟨3, ![1, 9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x768 : Shape := ⟨2, ![1024, 768]⟩
abbrev S256x768 : Shape := ⟨2, ![256, 768]⟩
abbrev S1024x512 : Shape := ⟨2, ![1024, 512]⟩
abbrev S256x512 : Shape := ⟨2, ![256, 512]⟩
abbrev S768x1024 : Shape := ⟨2, ![768, 1024]⟩
abbrev S512x1024 : Shape := ⟨2, ![512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024, .f32⟩
  | .hbm, ⟨2, _⟩ => ⟨S9x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S32x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x9x1024, .f32⟩
  | .local _ .vmem, ⟨3, _⟩ => ⟨S1x9x1024, .f32⟩
  | .local _ .vmem, ⟨4, _⟩ => ⟨S9x1024, .f32⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x768x1024, .f32⟩
  | .local _ .vmem, ⟨11, _⟩ => ⟨S1x768x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![32, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S32x2048x1024 : Shape := ⟨3, ![32, 2048, 1024]⟩
abbrev S32x1x1024 : Shape := ⟨3, ![32, 1, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S32x256x1024 : Shape := ⟨3, ![32, 256, 1024]⟩
abbrev S32x256 : Shape := ⟨2, ![32, 256]⟩
abbrev S32x256x1 : Shape := ⟨3, ![32, 256, 1]⟩
abbrev S32x256x2816 : Shape := ⟨3, ![32, 256, 2816]⟩

abbrev nBuf : Space → Nat
  | .hbm => 150
  | .vmem => 0
  | .smem => 0
  | _ => 0

abbrev hbmTy0_0 (i : Nat) : BufTy := match i % 128 with
  | 0 => ⟨S32x2304x1024, .f32⟩
  | 1 => ⟨S32x9x1024, .f32⟩
  | 2 => ⟨S9x1024, .f32⟩
  | 3 => ⟨S1x1024, .f32⟩
  | 4 => ⟨S1x1024, .f32⟩
  | 5 => ⟨S1024x2816, .bf16⟩
  | 6 => ⟨S1024x2816, .bf16⟩
  | 7 => ⟨S2816x1024, .bf16⟩
  | 8 => ⟨S1024, .f32⟩
  | 9 => ⟨S1024, .f32⟩
  | 10 => ⟨S1024x2816, .f32⟩
  | 11 => ⟨S1024x2816, .f32⟩
  | 12 => ⟨S2816x1024, .f32⟩
  | 13 => ⟨S32x2048x1024, .f32⟩
  | 14 => ⟨S32x1x1024, .f32⟩
  | 15 => ⟨S32x1024, .f32⟩
  | 16 => ⟨S32x1x1024, .f32⟩
  | 17 => ⟨S32x1x1024, .f32⟩
  | 18 => ⟨S32x1024, .f32⟩
  | 19 => ⟨S32x1x1024, .f32⟩
  | 20 => ⟨S32x1x1024, .f32⟩
  | 21 => ⟨S32x1024, .f32⟩
  | 22 => ⟨S32x1x1024, .f32⟩
  | 23 => ⟨S32x2048x1024, .f32⟩
  | 24 => ⟨S_, .f32⟩
  | 25 => ⟨S32x2048, .f32⟩
  | 26 => ⟨S32x2048x1, .f32⟩
  | 27 => ⟨S_, .f32⟩
  | 28 => ⟨S32x2048x1, .f32⟩
  | 29 => ⟨S32x2048x1, .f32⟩
  | 30 => ⟨S_, .f32⟩
  | 31 => ⟨S32x2048x1, .f32⟩
  | 32 => ⟨S32x2048x1, .f32⟩
  | 33 => ⟨S32x2048x1, .f32⟩
  | 34 => ⟨S32x2048x1024, .f32⟩
  | 35 => ⟨S32x2048x1024, .f32⟩
  | 36 => ⟨S1x1x1024, .f32⟩
  | 37 => ⟨S32x2048x1024, .f32⟩
  | 38 => ⟨S32x2048x1024, .f32⟩
  | 39 => ⟨S_, .f32⟩
  | 40 => ⟨S32x1x1024, .f32⟩
  | 41 => ⟨S32x1x1024, .f32⟩
  | 42 => ⟨S32x2048x1024, .f32⟩
  | 43 => ⟨S32x2048x1024, .f32⟩
  | 44 => ⟨S32x2048x1024, .f32⟩
  | 45 => ⟨S32x2048x1024, .f32⟩
  | 46 => ⟨S_, .f32⟩
  | 47 => ⟨S32x1x1024, .f32⟩
  | 48 => ⟨S32x1x1024, .f32⟩
  | 49 => ⟨S32x2048x2816, .f32⟩
  | 50 => ⟨S32x2048x2816, .f32⟩
  | 51 => ⟨S32x2048x2816, .f32⟩
  | 52 => ⟨S_, .f32⟩
  | 53 => ⟨S32x2048x2816, .f32⟩
  | 54 => ⟨S32x2048x2816, .f32⟩
  | 55 => ⟨S_, .f32⟩
  | 56 => ⟨S32x2048x2816, .f32⟩
  | 57 => ⟨S32x2048x2816, .f32⟩
  | 58 => ⟨S32x2048x2816, .f32⟩
  | 59 => ⟨S32x2048x2816, .f32⟩
  | 60 => ⟨S32x2048x2816, .f32⟩
  | 61 => ⟨S32x2048x1024, .f32⟩
  | 62 => ⟨S32x2048x1024, .f32⟩
  | 63 => ⟨S_, .f32⟩
  | 64 => ⟨S32x2048, .f32⟩
  | 65 => ⟨S32x2048x1, .f32⟩
  | 66 => ⟨S_, .f32⟩
  | 67 => ⟨S32x2048x1, .f32⟩
  | 68 => ⟨S32x2048x1, .f32⟩
  | 69 => ⟨S_, .f32⟩
  | 70 => ⟨S32x2048x1, .f32⟩
  | 71 => ⟨S32x2048x1, .f32⟩
  | 72 => ⟨S32x2048x1, .f32⟩
  | 73 => ⟨S32x2048x1024, .f32⟩
  | 74 => ⟨S32x2048x1024, .f32⟩
  | 75 => ⟨S1x1x1024, .f32⟩
  | 76 => ⟨S32x2048x1024, .f32⟩
  | 77 => ⟨S32x2048x1024, .f32⟩
  | 78 => ⟨S32x2048x1024, .f32⟩
  | 79 => ⟨S32x2048x1024, .f32⟩
  | 80 => ⟨S32x2048x1024, .f32⟩
  | 81 => ⟨S32x256x1024, .f32⟩
  | 82 => ⟨S1x1024, .f32⟩
  | 83 => ⟨S1024, .f32⟩
  | 84 => ⟨S1x1024, .f32⟩
  | 85 => ⟨S1024, .f32⟩
  | 86 => ⟨S1x1024, .f32⟩
  | 87 => ⟨S1024, .f32⟩
  | 88 => ⟨S32x256x1024, .f32⟩
  | 89 => ⟨S_, .f32⟩
  | 90 => ⟨S32x256, .f32⟩
  | 91 => ⟨S32x256x1, .f32⟩
  | 92 => ⟨S_, .f32⟩
  | 93 => ⟨S32x256x1, .f32⟩
  | 94 => ⟨S32x256x1, .f32⟩
  | 95 => ⟨S_, .f32⟩
  | 96 => ⟨S32x256x1, .f32⟩
  | 97 => ⟨S32x256x1, .f32⟩
  | 98 => ⟨S32x256x1, .f32⟩
  | 99 => ⟨S32x256x1024, .f32⟩
  | 100 => ⟨S32x256x1024, .f32⟩
  | 101 => ⟨S1x1x1024, .f32⟩
  | 102 => ⟨S32x256x1024, .f32⟩
  | 103 => ⟨S32x256x1024, .f32⟩
  | 104 => ⟨S_, .f32⟩
  | 105 => ⟨S1024, .f32⟩
  | 106 => ⟨S1024, .f32⟩
  | 107 => ⟨S1x1x1024, .f32⟩
  | 108 => ⟨S32x256x1024, .f32⟩
  | 109 => ⟨S32x256x1024, .f32⟩
  | 110 => ⟨S1x1x1024, .f32⟩
  | 111 => ⟨S32x256x1024, .f32⟩
  | 112 => ⟨S32x256x1024, .f32⟩
  | 113 => ⟨S_, .f32⟩
  | 114 => ⟨S1024, .f32⟩
  | 115 => ⟨S1024, .f32⟩
  | 116 => ⟨S32x256x2816, .f32⟩
  | 117 => ⟨S32x256x2816, .f32⟩
  | 118 => ⟨S32x256x2816, .f32⟩
  | 119 => ⟨S_, .f32⟩
  | 120 => ⟨S32x256x2816, .f32⟩
  | 121 => ⟨S32x256x2816, .f32⟩
  | 122 => ⟨S_, .f32⟩
  | 123 => ⟨S32x256x2816, .f32⟩
  | 124 => ⟨S32x256x2816, .f32⟩
  | 125 => ⟨S32x256x2816, .f32⟩
  | 126 => ⟨S32x256x2816, .f32⟩
  | 127 => ⟨S32x256x2816, .f32⟩
  | _ => ⟨S32x2304x1024, .f32⟩

abbrev hbmTy0_1 (i : Nat) : BufTy := match i % 128 with
  | 0 => ⟨S32x256x1024, .f32⟩
  | 1 => ⟨S32x256x1024, .f32⟩
  | 2 => ⟨S_, .f32⟩
  | 3 => ⟨S32x256, .f32⟩
  | 4 => ⟨S32x256x1, .f32⟩
  | 5 => ⟨S_, .f32⟩
  | 6 => ⟨S32x256x1, .f32⟩
  | 7 => ⟨S32x256x1, .f32⟩
  | 8 => ⟨S_, .f32⟩
  | 9 => ⟨S32x256x1, .f32⟩
  | 10 => ⟨S32x256x1, .f32⟩
  | 11 => ⟨S32x256x1, .f32⟩
  | 12 => ⟨S32x256x1024, .f32⟩
  | 13 => ⟨S32x256x1024, .f32⟩
  | 14 => ⟨S1x1x1024, .f32⟩
  | 15 => ⟨S32x256x1024, .f32⟩
  | 16 => ⟨S32x256x1024, .f32⟩
  | 17 => ⟨S1x1x1024, .f32⟩
  | 18 => ⟨S32x256x1024, .f32⟩
  | 19 => ⟨S32x256x1024, .f32⟩
  | 20 => ⟨S32x256x1024, .f32⟩
  | 21 => ⟨S32x2304x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_7 : Ref sig .tc := ⟨.hbm, 89, rfl⟩
abbrev main_v65 : Ref sig .tc := ⟨.hbm, 90, rfl⟩
abbrev main_v66 : Ref sig .tc := ⟨.hbm, 91, rfl⟩
abbrev main_cst_8 : Ref sig .tc := ⟨.hbm, 92, rfl⟩
abbrev main_v67 : Ref sig .tc := ⟨.hbm, 93, rfl⟩
abbrev main_v68 : Ref sig .tc := ⟨.hbm, 94, rfl⟩
abbrev main_cst_9 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_12 : Ref sig .tc := ⟨.hbm, 130, rfl⟩
abbrev main_v93 : Ref sig .tc := ⟨.hbm, 131, rfl⟩
abbrev main_v94 : Ref sig .tc := ⟨.hbm, 132, rfl⟩
abbrev main_cst_13 : Ref sig .tc := ⟨.hbm, 133, rfl⟩
abbrev main_v95 : Ref sig .tc := ⟨.hbm, 134, rfl⟩
abbrev main_v96 : Ref sig .tc := ⟨.hbm, 135, rfl⟩
abbrev main_cst_14 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩

abbrev nD : Nat := 1
abbrev τ : Topo := Topo.v7x

variable {F : FTy → Type} [FloatOps F]
-- ==== Kernel3.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x2816 : Shape := ⟨2, ![1024, 2816]⟩
abbrev S2816x1024 : Shape := ⟨2, ![2816, 1024]⟩
abbrev S32x2048x1024 : Shape := ⟨3, ![32, 2048, 1024]⟩
abbrev S1x1024x1024 : Shape := ⟨3, ![1, 1024, 1024]⟩
abbrev S1x9x1024 : Shape := ⟨3, ![1, 9, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x768 : Shape := ⟨2, ![1024, 768]⟩
abbrev S256x768 : Shape := ⟨2, ![256, 768]⟩
abbrev S1024x512 : Shape := ⟨2, ![1024, 512]⟩
abbrev S256x512 : Shape := ⟨2, ![256, 512]⟩
abbrev S768x1024 : Shape := ⟨2, ![768, 1024]⟩
abbrev S512x1024 : Shape := ⟨2, ![512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024, .f32⟩
  | .hbm, ⟨2, _⟩ => ⟨S9x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S9x1024, .f32⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024x1024, .f32⟩
  | .local _ .vmem, ⟨11, _⟩ => ⟨S1x1024x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S32x2048x1024 : Shape := ⟨3, ![32, 2048, 1024]⟩
abbrev S32x1x1024 : Shape := ⟨3, ![32, 1, 1024]⟩
abbrev S32x1024 : Shape := ⟨2, ![32, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 81
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024, .f32⟩
  | .hbm, ⟨2, _⟩ => ⟨S9x1024, .f32⟩
  | .hbm, ⟨3, _⟩ => ⟨S1x1024, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S32x2048x1024, .f32⟩
  | .hbm, ⟨14, _⟩ => ⟨S32x1x1024, .f32⟩
  | .hbm, ⟨15, _⟩ => ⟨S32x1024, .f32⟩
  | .hbm, ⟨16, _⟩ => ⟨S32x1x1024, .f32⟩
  | .hbm, ⟨17, _⟩ => ⟨S32x1x1024, .f32⟩
  | .hbm, ⟨18, _⟩ => ⟨S32x1024, .f32⟩
  | .hbm, ⟨19, _⟩ => ⟨S32x1x1024, .f32⟩
  | .hbm, ⟨20, _⟩ => ⟨S32x1x1024, .f32⟩
  | .hbm, ⟨21, _⟩ => ⟨S32x1024, .f32⟩
  | .hbm, ⟨22, _⟩ => ⟨S32x1x1024, .f32⟩
  | .hbm, ⟨23, _⟩ => ⟨S32x2048x1024, .f32⟩
  | .hbm, ⟨24, _⟩ => ⟨S_, .f32⟩
  | .hbm, ⟨25, _⟩ => ⟨S32x2048, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S32x2048x1, .f32⟩
  | .hbm, ⟨34, _⟩ => ⟨S32x2048x1024, .f32⟩
  | .hbm, ⟨35, _⟩ => ⟨S32x2048x1024, .f32⟩
  | .hbm, ⟨36, _⟩ => ⟨S1x1x1024, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x1x1024, .f32⟩
  | .hbm, ⟨41, _⟩ => ⟨S32x1x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x1x1024, .f32⟩
  | .hbm, ⟨48, _⟩ => ⟨S32x1x1024, .f32⟩
  | .hbm, ⟨49, _⟩ => ⟨S32x2048x2816, .f32⟩
  | .hbm, ⟨50, _⟩ => ⟨S32x2048x2816, .f32⟩
  | .hbm, ⟨51, _⟩ => ⟨S32x2048x2816, .f32⟩
  | .hbm, ⟨52, _⟩ => ⟨S_, .f32⟩
  | .hbm, ⟨53, _⟩ => ⟨S32x2048x2816, .f32⟩
  | .hbm, ⟨54, _⟩ => ⟨S32x2048x2816, .f32⟩
  | .hbm, ⟨55, _⟩ => ⟨S_, .f32⟩
  | .hbm, ⟨56, _⟩ => ⟨S32x2048x2816, .f32⟩
  | .hbm, ⟨57, _⟩ => ⟨S32x2048x2816, .f32⟩
  | .hbm, ⟨58, _⟩ => ⟨S32x2048x2816, .f32⟩
  | .hbm, ⟨59, _⟩ => ⟨S32x2048x2816, .f32⟩
  | .hbm, ⟨60, _⟩ => ⟨S32x2048x2816, .f32⟩
  | .hbm, ⟨61, _⟩ => ⟨S32x2048x1024, .f32⟩
  | .hbm, ⟨62, _⟩ => ⟨S32x2048x1024, .f32⟩
  | .hbm, ⟨63, _⟩ => ⟨S_, .f32⟩
  | .hbm, ⟨64, _⟩ => ⟨S32x2048, .f32⟩
  | .hbm, ⟨65, _⟩ => ⟨S32x2048x1, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S_, .f32⟩
  | .hbm, ⟨70, _⟩ => ⟨S32x2048x1, .f32⟩
  | .hbm, ⟨71, _⟩ => ⟨S32x2048x1, .f32⟩
  | .hbm, ⟨72, _⟩ => ⟨S32x2048x1, .f32⟩
  | .hbm, ⟨73, _⟩ => ⟨S32x2048x1024, .f32⟩
  | .hbm, ⟨74, _⟩ => ⟨S32x2048x1024, .f32⟩
  | .hbm, ⟨75, _⟩ => ⟨S1x1x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Kernel4.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x4096 : Shape := ⟨2, ![1024, 4096]⟩
abbrev S1024x1024 : Shape := ⟨2, ![1024, 1024]⟩
abbrev S1x256x1024 : Shape := ⟨3, ![1, 256, 1024]⟩
abbrev S1x9x1024 : Shape := ⟨3, ![1, 9, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 15
  | .vmem => 21
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024, .f32⟩
  | .hbm, ⟨2, _⟩ => ⟨S9x1024, .f32⟩
  | .hbm, ⟨3, _⟩ => ⟨S1x1024, .f32⟩
  | .hbm, ⟨4, _⟩ => ⟨S1x1024, .f32⟩
  | .hbm, ⟨5, _⟩ => ⟨S32x2304x1024, .bf16⟩
  | .hbm, ⟨6, _⟩ => ⟨S32x2304x1024, .bf16⟩
  | .hbm, ⟨7, _⟩ => ⟨S32x2304x1024, .f32⟩
  | .hbm, ⟨8, _⟩ => ⟨S1024x4096, .bf16⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S9x1024, .f32⟩
  | .local _ .vmem, ⟨5, _⟩ => ⟨S1x1024, .f32⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .f32⟩
  | .local _ .vmem, ⟨12, _⟩ => ⟨S1x256x1024, .f32⟩
  | .local _ .vmem, ⟨13, _⟩ => ⟨S1024x4096, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x256x1024, .f32⟩
  | .local _ .vmem, ⟨20, _⟩ => ⟨S1x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩
abbrev S32x2304 : Shape := ⟨2, ![32, 2304]⟩
abbrev S32x2304x1 : Shape := ⟨3, ![32, 2304, 1]⟩
abbrev S1x1x1024 : Shape := ⟨3, ![1, 1, 1024]⟩
abbrev S32x1x1024 : Shape := ⟨3, ![32, 1, 1024]⟩
abbrev S32x1024 : Shape := ⟨2, ![32, 1024]⟩
abbrev S32x2048x1024 : Shape := ⟨3, ![32, 2048, 1024]⟩
abbrev S32x256x1024 : Shape := ⟨3, ![32, 256, 1024]⟩
abbrev S32x2304x4096 : Shape := ⟨3, ![32, 2304, 4096]⟩
abbrev S32x2304x3072 : Shape := ⟨3, ![32, 2304, 3072]⟩
abbrev S32x2304x3x1024 : Shape := ⟨4, ![32, 2304, 3, 1024]⟩
abbrev S32x2304x1x1024 : Shape := ⟨4, ![32, 2304, 1, 1024]⟩

abbrev nBuf : Space → Nat
  | .hbm => 140
  | .vmem => 0
  | .smem => 0
  | _ => 0

abbrev hbmTy0_0 (i : Nat) : BufTy := match i % 128 with
  | 0 => ⟨S32x2304x1024, .f32⟩
  | 1 => ⟨S32x9x1024, .f32⟩
  | 2 => ⟨S9x1024, .f32⟩
  | 3 => ⟨S1x1024, .f32⟩
  | 4 => ⟨S1x1024, .f32⟩
  | 5 => ⟨S32x2304x1024, .bf16⟩
  | 6 => ⟨S32x2304x1024, .bf16⟩
  | 7 => ⟨S32x2304x1024, .f32⟩
  | 8 => ⟨S1024x4096, .bf16⟩
  | 9 => ⟨S1x1024, .f32⟩
  | 10 => ⟨S1024x1024, .bf16⟩
  | 11 => ⟨S1024x1024, .bf16⟩
  | 12 => ⟨S1024x1024, .bf16⟩
  | 13 => ⟨S1024x1024, .bf16⟩
  | 14 => ⟨S1024, .f32⟩
  | 15 => ⟨S32x2304x1024, .f32⟩
  | 16 => ⟨S_, .f32⟩
  | 17 => ⟨S32x2304, .f32⟩
  | 18 => ⟨S32x2304x1, .f32⟩
  | 19 => ⟨S_, .f32⟩
  | 20 => ⟨S32x2304x1, .f32⟩
  | 21 => ⟨S32x2304x1, .f32⟩
  | 22 => ⟨S_, .f32⟩
  | 23 => ⟨S32x2304x1, .f32⟩
  | 24 => ⟨S32x2304x1, .f32⟩
  | 25 => ⟨S32x2304x1, .f32⟩
  | 26 => ⟨S32x2304x1024, .f32⟩
  | 27 => ⟨S32x2304x1024, .f32⟩
  | 28 => ⟨S1x1x1024, .f32⟩
  | 29 => ⟨S32x2304x1024, .f32⟩
  | 30 => ⟨S32x2304x1024, .f32⟩
  | 31 => ⟨S32x1x1024, .f32⟩
  | 32 => ⟨S32x1024, .f32⟩
  | 33 => ⟨S32x1x1024, .f32⟩
  | 34 => ⟨S32x2048x1024, .f32⟩
  | 35 => ⟨S1x1024, .f32⟩
  | 36 => ⟨S1024, .f32⟩
  | 37 => ⟨S32x256x1024, .f32⟩
  | 38 => ⟨S32x2304x1024, .f32⟩
  | 39 => ⟨S_, .f32⟩
  | 40 => ⟨S32x2304x1024, .f32⟩
  | 41 => ⟨S32x2304x1024, .f32⟩
  | 42 => ⟨S32x2304x1024, .f32⟩
  | 43 => ⟨S32x1x1024, .f32⟩
  | 44 => ⟨S32x1024, .f32⟩
  | 45 => ⟨S32x1x1024, .f32⟩
  | 46 => ⟨S32x2048x1024, .f32⟩
  | 47 => ⟨S1x1024, .f32⟩
  | 48 => ⟨S1024, .f32⟩
  | 49 => ⟨S32x256x1024, .f32⟩
  | 50 => ⟨S32x2304x1024, .f32⟩
  | 51 => ⟨S32x2304x1024, .f32⟩
  | 52 => ⟨S1024x4096, .f32⟩
  | 53 => ⟨S32x2304x4096, .f32⟩
  | 54 => ⟨S32x2304x1024, .f32⟩
  | 55 => ⟨S32x2304x3072, .f32⟩
  | 56 => ⟨S32x2304x1024, .f32⟩
  | 57 => ⟨S32x2304x1024, .f32⟩
  | 58 => ⟨S_, .f32⟩
  | 59 => ⟨S32x2304x1024, .f32⟩
  | 60 => ⟨S32x2304x1024, .f32⟩
  | 61 => ⟨S_, .f32⟩
  | 62 => ⟨S32x2304x1024, .f32⟩
  | 63 => ⟨S32x2304x1024, .f32⟩
  | 64 => ⟨S32x2304x1024, .f32⟩
  | 65 => ⟨S32x2304x1024, .f32⟩
  | 66 => ⟨S1024, .f32⟩
  | 67 => ⟨S32x2304x1024, .f32⟩
  | 68 => ⟨S_, .f32⟩
  | 69 => ⟨S32x2304, .f32⟩
  | 70 => ⟨S32x2304x1, .f32⟩
  | 71 => ⟨S_, .f32⟩
  | 72 => ⟨S32x2304x1, .f32⟩
  | 73 => ⟨S32x2304x1, .f32⟩
  | 74 => ⟨S_, .f32⟩
  | 75 => ⟨S32x2304x1, .f32⟩
  | 76 => ⟨S32x2304x1, .f32⟩
  | 77 => ⟨S32x2304x1, .f32⟩
  | 78 => ⟨S32x2304x1024, .f32⟩
  | 79 => ⟨S32x2304x1024, .f32⟩
  | 80 => ⟨S1x1x1024, .f32⟩
  | 81 => ⟨S32x2304x1024, .f32⟩
  | 82 => ⟨S32x2304x1024, .f32⟩
  | 83 => ⟨S32x2304x3072, .f32⟩
  | 84 => ⟨S32x2304x3072, .f32⟩
  | 85 => ⟨S_, .f32⟩
  | 86 => ⟨S32x2304x3072, .f32⟩
  | 87 => ⟨S32x2304x3072, .f32⟩
  | 88 => ⟨S_, .f32⟩
  | 89 => ⟨S32x2304x3072, .f32⟩
  | 90 => ⟨S32x2304x3072, .f32⟩
  | 91 => ⟨S32x2304x3x1024, .f32⟩
  | 92 => ⟨S32x2304x1x1024, .f32⟩
  | 93 => ⟨S32x2304x1024, .f32⟩
  | 94 => ⟨S32x2304x1024, .f32⟩
  | 95 => ⟨S1024x1024, .f32⟩
  | 96 => ⟨S32x2304x1024, .f32⟩
  | 97 => ⟨S32x2304x1024, .f32⟩
  | 98 => ⟨S32x2304x1x1024, .f32⟩
  | 99 => ⟨S32x2304x1024, .f32⟩
  | 100 => ⟨S32x2304x1024, .f32⟩
  | 101 => ⟨S1024x1024, .f32⟩
  | 102 => ⟨S32x2304x1024, .f32⟩
  | 103 => ⟨S32x2304x1024, .f32⟩
  | 104 => ⟨S32x2304x1024, .f32⟩
  | 105 => ⟨S32x2304x1x1024, .f32⟩
  | 106 => ⟨S32x2304x1024, .f32⟩
  | 107 => ⟨S1024x1024, .f32⟩
  | 108 => ⟨S32x2304x1024, .f32⟩
  | 109 => ⟨S32x2304x1024, .f32⟩
  | 110 => ⟨S32x2304x1024, .f32⟩
  | 111 => ⟨S32x1x1024, .f32⟩
  | 112 => ⟨S32x1024, .f32⟩
  | 113 => ⟨S32x1x1024, .f32⟩
  | 114 => ⟨S32x2048x1024, .f32⟩
  | 115 => ⟨S1x1024, .f32⟩
  | 116 => ⟨S1024, .f32⟩
  | 117 => ⟨S32x256x1024, .f32⟩
  | 118 => ⟨S32x2304x1024, .f32⟩
  | 119 => ⟨S1024x1024, .f32⟩
  | 120 => ⟨S32x2304x1024, .f32⟩
  | 121 => ⟨S1024, .f32⟩
  | 122 => ⟨S32x2304x1024, .f32⟩
  | 123 => ⟨S_, .f32⟩
  | 124 => ⟨S32x2304, .f32⟩
  | 125 => ⟨S32x2304x1, .f32⟩
  | 126 => ⟨S_, .f32⟩
  | 127 => ⟨S32x2304x1, .f32⟩
  | _ => ⟨S32x2304x1024, .f32⟩

abbrev hbmTy0_1 (i : Nat) : BufTy := match i % 128 with
  | 0 => ⟨S32x2304x1, .f32⟩
  | 1 => ⟨S_, .f32⟩
  | 2 => ⟨S32x2304x1, .f32⟩
  | 3 => ⟨S32x2304x1, .f32⟩
  | 4 => ⟨S32x2304x1, .f32⟩
  | 5 => ⟨S32x2304x1024, .f32⟩
  | 6 => ⟨S32x2304x1024, .f32⟩
  | 7 => ⟨S1x1x1024, .f32⟩
  | 8 => ⟨S32x2304x1024, .f32⟩
  | 9 => ⟨S32x2304x1024, .f32⟩
  | 10 => ⟨S32x2304x1024, .f32⟩
  | 11 => ⟨S32x2304x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_8 : Ref sig .tc := ⟨.hbm, 123, rfl⟩
abbrev main_v92 : Ref sig .tc := ⟨.hbm, 124, rfl⟩
abbrev main_v93 : Ref sig .tc := ⟨.hbm, 125, rfl⟩
abbrev main_cst_9 : Ref sig .tc := ⟨.hbm, 126, rfl⟩
abbrev main_v94 : Ref sig .tc := ⟨.hbm, 127, rfl⟩
abbrev main_v95 : Ref sig .tc := ⟨.hbm, 128, rfl⟩
abbrev main_cst_10 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩

abbrev nD : Nat := 1
abbrev τ : Topo := Topo.v7x

variable {F : FTy → Type} [FloatOps F]
-- ==== Kernel5.lean ====
abbrev S32x2304x1024 : Shape := ⟨3, ![32, 2304, 1024]⟩
abbrev S32x4x2304x128 : Shape := ⟨4, ![32, 4, 2304, 128]⟩
abbrev S32x256x2304 : Shape := ⟨3, ![32, 256, 2304]⟩
abbrev S1x256x1024 : Shape := ⟨3, ![1, 256, 1024]⟩
abbrev S1x4x2304x128 : Shape := ⟨4, ![1, 4, 2304, 128]⟩
abbrev S1x256x2304 : Shape := ⟨3, ![1, 256, 2304]⟩
abbrev S1x256x128 : Shape := ⟨3, ![1, 256, 128]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S1x256 : Shape := ⟨2, ![1, 256]⟩
abbrev S1x64x256 : Shape := ⟨3, ![1, 64, 256]⟩
abbrev S64x256 : Shape := ⟨2, ![64, 256]⟩
abbrev S16x256 : Shape := ⟨2, ![16, 256]⟩
abbrev S80x256 : Shape := ⟨2, ![80, 256]⟩
abbrev S128x256 : Shape := ⟨2, ![128, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x2304x1024, .bf16⟩
  | .hbm, ⟨1, _⟩ => ⟨S32x4x2304x128, .bf16⟩
  | .hbm, ⟨2, _⟩ => ⟨S32x256x2304, .bf16⟩
  | .hbm, ⟨3, _⟩ => ⟨S32x2304x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4x2304x128, .bf16⟩
  | .local _ .vmem, ⟨3, _⟩ => ⟨S1x4x2304x128, .bf16⟩
  | .local _ .vmem, ⟨4, _⟩ => ⟨S1x256x2304, .bf16⟩
  | .local _ .vmem, ⟨5, _⟩ => ⟨S1x256x2304, .bf16⟩
  | .local _ .vmem, ⟨6, _⟩ => ⟨S1x256x1024, .bf16⟩
  | .local _ .vmem, ⟨7, _⟩ => ⟨S1x256x1024, .bf16⟩
  | _, _ => ⟨S32x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 9], ![false, false, false]⟩

def k0_cond1 (i : grid0.Coords) : BitVec 1 :=
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c1_i32_0 : BitVec 32 := 1#32
  let v3 : BitVec 1 := Scalar.cmpi .slt arg2 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg2 c8_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S32x2304x1024 : Shape := ⟨3, ![32, 2304, 1024]⟩
abbrev S32x4x2304x128 : Shape := ⟨4, ![32, 4, 2304, 128]⟩
abbrev S32x256x2304 : Shape := ⟨3, ![32, 256, 2304]⟩
abbrev S32x2304x16x64 : Shape := ⟨4, ![32, 2304, 16, 64]⟩
abbrev S32x4x2304x2x64 : Shape := ⟨5, ![32, 4, 2304, 2, 64]⟩
abbrev S32x4x2x2304x64 : Shape := ⟨5, ![32, 4, 2, 2304, 64]⟩
abbrev S32x4x1x2x2304x64 : Shape := ⟨6, ![32, 4, 1, 2, 2304, 64]⟩
abbrev S32x4x2x2x2304x64 : Shape := ⟨6, ![32, 4, 2, 2, 2304, 64]⟩
abbrev S32x16x2304x64 : Shape := ⟨4, ![32, 16, 2304, 64]⟩
abbrev S32x4x1x64x2304 : Shape := ⟨5, ![32, 4, 1, 64, 2304]⟩
abbrev S32x4x4x64x2304 : Shape := ⟨5, ![32, 4, 4, 64, 2304]⟩
abbrev S32x16x64x2304 : Shape := ⟨4, ![32, 16, 64, 2304]⟩
abbrev S32x2048x16x64 : Shape := ⟨4, ![32, 2048, 16, 64]⟩
abbrev S32x16x2048x2304 : Shape := ⟨4, ![32, 16, 2048, 2304]⟩
abbrev S_ : Shape := ⟨0, ![]⟩
abbrev S32x16x2048 : Shape := ⟨3, ![32, 16, 2048]⟩
abbrev S32x16x2048x1 : Shape := ⟨4, ![32, 16, 2048, 1]⟩
abbrev S32x16x64x2048 : Shape := ⟨4, ![32, 16, 64, 2048]⟩
abbrev S32x256x16x64 : Shape := ⟨4, ![32, 256, 16, 64]⟩
abbrev S32x16x256x64 : Shape := ⟨4, ![32, 16, 256, 64]⟩
abbrev S32x16x64x256 : Shape := ⟨4, ![32, 16, 64, 256]⟩
abbrev S32x16x256x256 : Shape := ⟨4, ![32, 16, 256, 256]⟩
abbrev S32x16x256 : Shape := ⟨3, ![32, 16, 256]⟩
abbrev S32x16x256x1 : Shape := ⟨4, ![32, 16, 256, 1]⟩

abbrev nBuf : Space → Nat
  | .hbm => 64
  | .vmem => 0
  | .smem => 0
  | _ => 0

abbrev bufTy : (tb : Table) → Fin (tcTables nBuf tb) → BufTy
  | .hbm, ⟨0, _⟩ => ⟨S32x2304x1024, .bf16⟩
  | .hbm, ⟨1, _⟩ => ⟨S32x4x2304x128, .bf16⟩
  | .hbm, ⟨2, _⟩ => ⟨S32x256x2304, .bf16⟩
  | .hbm, ⟨3, _⟩ => ⟨S32x2304x1024, .f32⟩
  | .hbm, ⟨4, _⟩ => ⟨S32x2304x16x64, .f32⟩
  | .hbm, ⟨5, _⟩ => ⟨S32x4x2304x128, .f32⟩
  | .hbm, ⟨6, _⟩ => ⟨S32x4x2304x2x64, .f32⟩
  | .hbm, ⟨7, _⟩ => ⟨S32x4x2x2304x64, .f32⟩
  | .hbm, ⟨8, _⟩ => ⟨S32x4x1x2x2304x64, .f32⟩
  | .hbm, ⟨9, _⟩ => ⟨S32x4x2x2x2304x64, .f32⟩
  | .hbm, ⟨10, _⟩ => ⟨S32x16x2304x64, .f32⟩
  | .hbm, ⟨11, _⟩ => ⟨S32x256x2304, .f32⟩
  | .hbm, ⟨12, _⟩ => ⟨S32x4x1x64x2304, .f32⟩
  | .hbm, ⟨13, _⟩ => ⟨S32x4x4x64x2304, .f32⟩
  | .hbm, ⟨14, _⟩ => ⟨S32x16x64x2304, .f32⟩
  | .hbm, ⟨15, _⟩ => ⟨S32x2048x16x64, .f32⟩
  | .hbm, ⟨16, _⟩ => ⟨S32x16x2048x2304, .f32⟩
  | .hbm, ⟨17, _⟩ => ⟨S_, .f32⟩
  | .hbm, ⟨18, _⟩ => ⟨S_, .f32⟩
  | .hbm, ⟨19, _⟩ => ⟨S32x16x2048x2304, .f32⟩
  | .hbm, ⟨20, _⟩ => ⟨S32x16x2048x2304, .f32⟩
  | .hbm, ⟨21, _⟩ => ⟨S_, .f32⟩
  | .hbm, ⟨22, _⟩ => ⟨S32x16x2048, .f32⟩
  | .hbm, ⟨23, _⟩ => ⟨S_, .f32⟩
  | .hbm, ⟨24, _⟩ => ⟨S32x16x2048, .f32⟩
  | .hbm, ⟨25, _⟩ => ⟨S32x16x2048, .f32⟩
  | .hbm, ⟨26, _⟩ => ⟨S32x16x2048x1, .f32⟩
  | .hbm, ⟨27, _⟩ => ⟨S32x16x2048x2304, .f32⟩
  | .hbm, ⟨28, _⟩ => ⟨S32x16x2048x2304, .f32⟩
  | .hbm, ⟨29, _⟩ => ⟨S32x16x2048x2304, .f32⟩
  | .hbm, ⟨30, _⟩ => ⟨S_, .f32⟩
  | .hbm, ⟨31, _⟩ => ⟨S32x16x2048, .f32⟩
  | .hbm, ⟨32, _⟩ => ⟨S32x16x2048x1, .f32⟩
  | .hbm, ⟨33, _⟩ => ⟨S32x16x2048x2304, .f32⟩
  | .hbm, ⟨34, _⟩ => ⟨S32x16x2048x2304, .f32⟩
  | .hbm, ⟨35, _⟩ => ⟨S32x16x64x2048, .f32⟩
  | .hbm, ⟨36, _⟩ => ⟨S32x2048x16x64, .f32⟩
  | .hbm, ⟨37, _⟩ => ⟨S32x256x16x64, .f32⟩
  | .hbm, ⟨38, _⟩ => ⟨S32x16x256x64, .f32⟩
  | .hbm, ⟨39, _⟩ => ⟨S32x16x64x256, .f32⟩
  | .hbm, ⟨40, _⟩ => ⟨S32x16x256x256, .f32⟩
  | .hbm, ⟨41, _⟩ => ⟨S_, .f32⟩
  | .hbm, ⟨42, _⟩ => ⟨S_, .f32⟩
  | .hbm, ⟨43, _⟩ => ⟨S32x16x256x256, .f32⟩
  | .hbm, ⟨44, _⟩ => ⟨S32x16x256x256, .f32⟩
  | .hbm, ⟨45, _⟩ => ⟨S_, .f32⟩
  | .hbm, ⟨46, _⟩ => ⟨S32x16x256, .f32⟩
  | .hbm, ⟨47, _⟩ => ⟨S_, .f32⟩
  | .hbm, ⟨48, _⟩ => ⟨S32x16x256, .f32⟩
  | .hbm, ⟨49, _⟩ => ⟨S32x16x256, .f32⟩
  | .hbm, ⟨50, _⟩ => ⟨S32x16x256x1, .f32⟩
  | .hbm, ⟨51, _⟩ => ⟨S32x16x256x256, .f32⟩
  | .hbm, ⟨52, _⟩ => ⟨S32x16x256x256, .f32⟩
  | .hbm, ⟨53, _⟩ => ⟨S32x16x256x256, .f32⟩
  | .hbm, ⟨54, _⟩ => ⟨S_, .f32⟩
  | .hbm, ⟨55, _⟩ => ⟨S32x16x256, .f32⟩
  | .hbm, ⟨56, _⟩ => ⟨S32x16x256x1, .f32⟩
  | .hbm, ⟨57, _⟩ => ⟨S32x16x256x256, .f32⟩
  | .hbm, ⟨58, _⟩ => ⟨S32x16x256x256, .f32⟩
  | .hbm, ⟨59, _⟩ => ⟨S32x16x64x256, .f32⟩
  | .hbm, ⟨60, _⟩ => ⟨S32x256x16x64, .f32⟩
  | .hbm, ⟨61, _⟩ => ⟨S32x2304x16x64, .f32⟩
  | .hbm, ⟨62, _⟩ => ⟨S32x2304x1024, .f32⟩
  | .hbm, ⟨63, _⟩ => ⟨S32x2304x1024, .bf16⟩
  | _, _ => ⟨S32x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Kernel6.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x4608 : Shape := ⟨2, ![1024, 4608]⟩
abbrev S256x1024 : Shape := ⟨2, ![256, 1024]⟩
abbrev S1x256 : Shape := ⟨2, ![1, 256]⟩
abbrev S256x2048 : Shape := ⟨2, ![256, 2048]⟩
abbrev S1024x256 : Shape := ⟨2, ![1024, 256]⟩
abbrev S1x512 : Shape := ⟨2, ![1, 512]⟩
abbrev S512x2048 : Shape := ⟨2, ![512, 2048]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S16 : Shape := ⟨1, ![16]⟩
abbrev S1x16 : Shape := ⟨2, ![1, 16]⟩
abbrev S32x16x2304x128 : Shape := ⟨4, ![32, 16, 2304, 128]⟩
abbrev S32x1024x2304 : Shape := ⟨3, ![32, 1024, 2304]⟩
abbrev S32x2304x2048 : Shape := ⟨3, ![32, 2304, 2048]⟩
abbrev S32x4x2304x128 : Shape := ⟨4, ![32, 4, 2304, 128]⟩
abbrev S32x256x2304 : Shape := ⟨3, ![32, 256, 2304]⟩
abbrev S32x2304x128 : Shape := ⟨3, ![32, 2304, 128]⟩
abbrev S1x256x1024 : Shape := ⟨3, ![1, 256, 1024]⟩
abbrev S1x9x1024 : Shape := ⟨3, ![1, 9, 1024]⟩
abbrev S1x16x256x128 : Shape := ⟨4, ![1, 16, 256, 128]⟩
abbrev S1x1024x256 : Shape := ⟨3, ![1, 1024, 256]⟩
abbrev S1x256x2048 : Shape := ⟨3, ![1, 256, 2048]⟩
abbrev S1x4x256x128 : Shape := ⟨4, ![1, 4, 256, 128]⟩
abbrev S1x256x256 : Shape := ⟨3, ![1, 256, 256]⟩
abbrev S1x256x128 : Shape := ⟨3, ![1, 256, 128]⟩
abbrev S256x1 : Shape := ⟨2, ![256, 1]⟩
abbrev S1x1x1024 : Shape := ⟨3, ![1, 1, 1024]⟩
abbrev S256 : Shape := ⟨1, ![256]⟩
abbrev S1024x512 : Shape := ⟨2, ![1024, 512]⟩
abbrev S256x512 : Shape := ⟨2, ![256, 512]⟩
abbrev S1024x1024 : Shape := ⟨2, ![1024, 1024]⟩
abbrev S256x256 : Shape := ⟨2, ![256, 256]⟩
abbrev S512x128 : Shape := ⟨2, ![512, 128]⟩
abbrev S256x128x1 : Shape := ⟨3, ![256, 128, 1]⟩
abbrev S1x1x256x128 : Shape := ⟨4, ![1, 1, 256, 128]⟩
abbrev S1024x2048 : Shape := ⟨2, ![1024, 2048]⟩

abbrev nBuf : Space → Nat
  | .hbm => 127
  | .vmem => 40
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024, .f32⟩
  | .hbm, ⟨2, _⟩ => ⟨S9x1024, .f32⟩
  | .hbm, ⟨3, _⟩ => ⟨S1x1024, .f32⟩
  | .hbm, ⟨4, _⟩ => ⟨S1024x4608, .bf16⟩
  | .hbm, ⟨5, _⟩ => ⟨S256x1024, .bf16⟩
  | .hbm, ⟨6, _⟩ => ⟨S1x256, .f32⟩
  | .hbm, ⟨7, _⟩ => ⟨S256x2048, .bf16⟩
  | .hbm, ⟨8, _⟩ => ⟨S1024x256, .bf16⟩
  | .hbm, ⟨9, _⟩ => ⟨S1x512, .f32⟩
  | .hbm, ⟨10, _⟩ => ⟨S512x2048, .bf16⟩
  | .hbm, ⟨11, _⟩ => ⟨S1x512, .f32⟩
  | .hbm, ⟨12, _⟩ => ⟨S1x1024, .f32⟩
  | .hbm, ⟨13, _⟩ => ⟨S1024, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S128, .i32⟩
  | .hbm, ⟨34, _⟩ => ⟨S1x128, .i32⟩
  | .hbm, ⟨35, _⟩ => ⟨S1024x128, .i32⟩
  | .hbm, ⟨36, _⟩ => ⟨S1024x128, .i32⟩
  | .hbm, ⟨37, _⟩ => ⟨S1024x128, .i1⟩
  | .hbm, ⟨38, _⟩ => ⟨S1024x128, .f32⟩
  | .hbm, ⟨39, _⟩ => ⟨S_, .f32⟩
  | .hbm, ⟨40, _⟩ => ⟨S1024x128, .f32⟩
  | .hbm, ⟨41, _⟩ => ⟨S1024x128, .f32⟩
  | .hbm, ⟨42, _⟩ => ⟨S1024x128, .bf16⟩
  | .hbm, ⟨43, _⟩ => ⟨S32, .f32⟩
  | .hbm, ⟨44, _⟩ => ⟨S32x64, .f32⟩
  | .hbm, ⟨45, _⟩ => ⟨S2048, .f32⟩
  | .hbm, ⟨46, _⟩ => ⟨S64, .f32⟩
  | .hbm, ⟨47, _⟩ => ⟨S1x64, .f32⟩
  | .hbm, ⟨48, _⟩ => ⟨S32x64, .f32⟩
  | .hbm, ⟨49, _⟩ => ⟨S2048, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S2048x1, .f32⟩
  | .hbm, ⟨59, _⟩ => ⟨S1x8, .f32⟩
  | .hbm, ⟨60, _⟩ => ⟨S2048x8, .f32⟩
  | .hbm, ⟨61, _⟩ => ⟨S2048x8, .f32⟩
  | .hbm, ⟨62, _⟩ => ⟨S2048x8, .f32⟩
  | .hbm, ⟨63, _⟩ => ⟨S2048x1, .f32⟩
  | .hbm, ⟨64, _⟩ => ⟨S1x8, .f32⟩
  | .hbm, ⟨65, _⟩ => ⟨S2048x8, .f32⟩
  | .hbm, ⟨66, _⟩ => ⟨S2048x8, .f32⟩
  | .hbm, ⟨67, _⟩ => ⟨S2048x8, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S_, .f32⟩
  | .hbm, ⟨72, _⟩ => ⟨S2048x64, .f32⟩
  | .hbm, ⟨73, _⟩ => ⟨S_, .f32⟩
  | .hbm, ⟨74, _⟩ => ⟨S2048x64, .f32⟩
  | .hbm, ⟨75, _⟩ => ⟨S_, .f32⟩
  | .hbm, ⟨76, _⟩ => ⟨S2048x32, .f32⟩
  | .hbm, ⟨77, _⟩ => ⟨S_, .f32⟩
  | .hbm, ⟨78, _⟩ => ⟨S2048x32, .f32⟩
  | .hbm, ⟨79, _⟩ => ⟨S2048x128, .f32⟩
  | .hbm, ⟨80, _⟩ => ⟨S2048x16, .f32⟩
  | .hbm, ⟨81, _⟩ => ⟨S2048x128, .f32⟩
  | .hbm, ⟨82, _⟩ => ⟨S_, .f32⟩
  | .hbm, ⟨83, _⟩ => ⟨S256x128, .f32⟩
  | .hbm, ⟨84, _⟩ => ⟨S_, .f32⟩
  | .hbm, ⟨85, _⟩ => ⟨S256x128, .f32⟩
  | .hbm, ⟨86, _⟩ => ⟨S2304x128, .f32⟩
  | .hbm, ⟨87, _⟩ => ⟨S2304x128, .f32⟩
  | .hbm, ⟨88, _⟩ => ⟨S16, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S2048x1, .f32⟩
  | .hbm, ⟨97, _⟩ => ⟨S1x16, .f32⟩
  | .hbm, ⟨98, _⟩ => ⟨S2048x16, .f32⟩
  | .hbm, ⟨99, _⟩ => ⟨S2048x16, .f32⟩
  | .hbm, ⟨100, _⟩ => ⟨S2048x16, .f32⟩
  | .hbm, ⟨101, _⟩ => ⟨S2048x1, .f32⟩
  | .hbm, ⟨102, _⟩ => ⟨S1x16, .f32⟩
  | .hbm, ⟨103, _⟩ => ⟨S2048x16, .f32⟩
  | .hbm, ⟨104, _⟩ => ⟨S2048x16, .f32⟩
  | .hbm, ⟨105, _⟩ => ⟨S2048x16, .f32⟩
  | .hbm, ⟨106, _⟩ => ⟨S2048x32, .f32⟩
  | .hbm, ⟨107, _⟩ => ⟨S2048x32, .f32⟩
  | .hbm, ⟨108, _⟩ => ⟨S2048x32, .f32⟩
  | .hbm, ⟨109, _⟩ => ⟨S2048x128, .f32⟩
  | .hbm, ⟨110, _⟩ => ⟨S2048x32, .f32⟩
  | .hbm, ⟨111, _⟩ => ⟨S2048x32, .f32⟩
  | .hbm, ⟨112, _⟩ => ⟨S2048x128, .f32⟩
  | .hbm, ⟨113, _⟩ => ⟨S_, .f32⟩
  | .hbm, ⟨114, _⟩ => ⟨S256x128, .f32⟩
  | .hbm, ⟨115, _⟩ => ⟨S_, .f32⟩
  | .hbm, ⟨116, _⟩ => ⟨S256x128, .f32⟩
  | .hbm, ⟨117, _⟩ => ⟨S2304x128, .f32⟩
  | .hbm, ⟨118, _⟩ => ⟨S2304x128, .f32⟩
  | .hbm, ⟨119, _⟩ => ⟨S32x16x2304x128, .bf16⟩
  | .hbm, ⟨120, _⟩ => ⟨S32x1024x2304, .bf16⟩
  | .hbm, ⟨121, _⟩ => ⟨S32x2304x2048, .bf16⟩
  | .hbm, ⟨122, _⟩ => ⟨S32x4x2304x128, .bf16⟩
  | .hbm, ⟨123, _⟩ => ⟨S32x256x2304, .bf16⟩
  | .hbm, ⟨124, _⟩ => ⟨S32x2304x1024, .bf16⟩
  | .hbm, ⟨125, _⟩ => ⟨S32x2304x2048, .f32⟩
  | .hbm, ⟨126, _⟩ => ⟨S32x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S9x1024, .f32⟩
  | .local _ .vmem, ⟨5, _⟩ => ⟨S1x1024, .f32⟩
  | .local _ .vmem, ⟨6, _⟩ => ⟨S1024x4608, .bf16⟩
  | .local _ .vmem, ⟨7, _⟩ => ⟨S256x1024, .bf16⟩
  | .local _ .vmem, ⟨8, _⟩ => ⟨S1x256, .f32⟩
  | .local _ .vmem, ⟨9, _⟩ => ⟨S256x2048, .bf16⟩
  | .local _ .vmem, ⟨10, _⟩ => ⟨S1024x256, .bf16⟩
  | .local _ .vmem, ⟨11, _⟩ => ⟨S1x512, .f32⟩
  | .local _ .vmem, ⟨12, _⟩ => ⟨S512x2048, .bf16⟩
  | .local _ .vmem, ⟨13, _⟩ => ⟨S1024x128, .bf16⟩
  | .local _ .vmem, ⟨14, _⟩ => ⟨S1x512, .f32⟩
  | .local _ .vmem, ⟨15, _⟩ => ⟨S1x1024, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S1x16x256x128, .bf16⟩
  | .local _ .vmem, ⟨25, _⟩ => ⟨S1x16x256x128, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x256x2048, .bf16⟩
  | .local _ .vmem, ⟨29, _⟩ => ⟨S1x256x2048, .bf16⟩
  | .local _ .vmem, ⟨30, _⟩ => ⟨S1x4x256x128, .bf16⟩
  | .local _ .vmem, ⟨31, _⟩ => ⟨S1x4x256x128, .bf16⟩
  | .local _ .vmem, ⟨32, _⟩ => ⟨S1x256x256, .bf16⟩
  | .local _ .vmem, ⟨33, _⟩ => ⟨S1x256x256, .bf16⟩
  | .local _ .vmem, ⟨34, _⟩ => ⟨S1x256x1024, .bf16⟩
  | .local _ .vmem, ⟨35, _⟩ => ⟨S1x256x1024, .bf16⟩
  | .local _ .vmem, ⟨36, _⟩ => ⟨S1x256x2048, .f32⟩
  | .local _ .vmem, ⟨37, _⟩ => ⟨S1x256x2048, .f32⟩
  | .local _ .vmem, ⟨38, _⟩ => ⟨S1x256x128, .f32⟩
  | .local _ .vmem, ⟨39, _⟩ => ⟨S1x256x128, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_0 : Ref sig .tc := ⟨.hbm, 52, rfl⟩
abbrev main_v21 : Ref sig .tc := ⟨.hbm, 53, rfl⟩
abbrev main_v22 : Ref sig .tc := ⟨.hbm, 54, rfl⟩
abbrev main_cst_1 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_2 : Ref sig .tc := ⟨.hbm, 71, rfl⟩
abbrev main_v38 : Ref sig .tc := ⟨.hbm, 72, rfl⟩
abbrev main_cst_3 : Ref sig .tc := ⟨.hbm, 73, rfl⟩
abbrev main_v39 : Ref sig .tc := ⟨.hbm, 74, rfl⟩
abbrev main_cst_4 : Ref sig .tc := ⟨.hbm, 75, rfl⟩
abbrev main_v40 : Ref sig .tc := ⟨.hbm, 76, rfl⟩
abbrev main_cst_5 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_6 : Ref sig .tc := ⟨.hbm, 82, rfl⟩
abbrev main_v45 : Ref sig .tc := ⟨.hbm, 83, rfl⟩
abbrev main_cst_7 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_8 : Ref sig .tc := ⟨.hbm, 90, rfl⟩
abbrev main_v51 : Ref sig .tc := ⟨.hbm, 91, rfl⟩
abbrev main_v52 : Ref sig .tc := ⟨.hbm, 92, rfl⟩
abbrev main_cst_9 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_10 : Ref sig .tc := ⟨.hbm, 113, rfl⟩
abbrev main_v72 : Ref sig .tc := ⟨.hbm, 114, rfl⟩
abbrev main_cst_11 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76_0 : Ref sig .tc := ⟨.hbm, 119, rfl⟩
abbrev main_v76_1 : Ref sig .tc := ⟨.hbm, 120, rfl⟩
abbrev main_v76_2 : Ref sig .tc := ⟨.hbm, 121, rfl⟩
abbrev main_v76_3 : Ref sig .tc := ⟨.hbm, 122, rfl⟩
abbrev main_v76_4 : Ref sig .tc := ⟨.hbm, 123, rfl⟩
abbrev main_v76_5 : Ref sig .tc := ⟨.hbm, 124, rfl⟩
abbrev main_v76_6 : Ref sig .tc := ⟨.hbm, 125, rfl⟩
abbrev main_v76_7 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x16x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x2048 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference6Ideal.lean ====
abbrev S32x2304x1024 : Shape := ⟨3, ![32, 2304, 1024]⟩
abbrev S32x9x1024 : Shape := ⟨3, ![32, 9, 1024]⟩
abbrev S9x1024 : Shape := ⟨2, ![9, 1024]⟩
abbrev S1x1024 : Shape := ⟨2, ![1, 1024]⟩
abbrev S1024x4608 : Shape := ⟨2, ![1024, 4608]⟩
abbrev S256x1024 : Shape := ⟨2, ![256, 1024]⟩
abbrev S1x256 : Shape := ⟨2, ![1, 256]⟩
abbrev S256x2048 : Shape := ⟨2, ![256, 2048]⟩
abbrev S1024x256 : Shape := ⟨2, ![1024, 256]⟩
abbrev S1x512 : Shape := ⟨2, ![1, 512]⟩
abbrev S512x2048 : Shape := ⟨2, ![512, 2048]⟩
abbrev S1024 : Shape := ⟨1, ![1024]⟩
abbrev S_ : Shape := ⟨0, ![]⟩
abbrev S32x2304 : Shape := ⟨2, ![32, 2304]⟩
abbrev S32x2304x1 : Shape := ⟨3, ![32, 2304, 1]⟩
abbrev S1x1x1024 : Shape := ⟨3, ![1, 1, 1024]⟩
abbrev S32x1x1024 : Shape := ⟨3, ![32, 1, 1024]⟩
abbrev S32x1024 : Shape := ⟨2, ![32, 1024]⟩
abbrev S32x2048x1024 : Shape := ⟨3, ![32, 2048, 1024]⟩
abbrev S32x256x1024 : Shape := ⟨3, ![32, 256, 1024]⟩
abbrev S32x2304x4608 : Shape := ⟨3, ![32, 2304, 4608]⟩
abbrev S32x2304x256 : Shape := ⟨3, ![32, 2304, 256]⟩
abbrev S32x2304x2048 : Shape := ⟨3, ![32, 2304, 2048]⟩
abbrev S32x2304x128 : Shape := ⟨3, ![32, 2304, 128]⟩
abbrev S256 : Shape := ⟨1, ![256]⟩
abbrev S1x1x256 : Shape := ⟨3, ![1, 1, 256]⟩
abbrev S32x1024x2304 : Shape := ⟨3, ![32, 1024, 2304]⟩
abbrev S32x256x2304 : Shape := ⟨3, ![32, 256, 2304]⟩

abbrev nBuf : Space → Nat
  | .hbm => 83
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x9x1024, .f32⟩
  | .hbm, ⟨2, _⟩ => ⟨S9x1024, .f32⟩
  | .hbm, ⟨3, _⟩ => ⟨S1x1024, .f32⟩
  | .hbm, ⟨4, _⟩ => ⟨S1024x4608, .bf16⟩
  | .hbm, ⟨5, _⟩ => ⟨S256x1024, .bf16⟩
  | .hbm, ⟨6, _⟩ => ⟨S1x256, .f32⟩
  | .hbm, ⟨7, _⟩ => ⟨S256x2048, .bf16⟩
  | .hbm, ⟨8, _⟩ => ⟨S1024x256, .bf16⟩
  | .hbm, ⟨9, _⟩ => ⟨S1x512, .f32⟩
  | .hbm, ⟨10, _⟩ => ⟨S512x2048, .bf16⟩
  | .hbm, ⟨11, _⟩ => ⟨S1x512, .f32⟩
  | .hbm, ⟨12, _⟩ => ⟨S1x1024, .f32⟩
  | .hbm, ⟨13, _⟩ => ⟨S1024, .f32⟩
  | .hbm, ⟨14, _⟩ => ⟨S32x2304x1024, .f32⟩
  | .hbm, ⟨15, _⟩ => ⟨S_, .f32⟩
  | .hbm, ⟨16, _⟩ => ⟨S32x2304, .f32⟩
  | .hbm, ⟨17, _⟩ => ⟨S32x2304x1, .f32⟩
  | .hbm, ⟨18, _⟩ => ⟨S_, .f32⟩
  | .hbm, ⟨19, _⟩ => ⟨S32x2304x1, .f32⟩
  | .hbm, ⟨20, _⟩ => ⟨S32x2304x1, .f32⟩
  | .hbm, ⟨21, _⟩ => ⟨S_, .f32⟩
  | .hbm, ⟨22, _⟩ => ⟨S32x2304x1, .f32⟩
  | .hbm, ⟨23, _⟩ => ⟨S32x2304x1, .f32⟩
  | .hbm, ⟨24, _⟩ => ⟨S32x2304x1, .f32⟩
  | .hbm, ⟨25, _⟩ => ⟨S32x2304x1024, .f32⟩
  | .hbm, ⟨26, _⟩ => ⟨S32x2304x1024, .f32⟩
  | .hbm, ⟨27, _⟩ => ⟨S1x1x1024, .f32⟩
  | .hbm, ⟨28, _⟩ => ⟨S32x2304x1024, .f32⟩
  | .hbm, ⟨29, _⟩ => ⟨S32x2304x1024, .f32⟩
  | .hbm, ⟨30, _⟩ => ⟨S32x1x1024, .f32⟩
  | .hbm, ⟨31, _⟩ => ⟨S32x1024, .f32⟩
  | .hbm, ⟨32, _⟩ => ⟨S32x1x1024, .f32⟩
  | .hbm, ⟨33, _⟩ => ⟨S32x2048x1024, .f32⟩
  | .hbm, ⟨34, _⟩ => ⟨S1x1024, .f32⟩
  | .hbm, ⟨35, _⟩ => ⟨S1024, .f32⟩
  | .hbm, ⟨36, _⟩ => ⟨S32x256x1024, .f32⟩
  | .hbm, ⟨37, _⟩ => ⟨S32x2304x1024, .f32⟩
  | .hbm, ⟨38, _⟩ => ⟨S_, .f32⟩
  | .hbm, ⟨39, _⟩ => ⟨S32x2304x1024, .f32⟩
  | .hbm, ⟨40, _⟩ => ⟨S32x2304x1024, .f32⟩
  | .hbm, ⟨41, _⟩ => ⟨S32x2304x1024, .f32⟩
  | .hbm, ⟨42, _⟩ => ⟨S32x1x1024, .f32⟩
  | .hbm, ⟨43, _⟩ => ⟨S32x1024, .f32⟩
  | .hbm, ⟨44, _⟩ => ⟨S32x1x1024, .f32⟩
  | .hbm, ⟨45, _⟩ => ⟨S32x2048x1024, .f32⟩
  | .hbm, ⟨46, _⟩ => ⟨S1x1024, .f32⟩
  | .hbm, ⟨47, _⟩ => ⟨S1024, .f32⟩
  | .hbm, ⟨48, _⟩ => ⟨S32x256x1024, .f32⟩
  | .hbm, ⟨49, _⟩ => ⟨S32x2304x1024, .f32⟩
  | .hbm, ⟨50, _⟩ => ⟨S32x2304x1024, .f32⟩
  | .hbm, ⟨51, _⟩ => ⟨S1024x4608, .f32⟩
  | .hbm, ⟨52, _⟩ => ⟨S32x2304x4608, .f32⟩
  | .hbm, ⟨53, _⟩ => ⟨S32x2304x256, .f32⟩
  | .hbm, ⟨54, _⟩ => ⟨S32x2304x2048, .f32⟩
  | .hbm, ⟨55, _⟩ => ⟨S32x2304x128, .f32⟩
  | .hbm, ⟨56, _⟩ => ⟨S256, .f32⟩
  | .hbm, ⟨57, _⟩ => ⟨S32x2304x256, .f32⟩
  | .hbm, ⟨58, _⟩ => ⟨S_, .f32⟩
  | .hbm, ⟨59, _⟩ => ⟨S32x2304, .f32⟩
  | .hbm, ⟨60, _⟩ => ⟨S32x2304x1, .f32⟩
  | .hbm, ⟨61, _⟩ => ⟨S_, .f32⟩
  | .hbm, ⟨62, _⟩ => ⟨S32x2304x1, .f32⟩
  | .hbm, ⟨63, _⟩ => ⟨S32x2304x1, .f32⟩
  | .hbm, ⟨64, _⟩ => ⟨S_, .f32⟩
  | .hbm, ⟨65, _⟩ => ⟨S32x2304x1, .f32⟩
  | .hbm, ⟨66, _⟩ => ⟨S32x2304x1, .f32⟩
  | .hbm, ⟨67, _⟩ => ⟨S32x2304x1, .f32⟩
  | .hbm, ⟨68, _⟩ => ⟨S32x2304x256, .f32⟩
  | .hbm, ⟨69, _⟩ => ⟨S32x2304x256, .f32⟩
  | .hbm, ⟨70, _⟩ => ⟨S1x1x256, .f32⟩
  | .hbm, ⟨71, _⟩ => ⟨S32x2304x256, .f32⟩
  | .hbm, ⟨72, _⟩ => ⟨S32x2304x256, .f32⟩
  | .hbm, ⟨73, _⟩ => ⟨S1024x256, .f32⟩
  | .hbm, ⟨74, _⟩ => ⟨S256x1024, .f32⟩
  | .hbm, ⟨75, _⟩ => ⟨S32x2304x1024, .f32⟩
  | .hbm, ⟨76, _⟩ => ⟨S256x1024, .f32⟩
  | .hbm, ⟨77, _⟩ => ⟨S1024x256, .f32⟩
  | .hbm, ⟨78, _⟩ => ⟨S32x2304x256, .f32⟩
  | .hbm, ⟨79, _⟩ => ⟨S32x1024x2304, .f32⟩
  | .hbm, ⟨80, _⟩ => ⟨S32x1024x2304, .bf16⟩
  | .hbm, ⟨81, _⟩ => ⟨S32x256x2304, .f32⟩
  | .hbm, ⟨82, _⟩ => ⟨S32x256x2304, .bf16⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Proof.Heads.lean ====
module

public import proofs.«01_k».proof.Proof.Gen.KernelIdeal.Skeleton
public import Idealize.ShloMosaic.Lib.Pipeline.ValueKit

@[expose] public section

/-! # One head of the attention kernel, over vectors

The kernel's arithmetic for one head of one query tile as functions of what the head loads: the scores of a chunk of
keys (keys down, queries across), the running maximum, the weights, the value rows with the rows of ones under them,
the accumulator's step, the quotient, and the two heads a store joins. -/

set_option maxRecDepth 16384

noncomputable section

namespace Cert.KernelIdeal.Heads

open Cert.KernelIdeal Cert.KernelIdeal.Gen Idealize.ShloMosaic Idealize.ShloMosaic.TcCoe Idealize.SL.Sem

variable {F : FTy → Type} [FloatOps F]

/-- A head's queries: the 128 lanes of its tile as rows. -/
def queries (q : Vec F S1x256x128 .bf16) : FVec F S256x128 .bf16 :=
  shapeCast S256x128 q shapeCasts_S1x256x128_S256x128

/-- The scores of one chunk of keys, keys down and queries across. -/
def scores (k : Vec F S1x1x256x128 .bf16) (q : FVec F S256x128 .bf16) : FVec F S256x256 .f32 :=
  matmul dot_S256x128_S256x128_S256x256_1_1_0_0_n_n none (shapeCast S256x128 k shapeCasts_S1x1x256x128_S256x128) q
    (constant S256x256 .f32 0x00000000#32)

/-- The chunk's greatest score for each query. -/
def chunkMax (s : FVec F S256x256 .f32) : FVec F S1x256 .f32 :=
  shapeCast S1x256 (multiReduction .maximumf [0] S256 s 0xFF800000#32 reduces_S256x256_S256 (.inl rfl) rfl)
    shapeCasts_S256_S1x256

/-- The chunk's weights at the shift `m`. -/
def weights (s : FVec F S256x256 .f32) (m : FVec F S1x256 .f32) : FVec F S256x256 .bf16 :=
  truncf .bf16 (exp2 (subf s (broadcastTo S256x256 m broadcasts_S1x256_S256x256))) bitsLt_bf16_f32

/-- The chunk's value rows, with sixteen rows of ones under them, times its weights. -/
def weighted (v : Vec F S1x64x256 .bf16) (p : FVec F S256x256 .bf16) : FVec F S80x256 .f32 :=
  matmul dot_S80x256_S256x256_S80x256_1_0_0_1_n_n none
    (concatenate S80x256 0 [⟨S64x256, shapeCast S64x256 v shapeCasts_S1x64x256_S64x256⟩,
      ⟨S16x256, broadcast S16x256 (Scalar.ofBits .bf16 0x3F80#16 : F .bf16)⟩] concatenates_S64x256_S16x256_S80x256_d0) p
    (constant S80x256 .f32 0x00000000#32)

/-- The accumulator after a chunk: the old one rescaled from the shift `m` to the shift `m'`, and the chunk's part. -/
def accStep (acc : FVec F S80x256 .f32) (m m' : FVec F S1x256 .f32) (pv : FVec F S80x256 .f32) : FVec F S80x256 .f32 :=
  addf (mulf (broadcastTo S80x256 (exp2 (subf m m')) broadcasts_S1x256_S80x256) acc) pv

/-- The shift after chunk `n`. -/
def shiftAt (s : ℕ → FVec F S256x256 .f32) : ℕ → FVec F S1x256 .f32
  | 0 => chunkMax (s 0)
  | n + 1 => maximumf (shiftAt s n) (chunkMax (s (n + 1)))

/-- The accumulator after chunk `n`. -/
def accAt (s : ℕ → FVec F S256x256 .f32) (v : ℕ → Vec F S1x64x256 .bf16) : ℕ → FVec F S80x256 .f32
  | 0 => weighted (v 0) (weights (s 0) (shiftAt s 0))
  | n + 1 => accStep (accAt s v n) (shiftAt s n) (shiftAt s (n + 1)) (weighted (v (n + 1)) (weights (s (n + 1)) (shiftAt s (n + 1))))

/-- The head's result: the weighted values over the sum of the weights. -/
def quotient (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- Two heads' results side by side, queries down: what one store writes. -/
def joined (o o' : FVec F S64x256 .f32) : FVec F S1x256x128 .bf16 :=
  shapeCast S1x256x128 (truncf .bf16 (transpose S256x128 [1, 0]
    (concatenate S128x256 0 [⟨S64x256, o⟩, ⟨S64x256, o'⟩] concatenates_S64x256_S64x256_S128x256_d0)
    transposes_S128x256_p1_0_S256x128) bitsLt_bf16_f32) shapeCasts_S256x128_S1x256x128

/-! ## The loads -/

theorem inb_q (h : Fin 16) : ∀ a, (![0, 0, 128 * (h : ℕ)] : Fin 3 → ℕ) a + S1x256x128.size a ≤ S1x256x2048.size a := by
  decide +revert
theorem inb_k (h : Fin 16) (c : Fin 9) :
    ∀ a, (![0, (h : ℕ), 256 * (c : ℕ), 0] : Fin 4 → ℕ) a + S1x1x256x128.size a ≤ S1x16x2304x128.size a := by
  decide +revert
theorem inb_v (h : Fin 16) (c : Fin 9) :
    ∀ a, (![0, 64 * (h : ℕ), 256 * (c : ℕ)] : Fin 3 → ℕ) a + S1x64x256.size a ≤ S1x1024x2304.size a := by
  decide +revert
theorem inb_o (h : Fin 8) : ∀ a, (![0, 0, 128 * (h : ℕ)] : Fin 3 → ℕ) a + S1x256x128.size a ≤ S1x256x1024.size a := by
  decide +revert

/-- Head `h`'s lanes of the query tile. -/
def loadQ (x : Vec F S1x256x2048 .bf16) (h : Fin 16) : Vec F S1x256x128 .bf16 :=
  View.ld x (Rect.unit (s := S1x256x2048) ![0, 0, 128 * (h : ℕ)] S1x256x128.size (inb_q h))

/-- Chunk `c` of head `h`'s keys. -/
def loadK (x : Vec F S1x16x2304x128 .bf16) (h : Fin 16) (c : Fin 9) : Vec F S1x1x256x128 .bf16 :=
  View.ld x (Rect.unit (s := S1x16x2304x128) ![0, (h : ℕ), 256 * (c : ℕ), 0] S1x1x256x128.size (inb_k h c))

/-- Chunk `c` of head `h`'s values, transposed. -/
def loadV (x : Vec F S1x1024x2304 .bf16) (h : Fin 16) (c : Fin 9) : Vec F S1x64x256 .bf16 :=
  View.ld x (Rect.unit (s := S1x1024x2304) ![0, 64 * (h : ℕ), 256 * (c : ℕ)] S1x64x256.size (inb_v h c))

/-- Head `h`'s result from the blocks, over the chunks `c0, c0 + 1, …, c0 + n`. -/
def headOut (x0 : Vec F S1x256x2048 .bf16) (x1 : Vec F S1x16x2304x128 .bf16) (x2 : Vec F S1x1024x2304 .bf16) (c0 : Fin 9) (n : ℕ)
    (h : Fin 16) : FVec F S64x256 .f32 :=
  quotient (accAt (fun c => scores (loadK x1 h (c0 + Fin.ofNat 9 c)) (queries (loadQ x0 h))) (fun c => loadV x2 h (c0 + Fin.ofNat 9 c)) n)

/-- What the store of the head pair `h` writes. -/
def pairOut (x0 : Vec F S1x256x2048 .bf16) (x1 : Vec F S1x16x2304x128 .bf16) (x2 : Vec F S1x1024x2304 .bf16) (c0 : Fin 9) (n : ℕ)
    (h : Fin 8) : Vec F S1x256x128 .bf16 :=
  joined (headOut x0 x1 x2 c0 n ⟨2 * h, by omega⟩) (headOut x0 x1 x2 c0 n ⟨2 * h + 1, by omega⟩)

/-- The pieces a point's stores leave, the last store first. -/
def pieces (x0 : Vec F S1x256x2048 .bf16) (x1 : Vec F S1x16x2304x128 .bf16) (x2 : Vec F S1x1024x2304 .bf16) (c0 : Fin 9) (n : ℕ) :
    List (View.Piece (Elt F) S1x256x1024 .bf16) :=
  List.ofFn fun h : Fin 8 => ⟨Rect.unit (s := S1x256x1024) ![0, 0, 128 * ((Fin.rev h : Fin 8) : ℕ)] S1x256x128.size (inb_o (Fin.rev h)),
    pairOut x0 x1 x2 c0 n (Fin.rev h)⟩

end Cert.KernelIdeal.Heads

end
-- ==== Proof.Softmax.lean ====
module

public import Idealize.ShloMosaic.PureOps.Ideal
public import Idealize.ShloMosaic.Lib.Pipeline.ValueKit

@[expose] public section

/-! # Softmax in one pass

Arithmetic of the extended reals alone: weights that are powers of two of a score's distance to ANY real shift may be
accumulated chunk by chunk, the accumulator rescaled whenever the shift moves, and the quotient of the weighted sum
by the sum of the weights is the softmax average with natural exponentials. The values may be infinite; the scores
and the shifts are real. -/

noncomputable section

namespace Attn

open Idealize.ShloMosaic

/-- Two to a real power, as a real. -/
def pow2 (x : ℝ) : ℝ := (2 : ℝ) ^ x

theorem pow2_pos (x : ℝ) : 0 < pow2 x := Real.rpow_pos_of_pos two_pos x

theorem pow2_add (x y : ℝ) : pow2 (x + y) = pow2 x * pow2 y := Real.rpow_add two_pos x y

theorem pow2_eq_exp (x : ℝ) : pow2 x = Real.exp (x * Real.log 2) := by
  rw [pow2, Real.rpow_def_of_pos two_pos, mul_comm]

/-- A nonnegative real factor passes into a finite sum of extended reals. -/
theorem mul_sum_of_nonneg {ι : Type*} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- A finite sum of reals is real. -/
theorem coe_sum {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The weighted sum of the values at one shift, over any finite family of keys. -/
def wsum {ι : Type*} (S : Finset ι) (s : ι → ℝ) (v : ι → EReal) (M : ℝ) : EReal :=
  ∑ k ∈ S, v k * ((pow2 (s k - M) : ℝ) : EReal)

/-- Moving the shift multiplies the weighted sum by one power of two. -/
theorem wsum_shift {ι : Type*} (S : Finset ι) (s : ι → ℝ) (v : ι → EReal) (M M' : ℝ) :
    ((pow2 (M - M') : ℝ) : EReal) * wsum S s v M = wsum S s v M' := by
  unfold wsum
  rw [mul_sum_of_nonneg _ (pow2_pos _).le]
  refine Finset.sum_congr rfl fun k _ => ?_
  rw [mul_left_comm, ← EReal.coe_mul, ← pow2_add]
  congr 3
  ring

/-- The softmax average of the values over a set of keys, the weights powers of two of the scores. -/
def average {ι : Type*} (S : Finset ι) (s : ι → ℝ) (v : ι → EReal) : EReal :=
  Ideal.div (wsum S s v 0) (wsum S s (fun _ => 1) 0)

/-- The sum of the weights is a positive real. -/
theorem wsum_one {ι : Type*} (S : Finset ι) (s : ι → ℝ) (M : ℝ) :
    wsum S s (fun _ => 1) M = ((∑ k ∈ S, pow2 (s k - M) : ℝ) : EReal) := by
  simp only [wsum, one_mul, coe_sum]

/-- A quotient by a positive real is the sum of the quotients' products. -/
theorem wsum_div {ι : Type*} (S : Finset ι) (s : ι → ℝ) (v : ι → EReal) (M : ℝ) (hS : S.Nonempty) :
    Ideal.div (wsum S s v M) (wsum S s (fun _ => 1) M)
      = ∑ k ∈ S, v k * ((pow2 (s k - M) / ∑ j ∈ S, pow2 (s j - M) : ℝ) : EReal) := by
  have hpos : 0 < ∑ k ∈ S, pow2 (s k - M) := Finset.sum_pos (fun k _ => pow2_pos _) hS
  rw [wsum_one, Ideal.div, if_neg (by exact_mod_cast hpos.ne'), ← EReal.coe_inv, mul_comm,
    wsum, mul_sum_of_nonneg _ (inv_pos.mpr hpos).le]
  refine Finset.sum_congr rfl fun k _ => ?_
  rw [mul_left_comm, ← EReal.coe_mul, div_eq_inv_mul]

/-- The average may be taken at any shift. -/
theorem average_eq {ι : Type*} (S : Finset ι) (s : ι → ℝ) (v : ι → EReal) (M : ℝ) (hS : S.Nonempty) :
    average S s v = Ideal.div (wsum S s v M) (wsum S s (fun _ => 1) M) := by
  rw [average, wsum_div S s v 0 hS, wsum_div S s v M hS]
  refine Finset.sum_congr rfl fun k _ => ?_
  have h : ∀ j, pow2 (s j - 0) = pow2 (s j - M) * pow2 M := fun j => by rw [← pow2_add]; congr 1; ring
  simp only [h, ← Finset.sum_mul]
  rw [mul_div_mul_right _ _ (pow2_pos M).ne']

/-- The average is the one with natural exponentials, whatever their shift. -/
theorem average_exp {ι : Type*} (S : Finset ι) (s : ι → ℝ) (v : ι → EReal) (M : ℝ) (hS : S.Nonempty) :
    average S s v = ∑ k ∈ S, v k * Ideal.div ((Real.exp (s k * Real.log 2 - M) : ℝ) : EReal)
      (∑ j ∈ S, ((Real.exp (s j * Real.log 2 - M) : ℝ) : EReal)) := by
  have hpos : 0 < ∑ k ∈ S, Real.exp (s k * Real.log 2 - M) := Finset.sum_pos (fun k _ => Real.exp_pos _) hS
  have h : ∀ j, Real.exp (s j * Real.log 2 - M) = pow2 (s j - 0) * Real.exp (-M) := fun j => by
    rw [pow2_eq_exp, ← Real.exp_add]; congr 1; ring
  rw [average, wsum_div S s v 0 hS, coe_sum]
  refine Finset.sum_congr rfl fun k _ => ?_
  rw [Ideal.div, if_neg (by exact_mod_cast hpos.ne'), ← EReal.coe_inv, ← EReal.coe_mul]
  simp only [h, ← Finset.sum_mul]
  rw [← div_eq_mul_inv, mul_div_mul_right _ _ (Real.exp_pos _).ne']

/-- The average over one family of keys read through a map from another. -/
theorem average_congr {ι κ : Type*} (S : Finset ι) (T : Finset κ) (s : ι → ℝ) (v : ι → EReal) (s' : κ → ℝ) (v' : κ → EReal)
    (h : ∀ f : ℝ → EReal → EReal, ∑ k ∈ S, f (s k) (v k) = ∑ k ∈ T, f (s' k) (v' k)) : average S s v = average T s' v' := by
  unfold average wsum
  exact congrArg₂ Ideal.div (h fun s v => v * ((pow2 (s - 0) : ℝ) : EReal)) (h fun s _ => 1 * ((pow2 (s - 0) : ℝ) : EReal))

/-- The largest of finitely many reals, from `⊥` up, is real where there is one. -/
theorem fold_max_real {ι : Type*} (S : Finset ι) (f : ι → ℝ) (h : S.Nonempty) :
    ∃ M : ℝ, (S.fold max (⊥ : EReal) fun k => (f k : EReal)) = (M : EReal) := by
  classical
  induction h using Finset.Nonempty.cons_induction with
  | singleton a => exact ⟨f a, by simp⟩
  | cons a t ha _ ih =>
    obtain ⟨M, hM⟩ := ih
    refine ⟨max (f a) M, ?_⟩
    rw [Finset.fold_cons, hM]
    exact (EReal.coe_strictMono.monotone.map_max).symm

/-- The same over a whole finite type, for an operation that is the maximum. -/
theorem fold_max_univ {ι : Type*} [Fintype ι] [Nonempty ι] (op : EReal → EReal → EReal) [Std.Commutative op] [Std.Associative op]
    (hop : op = max) (f : ι → EReal) (h : ∀ i, ∃ r : ℝ, f i = (r : EReal)) :
    ∃ M : ℝ, Finset.univ.fold op (⊥ : EReal) f = (M : EReal) := by
  choose g hg using h
  obtain rfl : f = fun i => (g i : EReal) := funext hg
  subst hop
  exact fold_max_real _ _ Finset.univ_nonempty

end Attn

end
-- ==== Proof.HeadValue.lean ====
module

public import proofs.«01_k».proof.Proof.Heads
public import proofs.«01_k».proof.Proof.Softmax
public import Idealize.ShloMosaic.Lib.Pointwise

@[expose] public section

/-! # One head of the attention kernel, at an index

Where the scores are real, every running maximum is real, so the accumulator after a chunk is the weighted sum over the
keys seen so far, at the running maximum; the quotient is then the softmax average. -/

set_option maxRecDepth 16384

noncomputable section

namespace Cert.KernelIdeal.Heads

open Cert.KernelIdeal Cert.KernelIdeal.Gen Idealize.ShloMosaic Idealize.ShloMosaic.TcCoe Idealize.SL.Sem
open Attn

theorem queries_at (q : FVec Ideal S1x256x128 .bf16) (r : Fin 256) (d : Fin 128) :
    queries (F := Ideal) q (ix2 r d) = q (ix3 0 r d) := by
  pointwise [queries]

theorem scores_at (k : FVec Ideal S1x1x256x128 .bf16) (q : FVec Ideal S256x128 .bf16) (a r : Fin 256) :
    scores (F := Ideal) k q (ix2 a r) = ∑ d : Fin 128, k (ix4 0 0 a d) * q (ix2 r d) := by
  pointwise [scores]

theorem chunkMax_at (s : FVec Ideal S256x256 .f32) (r : Fin 256) :
    chunkMax s (ix2 0 r) = Finset.univ.fold max (⊥ : EReal) fun a : Fin 256 => s (ix2 a r) := by
  pointwise [chunkMax]
  rw [show Ideal.ofBits .f32 0xFF800000#32 = (⊥ : EReal) by simp [Ideal.ofBits, Ideal.ieee]]

theorem weighted_at (v : FVec Ideal S1x64x256 .bf16) (s : FVec Ideal S256x256 .f32) (m : FVec Ideal S1x256 .f32)
    (e : Fin 80) (r : Fin 256) :
    weighted v (weights s m) (ix2 e r)
      = ∑ a : Fin 256, (if h : (e : ℕ) < 64 then v (ix3 0 ⟨e, h⟩ a) else 1) * Ideal.exp2 (s (ix2 a r) - m (ix2 0 r)) := by
  pointwise [weighted, weights]
  rfl

theorem accStep_at (acc pv : FVec Ideal S80x256 .f32) (m m' : FVec Ideal S1x256 .f32) (e : Fin 80) (r : Fin 256) :
    accStep acc m m' pv (ix2 e r)
      = Ideal.exp2 (m (ix2 0 r) - m' (ix2 0 r)) * acc (ix2 e r) + pv (ix2 e r) := by
  pointwise [accStep]
  rfl

theorem quotient_at (acc : FVec Ideal S80x256 .f32) (e : Fin 64) (r : Fin 256) :
    quotient acc (ix2 e r) = Ideal.div (acc (ix2 ⟨e, by omega⟩ r)) (acc (ix2 64 r)) := by
  pointwise [quotient]

theorem joined_at (o o' : FVec Ideal S64x256 .f32) (r : Fin 256) (l : Fin 128) :
    joined o o' (ix3 0 r l) = if h : (l : ℕ) < 64 then o (ix2 ⟨l, h⟩ r) else o' (ix2 ⟨l - 64, by omega⟩ r) := by
  pointwise [joined]

theorem loadQ_at (x : FVec Ideal S1x256x2048 .bf16) (h : Fin 16) (r : Fin 256) (d : Fin 128) :
    loadQ (F := Ideal) x h (ix3 0 r d) = x (ix3 0 r ⟨128 * h + d, by omega⟩) := by
  pointwise [loadQ]

theorem loadK_at (x : FVec Ideal S1x16x2304x128 .bf16) (h : Fin 16) (c : Fin 9) (a : Fin 256) (d : Fin 128) :
    loadK (F := Ideal) x h c (ix4 0 0 a d) = x (ix4 0 h ⟨256 * c + a, by omega⟩ d) := by
  pointwise [loadK]

theorem loadV_at (x : FVec Ideal S1x1024x2304 .bf16) (h : Fin 16) (c : Fin 9) (e : Fin 64) (a : Fin 256) :
    loadV (F := Ideal) x h c (ix3 0 e a) = x (ix3 0 ⟨64 * h + e, by omega⟩ ⟨256 * c + a, by omega⟩) := by
  pointwise [loadV]

/-- Two to the distance of two reals. -/
theorem exp2_sub (x y : ℝ) : Ideal.exp2 ((x : EReal) - (y : EReal)) = ((pow2 (x - y) : ℝ) : EReal) := by
  rw [← EReal.coe_sub]; rfl

/-- Row `e` of the value rows with the rows of ones under them. -/
def row (v : FVec Ideal S1x64x256 .bf16) (e : Fin 80) (a : Fin 256) : EReal :=
  if h : (e : ℕ) < 64 then v (ix3 0 ⟨e, h⟩ a) else 1

section Real

variable (s : ℕ → FVec Ideal S256x256 .f32) (sr : ℕ → Fin 256 → Fin 256 → ℝ)
  (hs : ∀ c a r, s c (ix2 a r) = ((sr c a r : ℝ) : EReal))
include hs

/-- The running maximum is real. -/
theorem shiftAt_real (n : ℕ) (r : Fin 256) : ∃ M : ℝ, shiftAt (F := Ideal) s n (ix2 0 r) = (M : EReal) := by
  have hc : ∀ c, ∃ M : ℝ, chunkMax (F := Ideal) (s c) (ix2 0 r) = (M : EReal) := fun c => by
    rw [chunkMax_at]; simp only [hs]
    exact fold_max_real _ _ Finset.univ_nonempty
  induction n with
  | zero => exact hc 0
  | succ n ih =>
    obtain ⟨M, hM⟩ := ih
    obtain ⟨M', hM'⟩ := hc (n + 1)
    refine ⟨max M M', ?_⟩
    show max (shiftAt (F := Ideal) s n (ix2 0 r)) (chunkMax (F := Ideal) (s (n + 1)) (ix2 0 r)) = _
    rw [hM, hM']
    exact (EReal.coe_strictMono.monotone.map_max).symm

/-- The accumulator after chunk `n`: the weighted sum over the keys of the chunks so far, at the running maximum. -/
theorem accAt_eq (v : ℕ → FVec Ideal S1x64x256 .bf16) (n : ℕ) (e : Fin 80) (r : Fin 256) (M : ℝ)
    (hM : shiftAt (F := Ideal) s n (ix2 0 r) = (M : EReal)) :
    accAt (F := Ideal) s v n (ix2 e r)
      = wsum (Finset.range (n + 1) ×ˢ (Finset.univ : Finset (Fin 256))) (fun p => sr p.1 p.2 r) (fun p => row (v p.1) e p.2) M := by
  have hw : ∀ (n : ℕ) (M : ℝ), shiftAt (F := Ideal) s n (ix2 0 r) = (M : EReal) →
      weighted (F := Ideal) (v n) (weights (s n) (shiftAt s n)) (ix2 e r)
        = ∑ a, row (v n) e a * ((pow2 (sr n a r - M) : ℝ) : EReal) := fun n M hM => by
    rw [weighted_at]
    simp only [hM, hs, exp2_sub, row]
  induction n generalizing M with
  | zero =>
    rw [accAt, hw 0 M hM, wsum, Finset.sum_product, Finset.sum_range_one]
  | succ n ih =>
    obtain ⟨M₀, hM₀⟩ := shiftAt_real s sr hs n r
    rw [accAt, accStep_at, hM, hM₀, exp2_sub, ih M₀ hM₀, wsum_shift, hw (n + 1) M hM, wsum, wsum, Finset.sum_product,
      Finset.sum_product, Finset.sum_range_succ _ (n + 1)]

/-- The head's result over the first `n + 1` chunks. -/
theorem quotient_accAt (v : ℕ → FVec Ideal S1x64x256 .bf16) (n : ℕ) (e : Fin 64) (r : Fin 256) :
    quotient (F := Ideal) (accAt s v n) (ix2 e r)
      = average (Finset.range (n + 1) ×ˢ (Finset.univ : Finset (Fin 256))) (fun p => sr p.1 p.2 r) (fun p => v p.1 (ix3 0 e p.2)) := by
  obtain ⟨M, hM⟩ := shiftAt_real s sr hs n r
  have h1 : (fun p : ℕ × Fin 256 => row (v p.1) ⟨e, by omega⟩ p.2) = fun p => v p.1 (ix3 0 e p.2) := by
    funext p; simp [row]
  have h2 : (fun p : ℕ × Fin 256 => row (v p.1) 64 p.2) = fun _ => 1 := by
    funext p; simp [row]
  rw [quotient_at, accAt_eq s sr hs v n _ r M hM, accAt_eq s sr hs v n _ r M hM, average_eq _ _ _ M (by simp), h1, h2]

end Real

end Cert.KernelIdeal.Heads

end
-- ==== Proof.Ideal.RunA.lean ====
/- The launch set-up of `KernelIdeal`: a query tile of context tokens runs its body. Taken over from the module of the same name under Gen/, with the body run
   printed part by printed part. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 not taken, `scf.if` 1 taken: points 0, 9, … 279: 32 of 288), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x256x2048 .bf16) (harg3 : arg3.IsWhole) (arg4 : Memref sig .tc .vmem S1x16x2304x128 .bf16) (harg4 : arg4.IsWhole) (arg5 : Memref sig .tc .vmem S1x1024x2304 .bf16) (harg5 : arg5.IsWhole) (arg6 : Memref sig .tc .vmem S1x256x1024 .bf16) (harg6 : arg6.IsWhole) (hc0 : ¬cond0_0 i) (hc1 : cond0_1 i)
    (x0 : Vec F S1x256x2048 .bf16) (x1 : Vec F S1x16x2304x128 .bf16) (x2 : Vec F S1x1024x2304 .bf16) :
    { L3 : List (View.Piece (Elt F) S1x256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc0_mla_attention i arg3 harg3 arg4 harg4 arg5 harg5 arg6 harg6) K } := by
  refine ⟨?_, fun E K => ?run⟩
  case run =>
    sl_unfold [cc0_mla_attention]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Gen

end
-- ==== Proof.Ideal.RunB.lean ====
/- The launch set-up of `KernelIdeal`: a query tile of latent tokens runs its body. Taken over from the module of the same name under Gen/, with the body run
   printed part by printed part. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2592000 in
/-- What the body's stores leave in each output's staging memref, as pieces (last first) IN CASE B (`scf.if` 0 taken, `scf.if` 1 not taken: points 1, 2, … 287: 256 of 288), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x256x2048 .bf16) (harg3 : arg3.IsWhole) (arg4 : Memref sig .tc .vmem S1x16x2304x128 .bf16) (harg4 : arg4.IsWhole) (arg5 : Memref sig .tc .vmem S1x1024x2304 .bf16) (harg5 : arg5.IsWhole) (arg6 : Memref sig .tc .vmem S1x256x1024 .bf16) (harg6 : arg6.IsWhole) (hc0 : cond0_0 i) (hc1 : ¬cond0_1 i)
    (x0 : Vec F S1x256x2048 .bf16) (x1 : Vec F S1x16x2304x128 .bf16) (x2 : Vec F S1x1024x2304 .bf16) :
    { L3 : List (View.Piece (Elt F) S1x256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc0_mla_attention i arg3 harg3 arg4 harg4 arg5 harg5 arg6 harg6) K } := by
  refine ⟨?_, fun E K => ?run⟩
  case run =>
    sl_unfold [cc0_mla_attention]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Gen

end
-- ==== Proof.Ideal.Frame.lean ====
/- The launch set-up of `KernelIdeal`: the run of the whole grid. Taken over from the module of the same name under Gen/, with the body run
   printed part by printed part. -/
module

public import proofs.«01_k».proof.Proof.Ideal.RunA
public import proofs.«01_k».proof.Proof.Ideal.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (8 stores of `S1x256x128`, checked by the kernel's evaluation: Lib/Ring.lean `Piece.tiledL`, linear in the pieces, through a loop's `@[irreducible]` trip theorem too), so they cover it. -/
theorem cover0_A_3 (c : Dev nD) (i : grid0.Coords) (arg3 : Memref sig .tc .vmem S1x256x2048 .bf16) (harg3 : arg3.IsWhole) (arg4 : Memref sig .tc .vmem S1x16x2304x128 .bf16) (harg4 : arg4.IsWhole) (arg5 : Memref sig .tc .vmem S1x1024x2304 .bf16) (harg5 : arg5.IsWhole) (arg6 : Memref sig .tc .vmem S1x256x1024 .bf16) (harg6 : arg6.IsWhole) (hc0 : ¬cond0_0 i) (hc1 : cond0_1 i)
    (x0 : Vec F S1x256x2048 .bf16) (x1 : Vec F S1x16x2304x128 .bf16) (x2 : Vec F S1x1024x2304 .bf16) (y : S1x256x1024.Idx) :
    ∃ pc ∈ (kernelRun0_A c i arg3 harg3 arg4 harg4 arg5 harg5 arg6 harg6 hc0 hc1 x0 x1 x2).1, y ∈ pc.1.set :=
  View.cover_of_tiledL (kernelRun0_A c i arg3 harg3 arg4 harg4 arg5 harg5 arg6 harg6 hc0 hc1 x0 x1 x2).1 S1x256x128.size (by sl_kernel_rfl) y

/-- What case A leaves in output 3's staging buffer: its pieces read back over junk. -/
def out0_A_3 (c : Dev nD) (i : grid0.Coords) (arg3 : Memref sig .tc .vmem S1x256x2048 .bf16) (harg3 : arg3.IsWhole) (arg4 : Memref sig .tc .vmem S1x16x2304x128 .bf16) (harg4 : arg4.IsWhole) (arg5 : Memref sig .tc .vmem S1x1024x2304 .bf16) (harg5 : arg5.IsWhole) (arg6 : Memref sig .tc .vmem S1x256x1024 .bf16) (harg6 : arg6.IsWhole) (hc0 : ¬cond0_0 i) (hc1 : cond0_1 i)
    (x0 : Vec F S1x256x2048 .bf16) (x1 : Vec F S1x16x2304x128 .bf16) (x2 : Vec F S1x1024x2304 .bf16) : Vec F S1x256x1024 .bf16 :=
  VO0_3.read (Elt F) (VO0_3.writes (Elt F) VO0_3.junk (kernelRun0_A c i arg3 harg3 arg4 harg4 arg5 harg5 arg6 harg6 hc0 hc1 x0 x1 x2).1)

/-- Case B's pieces for output 3 tile its block (8 stores of `S1x256x128`, checked by the kernel's evaluation: Lib/Ring.lean `Piece.tiledL`, linear in the pieces, through a loop's `@[irreducible]` trip theorem too), so they cover it. -/
theorem cover0_B_3 (c : Dev nD) (i : grid0.Coords) (arg3 : Memref sig .tc .vmem S1x256x2048 .bf16) (harg3 : arg3.IsWhole) (arg4 : Memref sig .tc .vmem S1x16x2304x128 .bf16) (harg4 : arg4.IsWhole) (arg5 : Memref sig .tc .vmem S1x1024x2304 .bf16) (harg5 : arg5.IsWhole) (arg6 : Memref sig .tc .vmem S1x256x1024 .bf16) (harg6 : arg6.IsWhole) (hc0 : cond0_0 i) (hc1 : ¬cond0_1 i)
    (x0 : Vec F S1x256x2048 .bf16) (x1 : Vec F S1x16x2304x128 .bf16) (x2 : Vec F S1x1024x2304 .bf16) (y : S1x256x1024.Idx) :
    ∃ pc ∈ (kernelRun0_B c i arg3 harg3 arg4 harg4 arg5 harg5 arg6 harg6 hc0 hc1 x0 x1 x2).1, y ∈ pc.1.set :=
  View.cover_of_tiledL (kernelRun0_B c i arg3 harg3 arg4 harg4 arg5 harg5 arg6 harg6 hc0 hc1 x0 x1 x2).1 S1x256x128.size (by sl_kernel_rfl) y

/-- What case B leaves in output 3's staging buffer: its pieces read back over junk. -/
def out0_B_3 (c : Dev nD) (i : grid0.Coords) (arg3 : Memref sig .tc .vmem S1x256x2048 .bf16) (harg3 : arg3.IsWhole) (arg4 : Memref sig .tc .vmem S1x16x2304x128 .bf16) (harg4 : arg4.IsWhole) (arg5 : Memref sig .tc .vmem S1x1024x2304 .bf16) (harg5 : arg5.IsWhole) (arg6 : Memref sig .tc .vmem S1x256x1024 .bf16) (harg6 : arg6.IsWhole) (hc0 : cond0_0 i) (hc1 : ¬cond0_1 i)
    (x0 : Vec F S1x256x2048 .bf16) (x1 : Vec F S1x16x2304x128 .bf16) (x2 : Vec F S1x1024x2304 .bf16) : Vec F S1x256x1024 .bf16 :=
  VO0_3.read (Elt F) (VO0_3.writes (Elt F) VO0_3.junk (kernelRun0_B c i arg3 harg3 arg4 harg4 arg5 harg5 arg6 harg6 hc0 hc1 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (iblk m c 2 ⟨0, hn⟩)
  | n + 1, hn =>
    if h0 : 1 ≤ (n + 1) % 9 then
      if h1 : (n + 1) % 9 = 0 then
        False.elim (by have hN : n + 1 < 288 := lt_of_lt_of_eq hn (show cfg0.N = 288 from N_0); omega)
      else
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : (n + 1) % 9 = 0 then
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)
      else
        False.elim (by have hN : n + 1 < 288 := lt_of_lt_of_eq hn (show cfg0.N = 288 from N_0); omega)

/-- `outsAt0` at a point of case A: that case's contents. -/
theorem outsAt0_A (c : Dev nD) (t : Fin cfg0.N) (h0 : ¬1 ≤ t.val % 9) (h1 : t.val % 9 = 0) :
    outsAt0 m c t.val t.isLt = out0_A_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t) := by
  obtain ⟨n, hn⟩ := t
  cases n with
  | zero => exact rfl
  | succ n => exact (dif_neg h0).trans ((dif_pos h1).trans rfl)

/-- `outsAt0` at a point of case B: that case's contents. -/
theorem outsAt0_B (c : Dev nD) (t : Fin cfg0.N) (h0 : 1 ≤ t.val % 9) (h1 : ¬t.val % 9 = 0) :
    outsAt0 m c t.val t.isLt = out0_B_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (iblk m c 2 t) := by
  obtain ⟨n, hn⟩ := t
  cases n with
  | zero => exact (by exfalso; (try dsimp only at h0); exact by omega)
  | succ n => exact (dif_pos h0).trans ((dif_neg h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 288 := lt_of_lt_of_eq t.isLt (show cfg0.N = 288 from N_0)
  by_cases h0 : 1 ≤ t.val % 9
  · by_cases h1 : t.val % 9 = 0
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t ((hcond0_0 t).mpr h0) (fun h => h1 ((hcond0_1 t).mp h))], after0_3]
      rw [outsAt0_B m c t h0 h1]
      unfold out0_B_3
      iintro ⟨HΦ, Ho, ⟨%d0, H0⟩, ⟨%d1, H1⟩, ⟨%d2, H2⟩, ⟨%d3, H3⟩⟩
      iapply ((kernelRun0_B c (grid0.coords t) _ _ _ _ _ _ _ _ ((hcond0_0 t).mpr h0) (fun h => h1 ((hcond0_1 t).mp h)) (iblk m c 0 t) (iblk m c 1 t) (iblk m c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _)
  · by_cases h1 : t.val % 9 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t (fun h => h0 ((hcond0_0 t).mp h)) ((hcond0_1 t).mpr h1)], after0_3]
      rw [outsAt0_A m c t h0 h1]
      unfold out0_A_3
      iintro ⟨HΦ, Ho, ⟨%d0, H0⟩, ⟨%d1, H1⟩, ⟨%d2, H2⟩, ⟨%d3, H3⟩⟩
      iapply ((kernelRun0_A c (grid0.coords t) _ _ _ _ _ _ _ _ (fun h => h0 ((hcond0_0 t).mp h)) ((hcond0_1 t).mpr h1) (iblk m c 0 t) (iblk m c 1 t) (iblk m c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Ideal.Value.lean ====
/- The launch set-up of `KernelIdeal`: the result array of the run, tile by tile. Taken over from the module of the same name under Gen/, with the body run
   printed part by printed part. -/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : ¬1 ≤ t.val % 9) (h1 : t.val % 9 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : 1 ≤ t.val % 9) (h1 : ¬t.val % 9 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (iblk m c 2 t)) := by
  simp only [flushed3, outsAt0_B m c t h0 h1]

-- no `blocks3`: window 3's index map is injective over its 288 points, but past 200 points that is decided here only for a window whose block index on one axis is the point's position;
-- the final array is still the frame's `arrAt`, to read with Lib/Pipeline/Value.lean's lemmas by hand

/-- An index that no flushing point's block covers keeps output window 3's array contents at region entry. -/
theorem entry3 (c : Dev nD) (i : S32x2304x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Value

end
-- ==== Proof.Pieces.lean ====
module

public import proofs.«01_k».proof.Proof.Ideal.Value
public import proofs.«01_k».proof.Proof.Heads

@[expose] public section

/-! # What a grid point stores

The stores of a point, as the run leaves them, are the head pairs of `Heads`: over the context keys alone for the context
tile, over all nine chunks of keys for a latent tile. -/

set_option maxRecDepth 16384

noncomputable section

namespace Cert.KernelIdeal.Heads

open Cert.KernelIdeal Cert.KernelIdeal.Gen Idealize.ShloMosaic Idealize.ShloMosaic.TcCoe Idealize.SL.Sem

variable {F : FTy → Type} [FloatOps F]

variable (c : Dev nD) (i : grid0.Coords)
  (arg3 : Memref sig .tc .vmem S1x256x2048 .bf16) (harg3 : arg3.IsWhole)
  (arg4 : Memref sig .tc .vmem S1x16x2304x128 .bf16) (harg4 : arg4.IsWhole)
  (arg5 : Memref sig .tc .vmem S1x1024x2304 .bf16) (harg5 : arg5.IsWhole)
  (arg6 : Memref sig .tc .vmem S1x256x1024 .bf16) (harg6 : arg6.IsWhole)
  (x0 : Vec F S1x256x2048 .bf16) (x1 : Vec F S1x16x2304x128 .bf16) (x2 : Vec F S1x1024x2304 .bf16)

/-- The context tile: the keys of the last chunk. -/
theorem pieces_A (hc0 : ¬cond0_0 i) (hc1 : cond0_1 i) :
    (kernelRun0_A c i arg3 harg3 arg4 harg4 arg5 harg5 arg6 harg6 hc0 hc1 x0 x1 x2).1 = pieces x0 x1 x2 8 0 := by
  have h : (kernelRun0_A c i arg3 harg3 arg4 harg4 arg5 harg5 arg6 harg6 hc0 hc1 x0 x1 x2).1
      = pieces (arg3.view.read (Elt F) (harg3.unread x0)) (arg4.view.read (Elt F) (harg4.unread x1))
        (arg5.view.read (Elt F) (harg5.unread x2)) 8 0 := rfl
  rw [h, harg3.read_unread, harg4.read_unread, harg5.read_unread]

/-- A latent tile: all nine chunks of keys. -/
theorem pieces_B (hc0 : cond0_0 i) (hc1 : ¬cond0_1 i) :
    (kernelRun0_B c i arg3 harg3 arg4 harg4 arg5 harg5 arg6 harg6 hc0 hc1 x0 x1 x2).1 = pieces x0 x1 x2 0 8 := by
  have h : (kernelRun0_B c i arg3 harg3 arg4 harg4 arg5 harg5 arg6 harg6 hc0 hc1 x0 x1 x2).1
      = pieces (arg3.view.read (Elt F) (harg3.unread x0)) (arg4.view.read (Elt F) (harg4.unread x1))
        (arg5.view.read (Elt F) (harg5.unread x2)) 0 8 := rfl
  rw [h, harg3.read_unread, harg4.read_unread, harg5.read_unread]

end Cert.KernelIdeal.Heads

end
-- ==== Proof.Attention.lean ====
module

public import proofs.«01_k».proof.Proof.Softmax
public import Idealize.ShloMosaic.Lib.Pipeline.ValueKit

@[expose] public section

/-! # The attention, as one function of its arguments

The query of token `n` and head `h` is in the lanes `128 h …` of row `n`, the keys are stored head by head, the values of
head `h` in the rows `64 h …` of the transposed values. A latent token (the first 2048) attends to every token, a
context token to the last 256. -/

set_option maxRecDepth 16384

noncomputable section

namespace Attn

open Idealize.ShloMosaic

/-- The queries' shape. -/
abbrev SQ : Shape := ⟨3, ![32, 2304, 2048]⟩
/-- The keys' shape. -/
abbrev SK : Shape := ⟨4, ![32, 16, 2304, 128]⟩
/-- The transposed values' shape. -/
abbrev SV : Shape := ⟨3, ![32, 1024, 2304]⟩
/-- The result's shape. -/
abbrev SO : Shape := ⟨3, ![32, 2304, 1024]⟩

variable (q : FVec Ideal SQ .bf16) (k : FVec Ideal SK .bf16) (v : FVec Ideal SV .bf16)

/-- Every element is a real. -/
def Finite {s : Shape} (x : FVec Ideal s .bf16) : Prop := ∀ i, x i = (((x i : EReal).toReal : ℝ) : EReal)

/-- The score of token `n`'s query against token `j`'s key, in head `h` of batch element `b`. -/
def score (b : Fin 32) (n : Fin 2304) (h : Fin 16) (j : Fin 2304) : ℝ :=
  ∑ d : Fin 128, (q (ix3 b n ⟨128 * h + d, by omega⟩) : EReal).toReal * (k (ix4 b h j d) : EReal).toReal

/-- The score, where queries and keys are real. -/
theorem score_eq (hq : Finite q) (hk : Finite k) (b : Fin 32) (n : Fin 2304) (h : Fin 16) (j : Fin 2304) :
    ∑ d : Fin 128, (q (ix3 b n ⟨128 * h + d, by omega⟩) : EReal) * k (ix4 b h j d) = ((score q k b n h j : ℝ) : EReal) := by
  rw [score, ← coe_sum]
  exact Finset.sum_congr rfl fun d _ => by rw [EReal.coe_mul, ← hq, ← hk]

/-- Channel `e` of head `h` of token `n`'s result. -/
def attended (b : Fin 32) (n : Fin 2304) (h : Fin 16) (e : Fin 64) : EReal :=
  if (n : ℕ) < 2048 then
    average Finset.univ (fun j : Fin 2304 => score q k b n h j) fun j => v (ix3 b ⟨64 * h + e, by omega⟩ j)
  else
    average Finset.univ (fun j : Fin 256 => score q k b n h ⟨2048 + j, by omega⟩)
      fun j => v (ix3 b ⟨64 * h + e, by omega⟩ ⟨2048 + j, by omega⟩)

/-- The attention's result. -/
def result : FVec Ideal SO .bf16 := fun i =>
  attended q k v (i 0) (i 1) ⟨(i 2 : ℕ) / 64, by have h : (i 2 : ℕ) < 1024 := (i 2).isLt; omega⟩
    ⟨(i 2 : ℕ) % 64, Nat.mod_lt _ (by norm_num)⟩

end Attn

end
-- ==== Proof.Point.lean ====
module

public import proofs.«01_k».proof.Proof.HeadValue
public import proofs.«01_k».proof.Proof.Pieces
public import proofs.«01_k».proof.Proof.Attention

@[expose] public section

/-! # A grid point's block, at an index -/

set_option maxRecDepth 16384

noncomputable section

namespace Cert.KernelIdeal.Heads

open Cert.KernelIdeal Cert.KernelIdeal.Gen Idealize.ShloMosaic Idealize.ShloMosaic.TcCoe Idealize.SL.Sem
open Attn

variable (x0 : FVec Ideal S1x256x2048 .bf16) (x1 : FVec Ideal S1x16x2304x128 .bf16) (x2 : FVec Ideal S1x1024x2304 .bf16)

/-- The token of key `a` of the `c`-th chunk from chunk `c0` on. -/
def key (c0 : Fin 9) (p : ℕ × Fin 256) : Fin 2304 := ⟨256 * (c0 + Fin.ofNat 9 p.1 : Fin 9) + p.2, by omega⟩

/-- A head's result: the average over the keys of its chunks. -/
theorem headOut_at (c0 : Fin 9) (n : ℕ) (h : Fin 16) (e : Fin 64) (r : Fin 256) (sr : Fin 2304 → Fin 256 → ℝ)
    (hs : ∀ j r, ∑ d : Fin 128, x1 (ix4 0 h j d) * x0 (ix3 0 r ⟨128 * h + d, by omega⟩) = ((sr j r : ℝ) : EReal)) :
    headOut (F := Ideal) x0 x1 x2 c0 n h (ix2 e r)
      = average (Finset.range (n + 1) ×ˢ (Finset.univ : Finset (Fin 256))) (fun p => sr (key c0 p) r)
          (fun p => x2 (ix3 0 ⟨64 * h + e, by omega⟩ (key c0 p))) := by
  rw [headOut, quotient_accAt _ (fun c a r => sr (key c0 (c, a)) r) fun c a r => ?_]
  · refine congrArg (average _ _) (funext fun p => ?_)
    exact loadV_at x2 h _ e p.2
  · rw [scores_at, ← hs]
    refine Finset.sum_congr rfl fun d _ => ?_
    rw [queries_at, loadK_at, loadQ_at]
    rfl

/-- All nine chunks are all tokens. -/
theorem average_all (s : Fin 2304 → ℝ) (v : Fin 2304 → EReal) :
    average (Finset.range (8 + 1) ×ˢ (Finset.univ : Finset (Fin 256))) (fun p => s (key 0 p)) (fun p => v (key 0 p))
      = average Finset.univ s v := by
  refine average_congr _ _ _ _ _ _ fun f => ?_
  rw [Finset.sum_product, Finset.sum_range, Fin.sum_univ_tiles 9 256 rfl fun j => f (s j) (v j)]
  refine Finset.sum_congr rfl fun c _ => Finset.sum_congr rfl fun a _ => ?_
  have : key 0 ((c : ℕ), a) = ⟨c * 256 + a, by omega⟩ := by
    apply Fin.ext
    simp only [key, zero_add, Fin.ofNat_eq_cast, Fin.cast_val_eq_self]
    omega
  rw [this]

/-- The last chunk is the context. -/
theorem average_ctx (s : Fin 2304 → ℝ) (v : Fin 2304 → EReal) :
    average (Finset.range (0 + 1) ×ˢ (Finset.univ : Finset (Fin 256))) (fun p => s (key 8 p)) (fun p => v (key 8 p))
      = average Finset.univ (fun j : Fin 256 => s ⟨2048 + j, by omega⟩) fun j => v ⟨2048 + j, by omega⟩ := by
  refine average_congr _ _ _ _ _ _ fun f => ?_
  rw [Finset.sum_product, Finset.sum_range_one]
  rfl

/-- What the stores leave at row `r` and lane `l`: the channel `l % 64` of head `l / 64`. -/
theorem canon_pieces (c0 : Fin 9) (n : ℕ) (r : Fin 256) (l : Fin 1024) :
    View.canon (pieces (F := Ideal) x0 x1 x2 c0 n) (ix3 0 r l)
      = headOut (F := Ideal) x0 x1 x2 c0 n ⟨(l : ℕ) / 64, by omega⟩ (ix2 ⟨(l : ℕ) % 64, by omega⟩ r) := by
  unfold pieces
  refine View.canon_ofFn_unit_eq_of_forall _ _ _ _ _ _ ?_ ?_
  · refine ⟨Fin.rev ⟨(l : ℕ) / 128, by omega⟩, fun a => ?_⟩
    fin_cases a <;> simp <;> omega
  · intro k
    tile_intro y h
    generalize Fin.rev k = k' at *
    idx_vars y
    have hy : y1 = r := Fin.ext h1.symm
    have hl : (l : ℕ) = 128 * k' + y2 := h2
    subst hy
    obtain rfl : y0 = 0 := Subsingleton.elim _ _
    rw [pairOut, joined_at]
    by_cases h : (y2 : ℕ) < 64
    · rw [dif_pos h]
      have e1 : (⟨2 * (k' : ℕ), by omega⟩ : Fin 16) = ⟨(l : ℕ) / 64, by omega⟩ := Fin.ext (by simp only; omega)
      have e2 : (⟨(y2 : ℕ), h⟩ : Fin 64) = ⟨(l : ℕ) % 64, by omega⟩ := Fin.ext (by simp only; omega)
      rw [e1, e2]
    · rw [dif_neg h]
      have e1 : (⟨2 * (k' : ℕ) + 1, by omega⟩ : Fin 16) = ⟨(l : ℕ) / 64, by omega⟩ := Fin.ext (by simp only; omega)
      have e2 : (⟨(y2 : ℕ) - 64, by omega⟩ : Fin 64) = ⟨(l : ℕ) % 64, by omega⟩ := Fin.ext (by simp only; omega)
      rw [e1, e2]

/-- A context tile's block. -/
theorem out_A (c : Dev nD) (i : grid0.Coords)
    (arg3 : Memref sig .tc .vmem S1x256x2048 .bf16) (harg3 : arg3.IsWhole)
    (arg4 : Memref sig .tc .vmem S1x16x2304x128 .bf16) (harg4 : arg4.IsWhole)
    (arg5 : Memref sig .tc .vmem S1x1024x2304 .bf16) (harg5 : arg5.IsWhole)
    (arg6 : Memref sig .tc .vmem S1x256x1024 .bf16) (harg6 : arg6.IsWhole) (hc0 : ¬cond0_0 i) (hc1 : cond0_1 i) :
    out0_A_3 (F := Ideal) c i arg3 harg3 arg4 harg4 arg5 harg5 arg6 harg6 hc0 hc1 x0 x1 x2
      = View.canon (pieces (F := Ideal) x0 x1 x2 8 0) := by
  rw [out0_A_3, pieces_A]
  exact View.read_writes_junk_eq_canon _ _

/-- A latent tile's block. -/
theorem out_B (c : Dev nD) (i : grid0.Coords)
    (arg3 : Memref sig .tc .vmem S1x256x2048 .bf16) (harg3 : arg3.IsWhole)
    (arg4 : Memref sig .tc .vmem S1x16x2304x128 .bf16) (harg4 : arg4.IsWhole)
    (arg5 : Memref sig .tc .vmem S1x1024x2304 .bf16) (harg5 : arg5.IsWhole)
    (arg6 : Memref sig .tc .vmem S1x256x1024 .bf16) (harg6 : arg6.IsWhole) (hc0 : cond0_0 i) (hc1 : ¬cond0_1 i) :
    out0_B_3 (F := Ideal) c i arg3 harg3 arg4 harg4 arg5 harg5 arg6 harg6 hc0 hc1 x0 x1 x2
      = View.canon (pieces (F := Ideal) x0 x1 x2 0 8) := by
  rw [out0_B_3, pieces_B]
  exact View.read_writes_junk_eq_canon _ _

end Cert.KernelIdeal.Heads

end
-- ==== Proof.Final.lean ====
module

public import proofs.«01_k».proof.Proof.Point

@[expose] public section

/-! # The result array of the whole grid -/

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Attn Heads

/-- Which block of each window a point holds: batch element `t / 9`, query tile `(t % 9 + 8) % 9`. -/
theorem idx : ∀ t : Fin cfg0.N, win0_0.index t = ![t.val / 9, (t.val % 9 + 8) % 9, 0] ∧ win0_1.index t = ![t.val / 9, 0, 0, 0]
    ∧ win0_2.index t = ![t.val / 9, 0, 0] ∧ win0_3.index t = ![t.val / 9, (t.val % 9 + 8) % 9, 0] :=
  (by decide +kernel : ∀ t : Fin grid0.N, _)

variable (m : (ℓ : Loc nD τ sig) → Buf (Elt Ideal) ℓ)

/-- The queries, the keys and the transposed values. -/
abbrev Q (c : Dev nD) : FVec Ideal SQ .bf16 := m ((c : Thread nD τ).loc main_arg0)
abbrev K (c : Dev nD) : FVec Ideal SK .bf16 := m ((c : Thread nD τ).loc main_arg1)
abbrev Vt (c : Dev nD) : FVec Ideal SV .bf16 := m ((c : Thread nD τ).loc main_arg2)

variable (c : Dev nD) (t : Fin cfg0.N)

/-- The blocks of a point, and what it leaves. -/
abbrev tileQ : FVec Ideal S1x256x2048 .bf16 := iblk m c 0 t
abbrev tileK : FVec Ideal S1x16x2304x128 .bf16 := iblk m c 1 t
abbrev tileV : FVec Ideal S1x1024x2304 .bf16 := iblk m c 2 t
abbrev left : FVec Ideal S1x256x1024 .bf16 := outsAt0 m c t.val t.isLt

theorem blockQ (b : Fin 32) (T : Fin 9) (hb : (b : ℕ) = t.val / 9) (hT : (T : ℕ) = (t.val % 9 + 8) % 9) (r : Fin 256) (l : Fin 2048) :
    tileQ m c t (ix3 0 r l) = Q m c (ix3 b ⟨256 * T + r, by omega⟩ l) := by
  blk_point [iblk, V, idx t]

theorem blockK (b : Fin 32) (hb : (b : ℕ) = t.val / 9) (h : Fin 16) (j : Fin 2304) (d : Fin 128) :
    tileK m c t (ix4 0 h j d) = K m c (ix4 b h j d) := by
  blk_point [iblk, V, idx t]

theorem blockV (b : Fin 32) (hb : (b : ℕ) = t.val / 9) (l : Fin 1024) (j : Fin 2304) :
    tileV m c t (ix3 0 l j) = Vt m c (ix3 b l j) := by
  blk_point [iblk, V, idx t]

/-- The scores of a point's blocks are the arrays' scores. -/
theorem blockScore (hq : Finite (Q m c)) (hk : Finite (K m c)) (b : Fin 32) (T : Fin 9) (hb : (b : ℕ) = t.val / 9)
    (hT : (T : ℕ) = (t.val % 9 + 8) % 9) (h : Fin 16) (j : Fin 2304) (r : Fin 256) :
    ∑ d : Fin 128, tileK m c t (ix4 0 h j d)
        * tileQ m c t (ix3 0 r ⟨128 * h + d, by omega⟩)
      = ((score (Q m c) (K m c) b ⟨256 * T + r, by omega⟩ h j : ℝ) : EReal) := by
  rw [← score_eq _ _ hq hk]
  refine Finset.sum_congr rfl fun d _ => ?_
  rw [blockK m c t b hb, blockQ m c t b T hb hT, mul_comm]

/-- What a point leaves, at row `r` and lane `l` of its block. -/
theorem point (hq : Finite (Q m c)) (hk : Finite (K m c)) (b : Fin 32) (T : Fin 9) (hb : (b : ℕ) = t.val / 9)
    (hT : (T : ℕ) = (t.val % 9 + 8) % 9) (r : Fin 256) (l : Fin 1024) :
    (left m c t) (ix3 0 r l)
      = result (Q m c) (K m c) (Vt m c) (ix3 b ⟨256 * T + r, by omega⟩ l) := by
  have hv : ∀ j, tileV m c t (ix3 0 ⟨64 * ((l : ℕ) / 64) + (l : ℕ) % 64, by omega⟩ j)
      = Vt m c (ix3 b ⟨64 * ((l : ℕ) / 64) + (l : ℕ) % 64, by omega⟩ j) := fun j => blockV m c t b hb _ j
  show _ = attended (Q m c) (K m c) (Vt m c) b ⟨256 * T + r, by omega⟩ ⟨(l : ℕ) / 64, by omega⟩ ⟨(l : ℕ) % 64, by omega⟩
  have hs := fun j r => blockScore m c t hq hk b T hb hT ⟨(l : ℕ) / 64, by omega⟩ j r
  by_cases h : t.val % 9 = 0
  · rw [left, outsAt0_A m c t (by omega) h, out_A, canon_pieces, headOut_at _ _ _ _ _ _ _ _ _ hs, attended, if_neg (by simp only; omega)]
    refine (average_ctx (fun j => score (Q m c) (K m c) b ⟨256 * T + r, by omega⟩ ⟨(l : ℕ) / 64, by omega⟩ j)
      (fun j => tileV m c t (ix3 0 ⟨64 * ((l : ℕ) / 64) + (l : ℕ) % 64, by omega⟩ j))).trans ?_
    exact congrArg (average _ _) (funext fun j => hv _)
  · rw [left, outsAt0_B m c t (by omega) h, out_B, canon_pieces, headOut_at _ _ _ _ _ _ _ _ _ hs, attended, if_pos (by simp only; omega)]
    refine (average_all (fun j => score (Q m c) (K m c) b ⟨256 * T + r, by omega⟩ ⟨(l : ℕ) / 64, by omega⟩ j)
      (fun j => tileV m c t (ix3 0 ⟨64 * ((l : ℕ) / 64) + (l : ℕ) % 64, by omega⟩ j))).trans ?_
    exact congrArg (average _ _) (funext fun j => hv _)

/-- The result array of the run is the attention of the arguments. -/
theorem final (hq : Finite (Q m c)) (hk : Finite (K m c)) :
    (dats m 0 c).arrAt 3 cfg0.N = result (Q m c) (K m c) (Vt m c) := by
  refine (dats m 0 c).arrAt_eq_of_covers 3 _ (by decide +kernel) fun t _ y => ?_
  have hN : t.val < 288 := lt_of_lt_of_eq t.isLt (show cfg0.N = 288 from N_0)
  blk_simp
  rw [after0_3]
  idx_vars y
  obtain rfl : y0 = 0 := Subsingleton.elim _ _
  refine (point m c t hq hk ⟨t.val / 9, by omega⟩ ⟨(t.val % 9 + 8) % 9, by omega⟩ rfl rfl y1 y2).trans ?_
  refine congrArg _ ?_
  blk_ext [idx t]

end Cert.KernelIdeal.Value

end
-- ==== Proof.Reference.lean ====
module

public import proofs.«01_k».proof.Proof.Attention
public import proofs.«01_k».proof.Proof.Gen.ReferenceIdeal.Run
public import proofs.«01_k».proof.Proof.Gen.Pre_finite_scores
public import Idealize.ShloMosaic.Lib.Pointwise

@[expose] public section

/-! # The reference is the attention of its arguments -/

set_option maxRecDepth 16384

noncomputable section

namespace Cert.ReferenceIdeal.Value

open Cert.ReferenceIdeal Cert.ReferenceIdeal.Gen Idealize.ShloMosaic Idealize.ShloMosaic.TcCoe Idealize.SL.Sem
open Attn

variable {F : FTy → Type} [FloatOps F]

/-! ## The two attentions, operation by operation -/

/-- The scores of the latent queries against all keys, in natural units. -/
def scoresL (q : FVec F S32x2304x2048 .bf16) (k : FVec F S32x16x2304x128 .bf16) : FVec F S32x16x2048x2304 .f32 :=
  mulf (Host.dotGeneral dot_S32x2048x16x128_S32x16x2304x128_S32x16x2048x2304_3_3_1_2_02_01 none
      (extractStridedSlice S32x2048x16x128 ![0, 0, 0, 0]
        (shapeCast S32x2304x16x128 (extf .f32 q bitsLt_bf16_f32) shapeCasts_S32x2304x2048_S32x2304x16x128)
        slices_S32x2304x16x128_S32x2048x16x128_0_0_0_0)
      (extf .f32 k bitsLt_bf16_f32))
    (broadcastInDim S32x16x2048x2304 ![] bcast_S_S32x16x2048x2304 (Host.log (constant S_ .f32 0x40000000#32)))

/-- The row maxima of the latent scores. -/
def rowMaxL (s : FVec F S32x16x2048x2304 .f32) : FVec F S32x16x2048 .f32 :=
  Host.reduce FloatOps.maximumf s (constant S_ .f32 0xFF800000#32) reducesTo_S32x16x2048x2304_S32x16x2048_d3 h_S_

/-- The latent rows' shifts. -/
def maxL (s : FVec F S32x16x2048x2304 .f32) : FVec F S32x16x2048 .f32 :=
  maximumf (broadcastInDim S32x16x2048 ![] bcast_S_S32x16x2048 (constant S_ .f32 0xFF800000#32)) (rowMaxL s)

/-- The exponentials at a row shift. -/
def expL (s : FVec F S32x16x2048x2304 .f32) (M : FVec F S32x16x2048 .f32) : FVec F S32x16x2048x2304 .f32 :=
  Host.exp (subf s (broadcastInDim S32x16x2048x2304 ![0, 1, 2, 3] bcast_S32x16x2048x1_S32x16x2048x2304_0_1_2_3
    (broadcastInDim S32x16x2048x1 ![0, 1, 2] bcast_S32x16x2048_S32x16x2048x1_0_1_2 M)))

/-- Each row over its sum. -/
def normL (e : FVec F S32x16x2048x2304 .f32) : FVec F S32x16x2048x2304 .f32 :=
  Host.divf e (broadcastInDim S32x16x2048x2304 ![0, 1, 2, 3] bcast_S32x16x2048x1_S32x16x2048x2304_0_1_2_3
    (broadcastInDim S32x16x2048x1 ![0, 1, 2] bcast_S32x16x2048_S32x16x2048x1_0_1_2
      (Host.reduceAdd e (constant S_ .f32 0x00000000#32) reducesTo_S32x16x2048x2304_S32x16x2048_d3 h_S_)))

/-- The latent tokens' result. -/
def outL (v : FVec F S32x1024x2304 .bf16) (p : FVec F S32x16x2048x2304 .f32) : FVec F S32x2048x16x64 .f32 :=
  transpose S32x2048x16x64 [0, 3, 1, 2]
    (Host.dotGeneral dot_S32x16x64x2304_S32x16x2048x2304_S32x16x64x2048_3_3_2_2_01_01 none
      (shapeCast S32x16x64x2304 (extf .f32 v bitsLt_bf16_f32) shapeCasts_S32x1024x2304_S32x16x64x2304) p)
    transposes_S32x16x64x2048_S32x2048x16x64_0_3_1_2

/-- The scores of the context queries against the context keys, in natural units. -/
def scoresC (q : FVec F S32x2304x2048 .bf16) (k : FVec F S32x16x2304x128 .bf16) : FVec F S32x16x256x256 .f32 :=
  mulf (Host.dotGeneral dot_S32x256x16x128_S32x16x256x128_S32x16x256x256_3_3_1_2_02_01 none
      (extractStridedSlice S32x256x16x128 ![0, 2048, 0, 0]
        (shapeCast S32x2304x16x128 (extf .f32 q bitsLt_bf16_f32) shapeCasts_S32x2304x2048_S32x2304x16x128)
        slices_S32x2304x16x128_S32x256x16x128_0_2048_0_0)
      (extractStridedSlice S32x16x256x128 ![0, 0, 2048, 0] (extf .f32 k bitsLt_bf16_f32)
        slices_S32x16x2304x128_S32x16x256x128_0_0_2048_0))
    (broadcastInDim S32x16x256x256 ![] bcast_S_S32x16x256x256 (Host.log (constant S_ .f32 0x40000000#32)))

/-- The row maxima of the context scores. -/
def rowMaxC (s : FVec F S32x16x256x256 .f32) : FVec F S32x16x256 .f32 :=
  Host.reduce FloatOps.maximumf s (constant S_ .f32 0xFF800000#32) reducesTo_S32x16x256x256_S32x16x256_d3 h_S_

/-- The context rows' shifts. -/
def maxC (s : FVec F S32x16x256x256 .f32) : FVec F S32x16x256 .f32 :=
  maximumf (broadcastInDim S32x16x256 ![] bcast_S_S32x16x256 (constant S_ .f32 0xFF800000#32)) (rowMaxC s)

/-- The exponentials at a row shift. -/
def expC (s : FVec F S32x16x256x256 .f32) (M : FVec F S32x16x256 .f32) : FVec F S32x16x256x256 .f32 :=
  Host.exp (subf s (broadcastInDim S32x16x256x256 ![0, 1, 2, 3] bcast_S32x16x256x1_S32x16x256x256_0_1_2_3
    (broadcastInDim S32x16x256x1 ![0, 1, 2] bcast_S32x16x256_S32x16x256x1_0_1_2 M)))

/-- Each row over its sum. -/
def normC (e : FVec F S32x16x256x256 .f32) : FVec F S32x16x256x256 .f32 :=
  Host.divf e (broadcastInDim S32x16x256x256 ![0, 1, 2, 3] bcast_S32x16x256x1_S32x16x256x256_0_1_2_3
    (broadcastInDim S32x16x256x1 ![0, 1, 2] bcast_S32x16x256_S32x16x256x1_0_1_2
      (Host.reduceAdd e (constant S_ .f32 0x00000000#32) reducesTo_S32x16x256x256_S32x16x256_d3 h_S_)))

/-- The context tokens' result. -/
def outC (v : FVec F S32x1024x2304 .bf16) (p : FVec F S32x16x256x256 .f32) : FVec F S32x256x16x64 .f32 :=
  transpose S32x256x16x64 [0, 3, 1, 2]
    (Host.dotGeneral dot_S32x16x64x256_S32x16x256x256_S32x16x64x256_3_3_2_2_01_01 none
      (extractStridedSlice S32x16x64x256 ![0, 0, 0, 2048]
        (shapeCast S32x16x64x2304 (extf .f32 v bitsLt_bf16_f32) shapeCasts_S32x1024x2304_S32x16x64x2304)
        slices_S32x16x64x2304_S32x16x64x256_0_0_0_2048) p)
    transposes_S32x16x64x256_S32x256x16x64_0_3_1_2

/-- Both, one under the other. -/
def stacked (a : FVec F S32x2048x16x64 .f32) (b : FVec F S32x256x16x64 .f32) : FVec F S32x2304x16x64 .f32 :=
  concatenate S32x2304x16x64 1 [⟨S32x2048x16x64, a⟩, ⟨S32x256x16x64, b⟩]
    concatenates_S32x2048x16x64_S32x256x16x64_S32x2304x16x64_d1

/-- Both, token by token. -/
def both (a : FVec F S32x2048x16x64 .f32) (b : FVec F S32x256x16x64 .f32) : FVec F S32x2304x1024 .bf16 :=
  truncf .bf16 (shapeCast S32x2304x1024 (stacked a b) shapeCasts_S32x2304x16x64_S32x2304x1024) bitsLt_bf16_f32

/-- The reference's result is made of these. -/
theorem res_parts (m : (ℓ : Loc nD τ sig) → Buf (Elt F) ℓ) (c : Dev nD) :
    res_out0 m c = both
      (outL (m ((c : Thread nD τ).loc main_arg2)) (normL (expL
        (scoresL (m ((c : Thread nD τ).loc main_arg0)) (m ((c : Thread nD τ).loc main_arg1)))
        (maxL (scoresL (m ((c : Thread nD τ).loc main_arg0)) (m ((c : Thread nD τ).loc main_arg1)))))))
      (outC (m ((c : Thread nD τ).loc main_arg2)) (normC (expC
        (scoresC (m ((c : Thread nD τ).loc main_arg0)) (m ((c : Thread nD τ).loc main_arg1)))
        (maxC (scoresC (m ((c : Thread nD τ).loc main_arg0)) (m ((c : Thread nD τ).loc main_arg1))))))) := rfl

/-! ## The parts at an index -/

/-- The natural logarithm of the constant two. -/
theorem log_two : Ideal.log (Ideal.ofBits FTy.f32 0x40000000#32) = ((Real.log 2 : ℝ) : EReal) := by
  rw [show Ideal.ofBits FTy.f32 0x40000000#32 = ((2 : ℝ) : EReal) by
    simp [Ideal.ofBits, Ideal.ieee, -EReal.coe_mul]; norm_num, Ideal.log_coe, if_neg (by norm_num)]

theorem scoresL_at (q : FVec Ideal S32x2304x2048 .bf16) (k : FVec Ideal S32x16x2304x128 .bf16) (b : Fin 32) (h : Fin 16)
    (n : Fin 2048) (j : Fin 2304) :
    scoresL q k (ix4 b h n j) = (∑ d : Fin 128, q (ix3 b ⟨n, by omega⟩ ⟨128 * h + d, by omega⟩) * k (ix4 b h j d))
      * ((Real.log 2 : ℝ) : EReal) := by
  pointwise [scoresL]
  rw [log_two]
  simp only [Nat.mul_comm]

theorem scoresC_at (q : FVec Ideal S32x2304x2048 .bf16) (k : FVec Ideal S32x16x2304x128 .bf16) (b : Fin 32) (h : Fin 16)
    (n : Fin 256) (j : Fin 256) :
    scoresC q k (ix4 b h n j) = (∑ d : Fin 128, q (ix3 b ⟨2048 + n, by omega⟩ ⟨128 * h + d, by omega⟩)
      * k (ix4 b h ⟨2048 + j, by omega⟩ d)) * ((Real.log 2 : ℝ) : EReal) := by
  pointwise [scoresC]
  rw [log_two]
  simp only [Nat.mul_comm]

theorem expL_at (s : FVec Ideal S32x16x2048x2304 .f32) (M : FVec Ideal S32x16x2048 .f32) (b : Fin 32) (h : Fin 16) (n : Fin 2048)
    (j : Fin 2304) : expL s M (ix4 b h n j) = Ideal.exp (s (ix4 b h n j) - M (ix3 b h n)) := by
  pointwise [expL]

theorem expC_at (s : FVec Ideal S32x16x256x256 .f32) (M : FVec Ideal S32x16x256 .f32) (b : Fin 32) (h : Fin 16) (n : Fin 256)
    (j : Fin 256) : expC s M (ix4 b h n j) = Ideal.exp (s (ix4 b h n j) - M (ix3 b h n)) := by
  pointwise [expC]

theorem normL_at (e : FVec Ideal S32x16x2048x2304 .f32) (b : Fin 32) (h : Fin 16) (n : Fin 2048)
    (j : Fin 2304) : normL e (ix4 b h n j) = Ideal.div (e (ix4 b h n j)) (∑ j, e (ix4 b h n j)) := by
  pointwise [normL]

theorem normC_at (e : FVec Ideal S32x16x256x256 .f32) (b : Fin 32) (h : Fin 16) (n : Fin 256)
    (j : Fin 256) : normC e (ix4 b h n j) = Ideal.div (e (ix4 b h n j)) (∑ j, e (ix4 b h n j)) := by
  pointwise [normC]

theorem outL_at (v : FVec Ideal S32x1024x2304 .bf16) (p : FVec Ideal S32x16x2048x2304 .f32) (b : Fin 32) (n : Fin 2048) (h : Fin 16)
    (e : Fin 64) : outL v p (ix4 b n h e) = ∑ j : Fin 2304, v (ix3 b ⟨64 * h + e, by omega⟩ j) * p (ix4 b h n j) := by
  pointwise [outL]
  simp only [Nat.mul_comm]

theorem outC_at (v : FVec Ideal S32x1024x2304 .bf16) (p : FVec Ideal S32x16x256x256 .f32) (b : Fin 32) (n : Fin 256) (h : Fin 16)
    (e : Fin 64) : outC v p (ix4 b n h e)
      = ∑ j : Fin 256, v (ix3 b ⟨64 * h + e, by omega⟩ ⟨2048 + j, by omega⟩) * p (ix4 b h n j) := by
  pointwise [outC]
  simp only [Nat.mul_comm]

theorem stacked_at (x : FVec Ideal S32x2048x16x64 .f32) (y : FVec Ideal S32x256x16x64 .f32) (b : Fin 32) (n : Fin 2304) (h : Fin 16)
    (e : Fin 64) : stacked x y (ix4 b n h e) = if h' : (n : ℕ) < 2048 then x (ix4 b ⟨n, h'⟩ h e) else y (ix4 b ⟨n - 2048, by omega⟩ h e) := by
  pointwise [stacked]

/-- The heads' channels side by side. -/
theorem merged_at (z : FVec Ideal S32x2304x16x64 .f32) (b : Fin 32) (n : Fin 2304) (l : Fin 1024) :
    shapeCast S32x2304x1024 z shapeCasts_S32x2304x16x64_S32x2304x1024 (ix3 b n l)
      = z (ix4 b n ⟨(l : ℕ) / 64, by omega⟩ ⟨(l : ℕ) % 64, by omega⟩) := by
  pointwise

/-- Over the reals rounding to bfloat16 changes nothing. -/
theorem truncf_at {s : Shape} (x : FVec Ideal s .f32) (h) (i : s.Idx) : truncf (F := Ideal) .bf16 x h i = x i := rfl

theorem both_at (x : FVec Ideal S32x2048x16x64 .f32) (y : FVec Ideal S32x256x16x64 .f32) (b : Fin 32) (n : Fin 2304) (l : Fin 1024) :
    both x y (ix3 b n l) = stacked x y (ix4 b n ⟨(l : ℕ) / 64, by omega⟩ ⟨(l : ℕ) % 64, by omega⟩) := by
  unfold both
  exact (truncf_at _ _ _).trans (merged_at _ _ _ _)

/-! ## The shifts are real -/

/-- The row maximum's initial value. -/
theorem minus_inf : Ideal.ofBits FTy.f32 0xFF800000#32 = (⊥ : EReal) := by simp [Ideal.ofBits, Ideal.ieee]

/-- The maximum from minus infinity up, along one axis, of real elements is real. -/
theorem reduce_max_real {s t u : Shape} {a : Fin s.rank} (x : FVec Ideal s .f32) (init : FVec Ideal u .f32) (h' : s.ReducesTo [a] t)
    (h : s.Reduces [a] t) (hu : 0 < u.numel) (hn : 0 < s.size a) (hi : init (Shape.Idx.first hu) = (⊥ : EReal)) (j : t.Idx)
    (hx : ∀ k, ∃ r : ℝ, x (h.lift j k) = (r : EReal)) :
    ∃ M : ℝ, Host.reduce FloatOps.maximumf x init h' hu j = (M : EReal) := by
  haveI : Nonempty (Fin (s.size a)) := ⟨⟨0, hn⟩⟩
  rw [Host.reduce_eq_fold_single _ _ _ _ h, hi]
  exact fold_max_univ (FloatOps.maximumf (F := Ideal) (φ := .f32)) rfl (x ∘ h.lift j) hx

/-- The maximum with minus infinity. -/
theorem maximum_bot {s : Shape} (x y : FVec Ideal s .f32) (i : s.Idx) (hx : x i = (⊥ : EReal)) : maximumf x y i = y i := by
  show max (x i) (y i) = y i
  rw [hx, max_eq_right bot_le]

/-- A broadcast constant at an index. -/
theorem constant_at {s t : Shape} {d} (h) (b : BitVec (FTy.bits .f32)) (i : t.Idx) :
    broadcastInDim t d h (constant (F := Ideal) s .f32 b) i = Ideal.ofBits FTy.f32 b := rfl

/-- The shift of a row of real scores is real. -/
theorem maxL_real (s : FVec Ideal S32x16x2048x2304 .f32) (b : Fin 32) (h : Fin 16) (n : Fin 2048)
    (hs : ∀ j, ∃ r : ℝ, s (ix4 b h n j) = (r : EReal)) : ∃ M : ℝ, maxL s (ix3 b h n) = (M : EReal) := by
  have hR : S32x16x2048x2304.Reduces [3] S32x16x2048 := by decide
  have hl : ∀ k, hR.lift (ix3 b h n) k = ix4 b h n k := fun k => by
    funext a; fin_cases a <;> rfl
  obtain ⟨M, hM⟩ := reduce_max_real s (constant S_ .f32 0xFF800000#32) reducesTo_S32x16x2048x2304_S32x16x2048_d3 hR h_S_ (by decide)
    minus_inf (ix3 b h n) fun k => by
      obtain ⟨r, hr⟩ := hs k
      exact ⟨r, (congrArg s (hl k)).trans hr⟩
  refine ⟨M, ?_⟩
  unfold maxL rowMaxL
  exact (maximum_bot _ _ _ ((constant_at _ _ _).trans minus_inf)).trans hM

/-- The same for the context rows. -/
theorem maxC_real (s : FVec Ideal S32x16x256x256 .f32) (b : Fin 32) (h : Fin 16) (n : Fin 256)
    (hs : ∀ j, ∃ r : ℝ, s (ix4 b h n j) = (r : EReal)) : ∃ M : ℝ, maxC s (ix3 b h n) = (M : EReal) := by
  have hR : S32x16x256x256.Reduces [3] S32x16x256 := by decide
  have hl : ∀ k, hR.lift (ix3 b h n) k = ix4 b h n k := fun k => by
    funext a; fin_cases a <;> rfl
  obtain ⟨M, hM⟩ := reduce_max_real s (constant S_ .f32 0xFF800000#32) reducesTo_S32x16x256x256_S32x16x256_d3 hR h_S_ (by decide)
    minus_inf (ix3 b h n) fun k => by
      obtain ⟨r, hr⟩ := hs k
      exact ⟨r, (congrArg s (hl k)).trans hr⟩
  refine ⟨M, ?_⟩
  unfold maxC rowMaxC
  exact (maximum_bot _ _ _ ((constant_at _ _ _).trans minus_inf)).trans hM

end Cert.ReferenceIdeal.Value

end
-- ==== Proof.ReferenceEq.lean ====
module

public import proofs.«01_k».proof.Proof.Reference

@[expose] public section

/-! # The reference's result is the attention of its arguments -/

set_option maxRecDepth 16384

noncomputable section

namespace Cert.ReferenceIdeal.Value

open Cert.ReferenceIdeal Cert.ReferenceIdeal.Gen Idealize.ShloMosaic Idealize.ShloMosaic.TcCoe Idealize.SL.Sem
open Attn

/-- One row: the softmax of real scores in natural units, at any real shift, averages as the attention does. -/
theorem row_average {ι : Type*} [Fintype ι] [Nonempty ι] (s : ι → ℝ) (v : ι → EReal) (M : ℝ) (x e : ι → EReal)
    (hx : ∀ j, x j = ((s j : ℝ) : EReal) * ((Real.log 2 : ℝ) : EReal)) (he : ∀ j, e j = Ideal.exp (x j - (M : EReal))) :
    ∑ j, v j * Ideal.div (e j) (∑ j, e j) = average Finset.univ s v := by
  have h : ∀ j, e j = ((Real.exp (s j * Real.log 2 - M) : ℝ) : EReal) := fun j => by
    rw [he, hx, ← EReal.coe_mul, ← EReal.coe_sub]; rfl
  rw [average_exp Finset.univ s v M Finset.univ_nonempty]
  simp only [h]

/-- A latent row of the reference's softmax, where the scores are real times the logarithm of two. -/
theorem latent_row (x : FVec Ideal S32x16x2048x2304 .f32) (b : Fin 32) (h : Fin 16) (n : Fin 2048) (s : Fin 2304 → ℝ)
    (v : Fin 2304 → EReal) (hs : ∀ j, x (ix4 b h n j) = ((s j : ℝ) : EReal) * ((Real.log 2 : ℝ) : EReal)) :
    ∑ j, v j * normL (expL x (maxL x)) (ix4 b h n j) = average Finset.univ s v := by
  obtain ⟨M, hM⟩ := maxL_real x b h n fun j => ⟨_, (hs j).trans (EReal.coe_mul _ _).symm⟩
  simp only [normL_at]
  exact row_average _ _ M (fun j => x (ix4 b h n j)) _ hs fun j => by rw [expL_at, hM]

/-- A context row. -/
theorem context_row (x : FVec Ideal S32x16x256x256 .f32) (b : Fin 32) (h : Fin 16) (n : Fin 256) (s : Fin 256 → ℝ)
    (v : Fin 256 → EReal) (hs : ∀ j, x (ix4 b h n j) = ((s j : ℝ) : EReal) * ((Real.log 2 : ℝ) : EReal)) :
    ∑ j, v j * normC (expC x (maxC x)) (ix4 b h n j) = average Finset.univ s v := by
  obtain ⟨M, hM⟩ := maxC_real x b h n fun j => ⟨_, (hs j).trans (EReal.coe_mul _ _).symm⟩
  simp only [normC_at]
  exact row_average _ _ M (fun j => x (ix4 b h n j)) _ hs fun j => by rw [expC_at, hM]

variable (q : FVec Ideal S32x2304x2048 .bf16) (k : FVec Ideal S32x16x2304x128 .bf16) (v : FVec Ideal S32x1024x2304 .bf16)

/-- A latent token's channel. -/
theorem latent_at (hq : Finite q) (hk : Finite k) (b : Fin 32) (n : Fin 2048) (h : Fin 16) (e : Fin 64) :
    outL v (normL (expL (scoresL q k) (maxL (scoresL q k)))) (ix4 b n h e)
      = average Finset.univ (fun j : Fin 2304 => score q k b ⟨n, by omega⟩ h j) fun j => v (ix3 b ⟨64 * h + e, by omega⟩ j) := by
  rw [outL_at]
  exact latent_row _ b h n _ (fun j => v (ix3 b ⟨64 * h + e, by omega⟩ j)) fun j => by rw [scoresL_at, score_eq q k hq hk]

/-- A context token's channel. -/
theorem context_at (hq : Finite q) (hk : Finite k) (b : Fin 32) (n : Fin 256) (h : Fin 16) (e : Fin 64) :
    outC v (normC (expC (scoresC q k) (maxC (scoresC q k)))) (ix4 b n h e)
      = average Finset.univ (fun j : Fin 256 => score q k b ⟨2048 + n, by omega⟩ h ⟨2048 + j, by omega⟩)
        fun j => v (ix3 b ⟨64 * h + e, by omega⟩ ⟨2048 + j, by omega⟩) := by
  rw [outC_at]
  exact context_row _ b h n _ (fun j => v (ix3 b ⟨64 * h + e, by omega⟩ ⟨2048 + j, by omega⟩)) fun j => by
    rw [scoresC_at, score_eq q k hq hk]

/-- The reference's result. -/
theorem reference_eq (m : (ℓ : Loc nD τ sig) → Buf (Elt Ideal) ℓ) (c : Dev nD) (hq : Finite (s := SQ) (m ((c : Thread nD τ).loc main_arg0)))
    (hk : Finite (s := SK) (m ((c : Thread nD τ).loc main_arg1))) :
    res_out0 m c = result (m ((c : Thread nD τ).loc main_arg0)) (m ((c : Thread nD τ).loc main_arg1)) (m ((c : Thread nD τ).loc main_arg2)) := by
  rw [res_parts]
  funext y
  idx_vars y
  rw [both_at, stacked_at]
  show _ = attended _ _ _ y0 y1 ⟨(y2 : ℕ) / 64, by omega⟩ ⟨(y2 : ℕ) % 64, by omega⟩
  unfold attended
  by_cases h : (y1 : ℕ) < 2048
  · rw [dif_pos h, if_pos h, latent_at _ _ _ hq hk]
  · rw [dif_neg h, if_neg h, context_at _ _ _ hq hk]
    have hn : (⟨2048 + (y1 - 2048), by omega⟩ : Fin 2304) = y1 := Fin.ext (by show 2048 + ((y1 : ℕ) - 2048) = y1; omega)
    simp only [hn]

end Cert.ReferenceIdeal.Value

end
-- ==== Proof.Finite.lean ====
module

public import proofs.«01_k».proof.Proof.Attention
public import proofs.«01_k».proof.Proof.Gen.Pre_finite_scores
public import Idealize.ShloMosaic.Lib.Pointwise

@[expose] public section

/-! # What the precondition says: queries and keys are real -/

set_option maxRecDepth 16384

noncomputable section

namespace Attn

open Idealize.ShloMosaic

/-- An extended real of magnitude below infinity is real. -/
theorem real_of_abs (x : EReal) (h : BitVec.ofBool (decide (FloatOps.absf (F := Ideal) (φ := .f32) x < Ideal.ofBits FTy.f32 0x7F800000#32)) = 1#1) :
    x = ((x.toReal : ℝ) : EReal) := by
  have hc : Ideal.ofBits FTy.f32 0x7F800000#32 = (⊤ : EReal) := by simp [Ideal.ofBits, Ideal.ieee]
  rw [hc] at h
  have h' : FloatOps.absf (F := Ideal) (φ := .f32) x < (⊤ : EReal) := by
    by_contra hn
    rw [decide_eq_false hn] at h
    exact absurd h (by decide)
  induction x with
  | bot => exact absurd h' (by simp [FloatOps.absf])
  | top => exact absurd h' (by simp [FloatOps.absf])
  | coe r => rfl

/-- The precondition's two masks are everywhere true. -/
theorem finite_of_pre (q : FVec Ideal SQ .bf16) (k : FVec Ideal SK .bf16) (v : FVec Ideal SV .bf16)
    (h : (Cert.Pre_finite_scores.fn (F := Ideal) q k v).1 = (fun _ => 1#1) ∧ (Cert.Pre_finite_scores.fn (F := Ideal) q k v).2 = (fun _ => 1#1)) :
    Finite q ∧ Finite k := by
  constructor <;> intro i
  · have hi := congrFun h.1 i
    pointwise [Cert.Pre_finite_scores.fn] at hi
    exact real_of_abs _ hi
  · have hi := congrFun h.2 i
    pointwise [Cert.Pre_finite_scores.fn] at hi
    exact real_of_abs _ hi

end Attn

end
-- ==== Proof.Ffn.Strand.lean ====
module

public import proofs.«01_k».proof.Proof.Gen.Kernel2Ideal.Value

@[expose] public section

/-! # A strand of the feed-forward kernel

A grid point treats its rows in strands of 256. Both launches of the kernel do the same to a strand; here it is written
once, operation by operation, over what the strand loads. -/

set_option maxRecDepth 16384

noncomputable section

namespace Ffn

open Cert.Kernel2Ideal Cert.Kernel2Ideal.Gen Idealize.ShloMosaic Idealize.ShloMosaic.TcCoe Idealize.SL.Sem

variable {F : FTy → Type} [FloatOps F]

/-- The rows over the root of their mean square, times the gains. -/
def rmsRows (t : FVec F S256x1024 .f32) (g : FVec F S1x1024 .f32) : FVec F S256x1024 .f32 :=
  mulf (mulf t (broadcastTo S256x1024 (rsqrt (addf (divf
      (shapeCast S256x1 (multiReduction .add [1] S256 (mulf t t) 0x00000000#32 reduces_S256x1024_S256 (.inl rfl) rfl)
        shapeCasts_S256_S256x1)
      (broadcast S256x1 (Scalar.ofBits .f32 0x44800000#32)))
      (broadcast S256x1 (Scalar.ofBits .f32 0x358637BD#32)))) broadcasts_S256x1_S256x1024))
    (broadcastTo S256x1024 g broadcasts_S1x1024_S256x1024)

/-- Which rows are the context's, the strand starting at row `base` of the array. -/
def isContext (base : BitVec 32) : IVec S256x1 1 :=
  cmpi .sge (addi (broadcast S256x1 base) (iota .tc S256x1 32 [0] iota_S256x1_d0_w32)) (broadcast S256x1 2048#32)

/-- A row of the modulation for each row of the strand: `c` for the context's, `x` for the latents'. -/
def modRows (base : BitVec 32) (c : Vec F S1x1024 .f32) (x : Vec F S1x1x1024 .f32) : FVec F S256x1024 .f32 :=
  select (broadcastTo S256x1024 (shapeCast S256x1 (isContext base) shapeCasts_S256x1_S256x1) broadcasts_S256x1_S256x1024)
    (broadcastTo S256x1024 (shapeCast S1x1024 c shapeCasts_S1x1024_S1x1024) broadcasts_S1x1024_S256x1024)
    (broadcastTo S256x1024 (shapeCast S1x1024 (shapeCast S1x1024 x shapeCasts_S1x1x1024_S1x1024) shapeCasts_S1x1024_S1x1024)
      broadcasts_S1x1024_S256x1024)

/-- The rows of the block. -/
def rows (x : Vec F S1x256x1024 .f32) : FVec F S256x1024 .f32 := shapeCast S256x1024 x shapeCasts_S1x256x1024_S256x1024

/-- The normalized rows, scaled and shifted. -/
def modulatedRows (x : FVec F S256x1024 .f32) (g : FVec F S1x1024 .f32) (scale shift : FVec F S256x1024 .f32) :
    FVec F S256x1024 .bf16 :=
  truncf .bf16 (addf (mulf (rmsRows x g) (addf (broadcast S256x1024 (Scalar.ofBits .f32 0x3F800000#32)) scale)) shift)
    bitsLt_bf16_f32

/-- The product with 768 columns of a weight. -/
def proj (u : FVec F S256x1024 .bf16) (w : FVec F S1024x768 .bf16) : FVec F S256x768 .f32 :=
  matmul dot_S256x1024_S1024x768_S256x768_1_0_0_1_n_n none u w (constant S256x768 .f32 0x00000000#32)

/-- The product with the last 512 columns. -/
def projLast (u : FVec F S256x1024 .bf16) (w : FVec F S1024x512 .bf16) : FVec F S256x512 .f32 :=
  matmul dot_S256x1024_S1024x512_S256x512_1_0_0_1_n_n none u w (constant S256x512 .f32 0x00000000#32)

/-- The hidden channels from their gates and values. -/
def hidden {s : Shape} (a b : FVec F s .f32) : FVec F s .bf16 := truncf .bf16 (mulf (mulf a (logistic a)) b) bitsLt_bf16_f32

/-- What 768 hidden channels contribute. -/
def part (u : FVec F S256x1024 .bf16) (wg wu : FVec F S1024x768 .bf16) (wd : FVec F S768x1024 .bf16) : FVec F S256x1024 .f32 :=
  matmul dot_S256x768_S768x1024_S256x1024_1_0_0_1_n_n none (hidden (proj u wg) (proj u wu)) wd (constant S256x1024 .f32 0x00000000#32)

/-- What the last 512 contribute. -/
def partLast (u : FVec F S256x1024 .bf16) (wg wu : FVec F S1024x512 .bf16) (wd : FVec F S512x1024 .bf16) : FVec F S256x1024 .f32 :=
  matmul dot_S256x512_S512x1024_S256x1024_1_0_0_1_n_n none (hidden (projLast u wg) (projLast u wu)) wd
    (constant S256x1024 .f32 0x00000000#32)

/-- The gated unit, chunk by chunk. -/
def unitRows (u : FVec F S256x1024 .bf16) (wg wu : Vec F S1024x2816 .bf16) (wd : Vec F S2816x1024 .bf16) : FVec F S256x1024 .f32 :=
  addf (addf (addf
    (part u (View.ld wg r0_6) (View.ld wu r0_6) (View.ld wd r0_12))
    (part u (View.ld wg r0_8) (View.ld wu r0_8) (View.ld wd r0_13)))
    (part u (View.ld wg r0_10) (View.ld wu r0_10) (View.ld wd r0_14)))
    (partLast u (View.ld wg r0_11) (View.ld wu r0_11) (View.ld wd r0_15))

/-- The input, plus half the gated, normalized rows. -/
def residual (x gate y : FVec F S256x1024 .f32) (g : FVec F S1x1024 .f32) : Vec F S1x256x1024 .f32 :=
  shapeCast S1x256x1024 (addf x (mulf (mulf (broadcast S256x1024 (Scalar.ofBits .f32 0x3F000000#32)) gate) (rmsRows y g)))
    shapeCasts_S256x1024_S1x256x1024

/-- The strand: from its rows, the modulation's three rows for the latents and for the context, the gains and the weights. -/
def strand (base : BitVec 32) (x : Vec F S1x256x1024 .f32) (shiftX scaleX gateX : Vec F S1x1x1024 .f32)
    (shiftC scaleC gateC gin gout : Vec F S1x1024 .f32) (wg wu : Vec F S1024x2816 .bf16) (wd : Vec F S2816x1024 .bf16) :
    Vec F S1x256x1024 .f32 :=
  residual (rows x) (modRows base gateC gateX)
    (unitRows (modulatedRows (rows x) gin (modRows base scaleC scaleX) (modRows base shiftC shiftX)) wg wu wd) gout

/-! ## What a strand loads -/

theorem inb_x (j : Fin 9) (a : Fin S1x9x1024.rank) : (![0, (j : ℕ), 0] : Fin 3 → ℕ) a + S1x1x1024.size a ≤ S1x9x1024.size a := by
  revert a; revert j; decide

theorem inb_c (j : Fin 9) (a : Fin S9x1024.rank) : (![(j : ℕ), 0] : Fin 2 → ℕ) a + S1x1024.size a ≤ S9x1024.size a := by
  revert a; revert j; decide

/-- Row `j` of the latents' modulation. -/
def modX (x : Vec F S1x9x1024 .f32) (j : Fin 9) : Vec F S1x1x1024 .f32 :=
  View.ld x (Rect.unit (s := S1x9x1024) ![0, (j : ℕ), 0] S1x1x1024.size (inb_x j))

/-- Row `j` of the context's modulation. -/
def modC (x : Vec F S9x1024 .f32) (j : Fin 9) : Vec F S1x1024 .f32 :=
  View.ld x (Rect.unit (s := S9x1024) ![(j : ℕ), 0] S1x1024.size (inb_c j))

/-- The row of gains. -/
def gains (x : Vec F S1x1024 .f32) : Vec F S1x1024 .f32 := View.ld x r0_1

/-- The strand over the blocks of a grid point, its shift being row `k` of the modulation. -/
def strandOf (k : Fin 7) (base : BitVec 32) (x : Vec F S1x256x1024 .f32) (x1 : Vec F S1x9x1024 .f32) (x2 : Vec F S9x1024 .f32)
    (x3 x4 : Vec F S1x1024 .f32) (x5 x6 : Vec F S1024x2816 .bf16) (x7 : Vec F S2816x1024 .bf16) : Vec F S1x256x1024 .f32 :=
  strand base x (modX x1 ⟨k, by omega⟩) (modX x1 ⟨k + 1, by omega⟩) (modX x1 ⟨k + 2, by omega⟩)
    (modC x2 ⟨k, by omega⟩) (modC x2 ⟨k + 1, by omega⟩) (modC x2 ⟨k + 2, by omega⟩) (gains x3) (gains x4) x5 x6 x7

/-- The number of a strand's first row: row `o` of tile `T` of `tm` rows. -/
def base (T tm o : ℕ) : BitVec 32 := Scalar.addi (Scalar.muli (BitVec.ofNat 32 T) (BitVec.ofNat 32 tm)) (BitVec.ofNat 32 o)

theorem base_eq (T tm o : ℕ) : base T tm o = BitVec.ofNat 32 (T * tm + o) := by
  rw [BitVec.ofNat_add, BitVec.ofNat_mul]
  rfl

end Ffn

end
-- ==== Proof.Ffn.Pieces2.lean ====
module

public import proofs.«01_k».proof.Proof.Ffn.Strand

@[expose] public section

/-! # What a grid point of the first half step stores: three strands -/

set_option maxRecDepth 16384

noncomputable section

namespace Ffn

open Cert.Kernel2Ideal Cert.Kernel2Ideal.Gen Idealize.ShloMosaic Idealize.ShloMosaic.TcCoe Idealize.SL.Sem

variable {F : FTy → Type} [FloatOps F]

theorem inb_strand2 (s : Fin 3) (a : Fin S1x768x1024.rank) :
    (![0, 256 * (s : ℕ), 0] : Fin 3 → ℕ) a + S1x256x1024.size a ≤ S1x768x1024.size a := by
  revert a; revert s; decide

/-- The rows of strand `s` of a tile of 768. -/
abbrev rect2 (s : Fin 3) : Rect S1x768x1024 := Rect.unit (s := S1x768x1024) ![0, 256 * (s : ℕ), 0] S1x256x1024.size (inb_strand2 s)

/-- The rows of the strand. -/
def load2 (x : Vec F S1x768x1024 .f32) (s : Fin 3) : Vec F S1x256x1024 .f32 := View.ld x (rect2 s)

/-- Strand `s` of tile `T`. -/
def strand2 (T : ℕ) (x0 : Vec F S1x768x1024 .f32) (x1 : Vec F S1x9x1024 .f32) (x2 : Vec F S9x1024 .f32)
    (x3 x4 : Vec F S1x1024 .f32) (x5 x6 : Vec F S1024x2816 .bf16) (x7 : Vec F S2816x1024 .bf16) (s : Fin 3) : Vec F S1x256x1024 .f32 :=
  strandOf 0 (base T 768 (256 * s)) (load2 x0 s) x1 x2 x3 x4 x5 x6 x7

/-- The pieces of tile `T`, the last store first. -/
def pieces2 (T : ℕ) (x0 : Vec F S1x768x1024 .f32) (x1 : Vec F S1x9x1024 .f32) (x2 : Vec F S9x1024 .f32)
    (x3 x4 : Vec F S1x1024 .f32) (x5 x6 : Vec F S1024x2816 .bf16) (x7 : Vec F S2816x1024 .bf16) :
    List (View.Piece (Elt F) S1x768x1024 .f32) :=
  List.ofFn fun s : Fin 3 => ⟨rect2 (Fin.rev s), strand2 T x0 x1 x2 x3 x4 x5 x6 x7 (Fin.rev s)⟩

/-- The body leaves these. -/
theorem out2 (i : grid0.Coords) (x0 : Vec F S1x768x1024 .f32) (x1 : Vec F S1x9x1024 .f32) (x2 : Vec F S9x1024 .f32)
    (x3 x4 : Vec F S1x1024 .f32) (x5 x6 : Vec F S1024x2816 .bf16) (x7 : Vec F S2816x1024 .bf16) :
    out0_8 i x0 x1 x2 x3 x4 x5 x6 x7 = View.canon (pieces2 (i 1).val x0 x1 x2 x3 x4 x5 x6 x7) := rfl

end Ffn

end
-- ==== Proof.Ffn.Math.lean ====
module

public import Idealize.ShloMosaic.Lib.Pointwise

@[expose] public section

/-! # The feed-forward half step of one token

A token is a vector of 1024 channels. It is normalized, modulated, sent through the gated unit of 2816 hidden channels,
normalized again, gated and added to itself with the factor one half. -/

noncomputable section

namespace Ffn

open Idealize.ShloMosaic

/-- The constants of the half step, as the programs write them. -/
abbrev width : EReal := Ideal.ofBits .f32 0x44800000#32
abbrev eps : EReal := Ideal.ofBits .f32 0x358637BD#32
abbrev half : EReal := Ideal.ofBits .f32 0x3F000000#32

/-- The constant one. -/
theorem one_eq : Ideal.ofBits .f32 0x3F800000#32 = 1 := by
  simp [Ideal.ofBits, Ideal.ieee, -EReal.coe_mul]
  norm_num

/-- A sum or a product of arrays at an index. -/
theorem addf_at {s : Shape} (x y : FVec Ideal s .f32) (i : s.Idx) : addf x y i = x i + y i := rfl
theorem mulf_at {s : Shape} (x y : FVec Ideal s .f32) (i : s.Idx) : mulf x y i = x i * y i := rfl

/-- A vector over the root of its mean square, times the gains. -/
def rms (t g : Fin 1024 → EReal) (l : Fin 1024) : EReal :=
  t l * Ideal.rsqrt (Ideal.div (∑ k, t k * t k) width + eps) * g l

/-- The normalized vector, scaled and shifted. -/
def modulated (x g scale shift : Fin 1024 → EReal) (l : Fin 1024) : EReal := rms x g l * (1 + scale l) + shift l

/-- One channel of a product with a matrix. -/
def times (u : Fin 1024 → EReal) (w : Fin 1024 → Fin 2816 → EReal) (f : Fin 2816) : EReal := ∑ k, u k * w k f

/-- A hidden channel from its gate and its value. -/
def gated (a b : EReal) : EReal := a * Ideal.logistic a * b

/-- The gated unit. -/
def unit (u : Fin 1024 → EReal) (wg wu : Fin 1024 → Fin 2816 → EReal) (wd : Fin 2816 → Fin 1024 → EReal) (l : Fin 1024) : EReal :=
  ∑ f, gated (times u wg f) (times u wu f) * wd f l

/-- The half step of a token. -/
def halfStep (x scale shift gate gin gout : Fin 1024 → EReal) (wg wu : Fin 1024 → Fin 2816 → EReal)
    (wd : Fin 2816 → Fin 1024 → EReal) (l : Fin 1024) : EReal :=
  x l + half * gate l * rms (unit (modulated x gin scale shift) wg wu wd) gout l

/-- A row of the modulation of token `n`: the context's row `c` from token 2048 on, its batch element's row `x` before. -/
def modAt (n : ℕ) (c x : Fin 1024 → EReal) (l : Fin 1024) : EReal := if 2048 ≤ n then c l else x l

/-- The sum over the hidden channels in four chunks. -/
theorem sum_chunks (f : Fin 2816 → EReal) :
    ∑ j, f j = ∑ a : Fin 768, f ⟨a, by omega⟩ + ∑ a : Fin 768, f ⟨768 + a, by omega⟩ + ∑ a : Fin 768, f ⟨1536 + a, by omega⟩
      + ∑ a : Fin 512, f ⟨2304 + a, by omega⟩ := by
  have h : ∑ j, f j = ∑ j : Fin (768 + 768 + 768 + 512), f (Fin.cast (by norm_num) j) := rfl
  rw [h, Fin.sum_univ_add, Fin.sum_univ_add, Fin.sum_univ_add]
  rfl

end Ffn

end
-- ==== Proof.Ffn.StrandValue.lean ====
module

public import proofs.«01_k».proof.Proof.Ffn.Math
public import proofs.«01_k».proof.Proof.Ffn.Strand
public import Idealize.ShloMosaic.Lib.Pointwise

@[expose] public section

/-! # A strand of the feed-forward kernel, at an index -/

set_option maxRecDepth 16384

noncomputable section

namespace Ffn

open Cert.Kernel2Ideal Cert.Kernel2Ideal.Gen Idealize.ShloMosaic Idealize.ShloMosaic.TcCoe Idealize.SL.Sem

theorem rmsRows_at (t : FVec Ideal S256x1024 .f32) (g : FVec Ideal S1x1024 .f32) (r : Fin 256) (l : Fin 1024) :
    rmsRows t g (ix2 r l) = rms (fun l => t (ix2 r l)) (fun l => g (ix2 0 l)) l := by
  pointwise [rmsRows]
  rfl

theorem rows_at (x : FVec Ideal S1x256x1024 .f32) (r : Fin 256) (l : Fin 1024) :
    rows (F := Ideal) x (ix2 r l) = x (ix3 0 r l) := by
  pointwise [rows]

/-- A row is the context's where its number in the array is 2048 or more. -/
theorem isContext_at (n : ℕ) (hn : n < 4096) (r : Fin 256) :
    isContext (BitVec.ofNat 32 n) (ix2 r 0) = if 2048 ≤ n + r then 1#1 else 0#1 := by
  pointwise [isContext]
  have h : (IntOp.addi (BitVec.ofNat 32 n) (BitVec.ofNat 32 (r : ℕ))).toInt = ((n + r : ℕ) : ℤ) := by
    rw [IntOp.addi, ← BitVec.ofNat_add, BitVec.toInt_ofNat']
    exact Int.bmod_eq_of_le (by omega) (by omega)
  have h' : (2048#32).toInt = 2048 := rfl
  simp only [IntOp.cmpi, BitVec.sle, h, h']
  by_cases hr : 2048 ≤ n + (r : ℕ)
  · rw [if_pos hr, decide_eq_true (by omega)]; rfl
  · rw [if_neg hr, decide_eq_false (by omega)]; rfl

theorem modRows_at (n : ℕ) (hn : n < 4096) (c : FVec Ideal S1x1024 .f32) (x : FVec Ideal S1x1x1024 .f32) (r : Fin 256)
    (l : Fin 1024) :
    modRows (F := Ideal) (BitVec.ofNat 32 n) c x (ix2 r l) = if 2048 ≤ n + r then c (ix2 0 l) else x (ix3 0 0 l) := by
  pointwise [modRows]
  rw [isContext_at n hn]
  split <;> rfl

theorem modulatedRows_at (x : FVec Ideal S256x1024 .f32) (g : FVec Ideal S1x1024 .f32) (scale shift : FVec Ideal S256x1024 .f32)
    (r : Fin 256) (l : Fin 1024) :
    modulatedRows x g scale shift (ix2 r l) = modulated (fun l => x (ix2 r l)) (fun l => g (ix2 0 l))
      (fun l => scale (ix2 r l)) (fun l => shift (ix2 r l)) l := by
  pointwise [modulatedRows]
  rw [rmsRows_at]
  rfl

theorem proj_at (u : FVec Ideal S256x1024 .bf16) (w : FVec Ideal S1024x768 .bf16) (r : Fin 256) (f : Fin 768) :
    proj u w (ix2 r f) = ∑ k : Fin 1024, u (ix2 r k) * w (ix2 k f) := by
  pointwise [proj]

theorem projLast_at (u : FVec Ideal S256x1024 .bf16) (w : FVec Ideal S1024x512 .bf16) (r : Fin 256) (f : Fin 512) :
    projLast u w (ix2 r f) = ∑ k : Fin 1024, u (ix2 r k) * w (ix2 k f) := by
  pointwise [projLast]

theorem part_at (u : FVec Ideal S256x1024 .bf16) (wg wu : FVec Ideal S1024x768 .bf16) (wd : FVec Ideal S768x1024 .bf16)
    (r : Fin 256) (l : Fin 1024) :
    part u wg wu wd (ix2 r l) = ∑ f : Fin 768, gated (proj u wg (ix2 r f)) (proj u wu (ix2 r f)) * wd (ix2 f l) := by
  pointwise [part, hidden]
  rfl

theorem partLast_at (u : FVec Ideal S256x1024 .bf16) (wg wu : FVec Ideal S1024x512 .bf16) (wd : FVec Ideal S512x1024 .bf16)
    (r : Fin 256) (l : Fin 1024) :
    partLast u wg wu wd (ix2 r l) = ∑ f : Fin 512, gated (projLast u wg (ix2 r f)) (projLast u wu (ix2 r f)) * wd (ix2 f l) := by
  pointwise [partLast, hidden]
  rfl

theorem residual_at (x gate y : FVec Ideal S256x1024 .f32) (g : FVec Ideal S1x1024 .f32) (r : Fin 256) (l : Fin 1024) :
    residual x gate y g (ix3 0 r l) = x (ix2 r l)
      + half * gate (ix2 r l) * rms (fun l => y (ix2 r l)) (fun l => g (ix2 0 l)) l := by
  pointwise [residual]
  rw [rmsRows_at]

/-- The four chunks together are the gated unit. -/
theorem unitRows_at (u : FVec Ideal S256x1024 .bf16) (wg wu : FVec Ideal S1024x2816 .bf16) (wd : FVec Ideal S2816x1024 .bf16)
    (r : Fin 256) (l : Fin 1024) :
    unitRows (F := Ideal) u wg wu wd (ix2 r l) = unit (fun k => u (ix2 r k)) (fun k f => wg (ix2 k f)) (fun k f => wu (ix2 k f))
      (fun f l => wd (ix2 f l)) l := by
  rw [unit, sum_chunks, unitRows]
  pointwise
  simp only [part_at, partLast_at, proj_at, projLast_at]
  pointwise
  rfl

theorem modX_at (x : FVec Ideal S1x9x1024 .f32) (j : Fin 9) (l : Fin 1024) : modX (F := Ideal) x j (ix3 0 0 l) = x (ix3 0 j l) := by
  pointwise [modX]

theorem modC_at (x : FVec Ideal S9x1024 .f32) (j : Fin 9) (l : Fin 1024) : modC (F := Ideal) x j (ix2 0 l) = x (ix2 j l) := by
  pointwise [modC]

/-- A loaded row of gains. -/
theorem gains_at (x : FVec Ideal S1x1024 .f32) (l : Fin 1024) : gains (F := Ideal) x (ix2 0 l) = x (ix2 0 l) := by
  pointwise [gains]

/-- A row of the strand is the half step of that row. -/
theorem strandOf_at (k : Fin 7) (n : ℕ) (hn : n < 4096) (x : FVec Ideal S1x256x1024 .f32) (x1 : FVec Ideal S1x9x1024 .f32)
    (x2 : FVec Ideal S9x1024 .f32) (x3 x4 : FVec Ideal S1x1024 .f32) (x5 x6 : FVec Ideal S1024x2816 .bf16)
    (x7 : FVec Ideal S2816x1024 .bf16) (r : Fin 256) (l : Fin 1024) :
    strandOf (F := Ideal) k (BitVec.ofNat 32 n) x x1 x2 x3 x4 x5 x6 x7 (ix3 0 r l)
      = halfStep (fun l => x (ix3 0 r l)) (modAt (n + r) (fun l => x2 (ix2 ⟨k + 1, by omega⟩ l)) (fun l => x1 (ix3 0 ⟨k + 1, by omega⟩ l))) (modAt (n + r) (fun l => x2 (ix2 ⟨k, by omega⟩ l)) (fun l => x1 (ix3 0 ⟨k, by omega⟩ l)))
          (modAt (n + r) (fun l => x2 (ix2 ⟨k + 2, by omega⟩ l)) (fun l => x1 (ix3 0 ⟨k + 2, by omega⟩ l)))
          (fun l => x3 (ix2 0 l)) (fun l => x4 (ix2 0 l))
          (fun k f => x5 (ix2 k f)) (fun k f => x6 (ix2 k f)) (fun f l => x7 (ix2 f l)) l := by
  rw [strandOf, strand, residual_at]
  simp only [unitRows_at, modulatedRows_at, rows_at, modRows_at n hn, modX_at, modC_at, gains_at]
  rfl

end Ffn

end
-- ==== Proof.Ffn.Point2.lean ====
module

public import proofs.«01_k».proof.Proof.Ffn.Pieces2
public import proofs.«01_k».proof.Proof.Ffn.StrandValue
public import Idealize.ShloMosaic.Lib.Pipeline.ValueKit

@[expose] public section

/-! # The result array of the first half step

Every row of the array is the half step of its token: a latent token's modulation is its batch element's, a context
token's the context's. -/

set_option maxRecDepth 16384

noncomputable section

namespace Ffn

open Cert.Kernel2Ideal Cert.Kernel2Ideal.Gen Idealize.ShloMosaic Idealize.ShloMosaic.TcCoe Idealize.SL.Sem
open Idealize.ShloMosaic.Pipeline (Dat)

/-- The first half step of both streams. -/
def result2 (x : FVec Ideal S32x2304x1024 .f32) (modx : FVec Ideal S32x9x1024 .f32) (modc : FVec Ideal S9x1024 .f32)
    (gin gout : FVec Ideal S1x1024 .f32) (wg wu : FVec Ideal S1024x2816 .bf16) (wd : FVec Ideal S2816x1024 .bf16) :
    FVec Ideal S32x2304x1024 .f32 := fun y =>
  halfStep (fun l => x (ix3 (y 0) (y 1) l))
    (modAt ((y 1 : ℕ)) (fun l => modc (ix2 1 l)) (fun l => modx (ix3 (y 0) 1 l)))
    (modAt ((y 1 : ℕ)) (fun l => modc (ix2 0 l)) (fun l => modx (ix3 (y 0) 0 l)))
    (modAt ((y 1 : ℕ)) (fun l => modc (ix2 2 l)) (fun l => modx (ix3 (y 0) 2 l)))
    (fun l => gin (ix2 0 l)) (fun l => gout (ix2 0 l)) (fun k f => wg (ix2 k f)) (fun k f => wu (ix2 k f)) (fun f l => wd (ix2 f l)) (y 2)

theorem load2_at (x : FVec Ideal S1x768x1024 .f32) (s : Fin 3) (r : Fin 256) (l : Fin 1024) :
    load2 (F := Ideal) x s (ix3 0 r l) = x (ix3 0 ⟨256 * s + r, by omega⟩ l) := by
  pointwise [load2]

/-- What the pieces of tile `T` hold at row `r`. -/
theorem canon2 (T : ℕ) (hT : T < 3) (x0 : FVec Ideal S1x768x1024 .f32) (x1 : FVec Ideal S1x9x1024 .f32) (x2 : FVec Ideal S9x1024 .f32)
    (x3 x4 : FVec Ideal S1x1024 .f32) (x5 x6 : FVec Ideal S1024x2816 .bf16) (x7 : FVec Ideal S2816x1024 .bf16)
    (r : Fin 768) (l : Fin 1024) :
    View.canon (pieces2 (F := Ideal) T x0 x1 x2 x3 x4 x5 x6 x7) (ix3 0 r l)
      = halfStep (fun l => x0 (ix3 0 r l)) (modAt (T * 768 + r) (fun l => x2 (ix2 1 l)) (fun l => x1 (ix3 0 1 l))) (modAt (T * 768 + r) (fun l => x2 (ix2 0 l)) (fun l => x1 (ix3 0 0 l)))
          (modAt (T * 768 + r) (fun l => x2 (ix2 2 l)) (fun l => x1 (ix3 0 2 l))) (fun l => x3 (ix2 0 l)) (fun l => x4 (ix2 0 l))
          (fun k f => x5 (ix2 k f)) (fun k f => x6 (ix2 k f)) (fun f l => x7 (ix2 f l)) l := by
  unfold pieces2
  refine View.canon_ofFn_unit_eq_of_forall _ _ _ _ _ _ ?_ ?_
  · refine ⟨Fin.rev ⟨(r : ℕ) / 256, by omega⟩, fun a => ?_⟩
    fin_cases a <;> simp <;> omega
  · intro k
    tile_intro y h
    generalize Fin.rev k = s at *
    idx_vars y
    have hr : (r : ℕ) = 256 * s + y1 := h1
    have hl : y2 = l := Fin.ext h2.symm
    subst hl
    obtain rfl : y0 = 0 := Subsingleton.elim _ _
    rw [strand2, base_eq, strandOf_at _ _ (by omega)]
    have hx : (⟨256 * s + y1, by omega⟩ : Fin 768) = r := Fin.ext hr.symm
    have hn : T * 768 + 256 * (s : ℕ) + y1 = T * 768 + r := by omega
    simp only [load2_at, hx, hn]
    rfl

/-- Which block of each window a point holds: batch element `t / 3`, tile `t % 3`. -/
theorem idx2 : ∀ t : Fin cfg0.N, (grid0.coords t 1).val = t.val % 3 ∧ win0_0.index t = ![t.val / 3, t.val % 3, 0]
    ∧ win0_1.index t = ![t.val / 3, 0, 0] ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_8.index t = ![t.val / 3, t.val % 3, 0] :=
  (by decide +kernel : ∀ t : Fin grid0.N, _)

variable (m : (ℓ : Loc nD τ sig) → Buf (Elt Ideal) ℓ) (c : Dev nD) (t : Fin cfg0.N)

/-- The blocks of a point. -/
abbrev tile2 : FVec Ideal S1x768x1024 .f32 := iblk m c 0 t
abbrev modx2 : FVec Ideal S1x9x1024 .f32 := iblk m c 1 t
abbrev modc2 : FVec Ideal S9x1024 .f32 := iblk m c 2 t
abbrev gin2 : FVec Ideal S1x1024 .f32 := iblk m c 3 t
abbrev gout2 : FVec Ideal S1x1024 .f32 := iblk m c 4 t
abbrev wg2 : FVec Ideal S1024x2816 .bf16 := iblk m c 5 t
abbrev wu2 : FVec Ideal S1024x2816 .bf16 := iblk m c 6 t
abbrev wd2 : FVec Ideal S2816x1024 .bf16 := iblk m c 7 t

/-- The arguments. -/
abbrev argX2 : FVec Ideal S32x2304x1024 .f32 := m ((c : Thread nD τ).loc main_arg0)
abbrev argModx2 : FVec Ideal S32x9x1024 .f32 := m ((c : Thread nD τ).loc main_arg1)
abbrev argModc2 : FVec Ideal S9x1024 .f32 := m ((c : Thread nD τ).loc main_arg2)
abbrev argGin2 : FVec Ideal S1x1024 .f32 := m ((c : Thread nD τ).loc main_arg3)
abbrev argGout2 : FVec Ideal S1x1024 .f32 := m ((c : Thread nD τ).loc main_arg4)
abbrev argWg2 : FVec Ideal S1024x2816 .bf16 := m ((c : Thread nD τ).loc main_arg5)
abbrev argWu2 : FVec Ideal S1024x2816 .bf16 := m ((c : Thread nD τ).loc main_arg6)
abbrev argWd2 : FVec Ideal S2816x1024 .bf16 := m ((c : Thread nD τ).loc main_arg7)

theorem tile2_at (b : Fin 32) (T : Fin 3) (hb : (b : ℕ) = t.val / 3) (hT : (T : ℕ) = t.val % 3) (r : Fin 768) (l : Fin 1024) :
    tile2 m c t (ix3 0 r l) = argX2 m c (ix3 b ⟨T * 768 + r, by omega⟩ l) := by
  blk_point [iblk, V, idx2 t]

theorem modx2_at (b : Fin 32) (hb : (b : ℕ) = t.val / 3) (j : Fin 9) (l : Fin 1024) :
    modx2 m c t (ix3 0 j l) = argModx2 m c (ix3 b j l) := by
  blk_point [iblk, V, idx2 t]

theorem modc2_at (j : Fin 9) (l : Fin 1024) : modc2 m c t (ix2 j l) = argModc2 m c (ix2 j l) := by
  blk_point [iblk, V, idx2 t]

theorem gin2_at (l : Fin 1024) : gin2 m c t (ix2 0 l) = argGin2 m c (ix2 0 l) := by
  blk_point [iblk, V, idx2 t]

theorem gout2_at (l : Fin 1024) : gout2 m c t (ix2 0 l) = argGout2 m c (ix2 0 l) := by
  blk_point [iblk, V, idx2 t]

theorem wg2_at (k : Fin 1024) (f : Fin 2816) : wg2 m c t (ix2 k f) = argWg2 m c (ix2 k f) := by
  blk_point [iblk, V, idx2 t]

theorem wu2_at (k : Fin 1024) (f : Fin 2816) : wu2 m c t (ix2 k f) = argWu2 m c (ix2 k f) := by
  blk_point [iblk, V, idx2 t]

theorem wd2_at (f : Fin 2816) (l : Fin 1024) : wd2 m c t (ix2 f l) = argWd2 m c (ix2 f l) := by
  blk_point [iblk, V, idx2 t]

/-- What a point leaves, at row `r` of its tile. -/
theorem point2 (b : Fin 32) (T : Fin 3) (hb : (b : ℕ) = t.val / 3) (hT : (T : ℕ) = t.val % 3) (r : Fin 768) (l : Fin 1024) :
    out0_8 (F := Ideal) (grid0.coords t) (tile2 m c t) (modx2 m c t) (modc2 m c t) (gin2 m c t) (gout2 m c t) (wg2 m c t) (wu2 m c t)
        (wd2 m c t) (ix3 0 r l)
      = result2 (argX2 m c) (argModx2 m c) (argModc2 m c) (argGin2 m c) (argGout2 m c) (argWg2 m c) (argWu2 m c) (argWd2 m c)
          (ix3 b ⟨T * 768 + r, by omega⟩ l) := by
  rw [out2, (idx2 t).1, ← hT, canon2 T T.isLt]
  simp only [tile2_at m c t b T hb hT, modx2_at m c t b hb, modc2_at, gin2_at, gout2_at, wg2_at, wu2_at, wd2_at]
  rfl

/-- The result array of the run. -/
theorem final2 : (dats m 0 c).arrAt 8 cfg0.N
    = result2 (argX2 m c) (argModx2 m c) (argModc2 m c) (argGin2 m c) (argGout2 m c) (argWg2 m c) (argWu2 m c) (argWd2 m c) := by
  refine (dats m 0 c).arrAt_eq_of_covers 8 _ (by decide +kernel) fun t _ y => ?_
  have hN : t.val < 96 := lt_of_lt_of_eq t.isLt (show cfg0.N = 96 from N_0)
  blk_simp
  rw [after0_8]
  idx_vars y
  obtain rfl : y0 = 0 := Subsingleton.elim _ _
  refine (point2 m c t ⟨t.val / 3, by omega⟩ ⟨t.val % 3, by omega⟩ rfl rfl y1 y2).trans ?_
  refine congrArg _ ?_
  blk_ext [idx2 t]

end Ffn

end
-- ==== Proof.Ffn.HostLatent.lean ====
module

public import proofs.«01_k».proof.Proof.Ffn.Math
public import proofs.«01_k».proof.Proof.Gen.Reference3Ideal.Run

@[expose] public section

/-! # The reference's half step of the latent tokens, operation by operation -/

set_option maxRecDepth 16384

noncomputable section

namespace Ffn

open Cert.Reference3Ideal Cert.Reference3Ideal.Gen Idealize.ShloMosaic Idealize.ShloMosaic.TcCoe Idealize.SL.Sem

section Parts

variable {F : FTy → Type} [FloatOps F]

/-- The latent tokens. -/
def latents (x : FVec F S32x2304x1024 .f32) : FVec F S32x2048x1024 .f32 :=
  extractStridedSlice S32x2048x1024 ![0, 0, 0] x slices_S32x2304x1024_S32x2048x1024_0_0_0

/-- The gains at every token. -/
def gainsL (g : FVec F S1x1024 .f32) : FVec F S32x2048x1024 .f32 :=
  broadcastInDim S32x2048x1024 ![0, 1, 2] bcast_S1x1x1024_S32x2048x1024_0_1_2
    (broadcastInDim S1x1x1024 ![2] bcast_S1024_S1x1x1024_2 (shapeCast S1024 g shapeCasts_S1x1024_S1024))

/-- One row of each batch element's modulation. -/
def rowL (r : FVec F S32x1x1024 .f32) : FVec F S32x1x1024 .f32 :=
  broadcastInDim S32x1x1024 ![0, 2] bcast_S32x1024_S32x1x1024_0_2 (shapeCast S32x1024 r shapeCasts_S32x1x1024_S32x1024)

/-- A row of the modulation at every token. -/
def everyL (r : FVec F S32x1x1024 .f32) : FVec F S32x2048x1024 .f32 :=
  broadcastInDim S32x2048x1024 ![0, 1, 2] bcast_S32x1x1024_S32x2048x1024_0_1_2 r

/-- A number at every channel of a row of the modulation. -/
def numberL (v : BitVec (FTy.bits .f32)) : FVec F S32x1x1024 .f32 :=
  broadcastInDim S32x1x1024 ![] bcast_S_S32x1x1024 (constant S_ .f32 v)

/-- The normalization. -/
def rmsL (t g : FVec F S32x2048x1024 .f32) : FVec F S32x2048x1024 .f32 :=
  mulf (mulf t (broadcastInDim S32x2048x1024 ![0, 1, 2] bcast_S32x2048x1_S32x2048x1024_0_1_2 (Host.rsqrt (addf
    (Host.divf (broadcastInDim S32x2048x1 ![0, 1] bcast_S32x2048_S32x2048x1_0_1
        (Host.reduceAdd (mulf t t) (constant S_ .f32 0x00000000#32) reducesTo_S32x2048x1024_S32x2048_d2 h_S_))
      (broadcastInDim S32x2048x1 ![] bcast_S_S32x2048x1 (constant S_ .f32 0x44800000#32)))
    (broadcastInDim S32x2048x1 ![] bcast_S_S32x2048x1 (constant S_ .f32 0x358637BD#32)))))) g

/-- The modulation. -/
def modulatedL (x : FVec F S32x2048x1024 .f32) (g : FVec F S1x1024 .f32) (scale shift : FVec F S32x1x1024 .f32) :
    FVec F S32x2048x1024 .f32 :=
  addf (mulf (rmsL x (gainsL g)) (everyL (addf (numberL 0x3F800000#32) (rowL scale)))) (everyL (rowL shift))

/-- The product with a weight. -/
def projL (u : FVec F S32x2048x1024 .f32) (w : FVec F S1024x2816 .bf16) : FVec F S32x2048x2816 .f32 :=
  Host.dotGeneral dot_S32x2048x1024_S1024x2816_S32x2048x2816_2_0_01_1_n_n none u (extf .f32 w bitsLt_bf16_f32)

/-- The gate. -/
def siluL (a : FVec F S32x2048x2816 .f32) : FVec F S32x2048x2816 .f32 :=
  mulf a (Host.divf (broadcastInDim S32x2048x2816 ![] bcast_S_S32x2048x2816 (constant S_ .f32 0x3F800000#32))
    (addf (broadcastInDim S32x2048x2816 ![] bcast_S_S32x2048x2816 (constant S_ .f32 0x3F800000#32)) (Host.exp (Host.negf a))))

/-- The gated unit. -/
def unitL (u : FVec F S32x2048x1024 .f32) (wg wu : FVec F S1024x2816 .bf16) (wd : FVec F S2816x1024 .bf16) :
    FVec F S32x2048x1024 .f32 :=
  Host.dotGeneral dot_S32x2048x2816_S2816x1024_S32x2048x1024_2_0_01_1_n_n none (mulf (siluL (projL u wg)) (projL u wu))
    (extf .f32 wd bitsLt_bf16_f32)

/-- The half step. -/
def halfL (x : FVec F S32x2048x1024 .f32) (shift scale gate : FVec F S32x1x1024 .f32) (gin gout : FVec F S1x1024 .f32)
    (wg wu : FVec F S1024x2816 .bf16) (wd : FVec F S2816x1024 .bf16) : FVec F S32x2048x1024 .f32 :=
  addf x (mulf (everyL (mulf (numberL 0x3F000000#32) (rowL gate)))
    (rmsL (unitL (modulatedL x gin scale shift) wg wu wd) (gainsL gout)))

/-- Row 6, 7 or 8 of the modulation. -/
def row6 (x : FVec F S32x9x1024 .f32) : FVec F S32x1x1024 .f32 :=
  extractStridedSlice S32x1x1024 ![0, 6, 0] x slices_S32x9x1024_S32x1x1024_0_6_0
def row7 (x : FVec F S32x9x1024 .f32) : FVec F S32x1x1024 .f32 :=
  extractStridedSlice S32x1x1024 ![0, 7, 0] x slices_S32x9x1024_S32x1x1024_0_7_0
def row8 (x : FVec F S32x9x1024 .f32) : FVec F S32x1x1024 .f32 :=
  extractStridedSlice S32x1x1024 ![0, 8, 0] x slices_S32x9x1024_S32x1x1024_0_8_0

/-- The last half step's result is made of these. -/
theorem res3_parts (m : (ℓ : Loc nD τ sig) → Buf (Elt F) ℓ) (c : Dev nD) :
    Value.res_out0 m c = halfL (latents (m ((c : Thread nD τ).loc main_arg0))) (row6 (m ((c : Thread nD τ).loc main_arg1)))
      (row7 (m ((c : Thread nD τ).loc main_arg1))) (row8 (m ((c : Thread nD τ).loc main_arg1)))
      (m ((c : Thread nD τ).loc main_arg3)) (m ((c : Thread nD τ).loc main_arg4)) (m ((c : Thread nD τ).loc main_arg5))
      (m ((c : Thread nD τ).loc main_arg6)) (m ((c : Thread nD τ).loc main_arg7)) := rfl

end Parts

/-! ## The parts at an index -/

theorem latents_at (x : FVec Ideal S32x2304x1024 .f32) (b : Fin 32) (n : Fin 2048) (l : Fin 1024) :
    latents x (ix3 b n l) = x (ix3 b ⟨n, by omega⟩ l) := by
  pointwise [latents]

theorem gainsL_at (g : FVec Ideal S1x1024 .f32) (b : Fin 32) (n : Fin 2048) (l : Fin 1024) :
    gainsL g (ix3 b n l) = g (ix2 0 l) := by
  pointwise [gainsL]

theorem rowL_at (r : FVec Ideal S32x1x1024 .f32) (b : Fin 32) (l : Fin 1024) : rowL r (ix3 b 0 l) = r (ix3 b 0 l) := by
  pointwise [rowL]

theorem everyL_at (r : FVec Ideal S32x1x1024 .f32) (b : Fin 32) (n : Fin 2048) (l : Fin 1024) :
    everyL r (ix3 b n l) = r (ix3 b 0 l) := by
  pointwise [everyL]

theorem numberL_at (v : BitVec (FTy.bits .f32)) (b : Fin 32) (l : Fin 1024) :
    numberL (F := Ideal) v (ix3 b 0 l) = Ideal.ofBits .f32 v := by
  pointwise [numberL]

theorem rmsL_at (t g : FVec Ideal S32x2048x1024 .f32) (b : Fin 32) (n : Fin 2048) (l : Fin 1024) :
    rmsL t g (ix3 b n l) = rms (fun l => t (ix3 b n l)) (fun l => g (ix3 b n l)) l := by
  pointwise [rmsL]
  rfl

theorem modulatedL_at (x : FVec Ideal S32x2048x1024 .f32) (g : FVec Ideal S1x1024 .f32) (scale shift : FVec Ideal S32x1x1024 .f32)
    (b : Fin 32) (n : Fin 2048) (l : Fin 1024) :
    modulatedL x g scale shift (ix3 b n l) = modulated (fun l => x (ix3 b n l)) (fun l => g (ix2 0 l))
      (fun l => scale (ix3 b 0 l)) (fun l => shift (ix3 b 0 l)) l := by
  pointwise [modulatedL]
  simp only [rmsL_at, gainsL_at, everyL_at, rowL_at, numberL_at, addf_at, one_eq]
  rfl

theorem projL_at (u : FVec Ideal S32x2048x1024 .f32) (w : FVec Ideal S1024x2816 .bf16) (b : Fin 32) (n : Fin 2048) (f : Fin 2816) :
    projL u w (ix3 b n f) = times (fun k => u (ix3 b n k)) (fun k f => w (ix2 k f)) f := by
  pointwise [projL]
  rfl

theorem siluL_at (a : FVec Ideal S32x2048x2816 .f32) (b : Fin 32) (n : Fin 2048) (f : Fin 2816) :
    siluL a (ix3 b n f) = a (ix3 b n f) * Ideal.logistic (a (ix3 b n f)) := by
  pointwise [siluL]
  rfl

theorem unitL_at (u : FVec Ideal S32x2048x1024 .f32) (wg wu : FVec Ideal S1024x2816 .bf16) (wd : FVec Ideal S2816x1024 .bf16)
    (b : Fin 32) (n : Fin 2048) (l : Fin 1024) :
    unitL u wg wu wd (ix3 b n l) = unit (fun k => u (ix3 b n k)) (fun k f => wg (ix2 k f)) (fun k f => wu (ix2 k f))
      (fun f l => wd (ix2 f l)) l := by
  pointwise [unitL]
  simp only [siluL_at, projL_at]
  rfl

theorem halfL_at (x : FVec Ideal S32x2048x1024 .f32) (shift scale gate : FVec Ideal S32x1x1024 .f32) (gin gout : FVec Ideal S1x1024 .f32)
    (wg wu : FVec Ideal S1024x2816 .bf16) (wd : FVec Ideal S2816x1024 .bf16) (b : Fin 32) (n : Fin 2048) (l : Fin 1024) :
    halfL x shift scale gate gin gout wg wu wd (ix3 b n l)
      = halfStep (fun l => x (ix3 b n l)) (fun l => scale (ix3 b 0 l)) (fun l => shift (ix3 b 0 l)) (fun l => gate (ix3 b 0 l))
          (fun l => gin (ix2 0 l)) (fun l => gout (ix2 0 l)) (fun k f => wg (ix2 k f)) (fun k f => wu (ix2 k f)) (fun f l => wd (ix2 f l)) l := by
  pointwise [halfL]
  simp only [rmsL_at, unitL_at, modulatedL_at, gainsL_at, everyL_at, rowL_at, numberL_at, mulf_at]
  rfl

theorem row6_at (x : FVec Ideal S32x9x1024 .f32) (b : Fin 32) (l : Fin 1024) : row6 x (ix3 b 0 l) = x (ix3 b 6 l) := by
  pointwise [row6]

theorem row7_at (x : FVec Ideal S32x9x1024 .f32) (b : Fin 32) (l : Fin 1024) : row7 x (ix3 b 0 l) = x (ix3 b 7 l) := by
  pointwise [row7]

theorem row8_at (x : FVec Ideal S32x9x1024 .f32) (b : Fin 32) (l : Fin 1024) : row8 x (ix3 b 0 l) = x (ix3 b 8 l) := by
  pointwise [row8]

end Ffn

end
-- ==== Proof.Ffn.HostContext.lean ====
module

public import proofs.«01_k».proof.Proof.Ffn.Math
public import proofs.«01_k».proof.Proof.Gen.Reference2Ideal.Run

@[expose] public section

/-! # The reference's half step of the context tokens, operation by operation

Every batch element has the same modulation, so a row of it is a vector of channels. -/

set_option maxRecDepth 16384

noncomputable section

namespace Ffn

open Cert.Reference2Ideal Cert.Reference2Ideal.Gen Idealize.ShloMosaic Idealize.ShloMosaic.TcCoe Idealize.SL.Sem

section Parts

variable {F : FTy → Type} [FloatOps F]

/-- The context tokens. -/
def contexts (x : FVec F S32x2304x1024 .f32) : FVec F S32x256x1024 .f32 :=
  extractStridedSlice S32x256x1024 ![0, 2048, 0] x slices_S32x2304x1024_S32x256x1024_0_2048_0

/-- A vector of channels at every token. -/
def everyC (r : FVec F S1024 .f32) : FVec F S32x256x1024 .f32 :=
  broadcastInDim S32x256x1024 ![0, 1, 2] bcast_S1x1x1024_S32x256x1024_0_1_2 (broadcastInDim S1x1x1024 ![2] bcast_S1024_S1x1x1024_2 r)

/-- One row as a vector of channels. -/
def rowC (r : FVec F S1x1024 .f32) : FVec F S1024 .f32 := shapeCast S1024 r shapeCasts_S1x1024_S1024

/-- A number at every channel. -/
def numberC (v : BitVec (FTy.bits .f32)) : FVec F S1024 .f32 := broadcastInDim S1024 ![] bcast_S_S1024 (constant S_ .f32 v)

/-- The normalization. -/
def rmsC (t g : FVec F S32x256x1024 .f32) : FVec F S32x256x1024 .f32 :=
  mulf (mulf t (broadcastInDim S32x256x1024 ![0, 1, 2] bcast_S32x256x1_S32x256x1024_0_1_2 (Host.rsqrt (addf
    (Host.divf (broadcastInDim S32x256x1 ![0, 1] bcast_S32x256_S32x256x1_0_1
        (Host.reduceAdd (mulf t t) (constant S_ .f32 0x00000000#32) reducesTo_S32x256x1024_S32x256_d2 h_S_))
      (broadcastInDim S32x256x1 ![] bcast_S_S32x256x1 (constant S_ .f32 0x44800000#32)))
    (broadcastInDim S32x256x1 ![] bcast_S_S32x256x1 (constant S_ .f32 0x358637BD#32)))))) g

/-- The modulation. -/
def modulatedC (x : FVec F S32x256x1024 .f32) (g scale shift : FVec F S1x1024 .f32) : FVec F S32x256x1024 .f32 :=
  addf (mulf (rmsC x (everyC (rowC g))) (everyC (addf (numberC 0x3F800000#32) (rowC scale)))) (everyC (rowC shift))

/-- The product with a weight. -/
def projC (u : FVec F S32x256x1024 .f32) (w : FVec F S1024x2816 .bf16) : FVec F S32x256x2816 .f32 :=
  Host.dotGeneral dot_S32x256x1024_S1024x2816_S32x256x2816_2_0_01_1_n_n none u (extf .f32 w bitsLt_bf16_f32)

/-- The gate. -/
def siluC (a : FVec F S32x256x2816 .f32) : FVec F S32x256x2816 .f32 :=
  mulf a (Host.divf (broadcastInDim S32x256x2816 ![] bcast_S_S32x256x2816 (constant S_ .f32 0x3F800000#32))
    (addf (broadcastInDim S32x256x2816 ![] bcast_S_S32x256x2816 (constant S_ .f32 0x3F800000#32)) (Host.exp (Host.negf a))))

/-- The gated unit. -/
def unitC (u : FVec F S32x256x1024 .f32) (wg wu : FVec F S1024x2816 .bf16) (wd : FVec F S2816x1024 .bf16) :
    FVec F S32x256x1024 .f32 :=
  Host.dotGeneral dot_S32x256x2816_S2816x1024_S32x256x1024_2_0_01_1_n_n none (mulf (siluC (projC u wg)) (projC u wu))
    (extf .f32 wd bitsLt_bf16_f32)

/-- The half step. -/
def halfC (x : FVec F S32x256x1024 .f32) (shift scale gate gin gout : FVec F S1x1024 .f32)
    (wg wu : FVec F S1024x2816 .bf16) (wd : FVec F S2816x1024 .bf16) : FVec F S32x256x1024 .f32 :=
  addf x (mulf (everyC (mulf (numberC 0x3F000000#32) (rowC gate)))
    (rmsC (unitC (modulatedC x gin scale shift) wg wu wd) (everyC (rowC gout))))

/-- Row 0, 1 or 2 of the context's modulation. -/
def ctx0 (x : FVec F S9x1024 .f32) : FVec F S1x1024 .f32 := extractStridedSlice S1x1024 ![0, 0] x slices_S9x1024_S1x1024_0_0
def ctx1 (x : FVec F S9x1024 .f32) : FVec F S1x1024 .f32 := extractStridedSlice S1x1024 ![1, 0] x slices_S9x1024_S1x1024_1_0
def ctx2 (x : FVec F S9x1024 .f32) : FVec F S1x1024 .f32 := extractStridedSlice S1x1024 ![2, 0] x slices_S9x1024_S1x1024_2_0

end Parts

/-! ## The parts at an index -/

theorem contexts_at (x : FVec Ideal S32x2304x1024 .f32) (b : Fin 32) (n : Fin 256) (l : Fin 1024) :
    contexts x (ix3 b n l) = x (ix3 b ⟨2048 + n, by omega⟩ l) := by
  pointwise [contexts]

theorem everyC_at (r : FVec Ideal S1024 .f32) (b : Fin 32) (n : Fin 256) (l : Fin 1024) :
    everyC r (ix3 b n l) = r (ix1 l) := by
  pointwise [everyC]

theorem rowC_at (r : FVec Ideal S1x1024 .f32) (l : Fin 1024) : rowC r (ix1 l) = r (ix2 0 l) := by
  pointwise [rowC]

theorem numberC_at (v : BitVec (FTy.bits .f32)) (l : Fin 1024) : numberC (F := Ideal) v (ix1 l) = Ideal.ofBits .f32 v := by
  pointwise [numberC]

theorem rmsC_at (t g : FVec Ideal S32x256x1024 .f32) (b : Fin 32) (n : Fin 256) (l : Fin 1024) :
    rmsC t g (ix3 b n l) = rms (fun l => t (ix3 b n l)) (fun l => g (ix3 b n l)) l := by
  pointwise [rmsC]
  rfl

theorem modulatedC_at (x : FVec Ideal S32x256x1024 .f32) (g scale shift : FVec Ideal S1x1024 .f32)
    (b : Fin 32) (n : Fin 256) (l : Fin 1024) :
    modulatedC x g scale shift (ix3 b n l) = modulated (fun l => x (ix3 b n l)) (fun l => g (ix2 0 l))
      (fun l => scale (ix2 0 l)) (fun l => shift (ix2 0 l)) l := by
  pointwise [modulatedC]
  simp only [rmsC_at, everyC_at, rowC_at, numberC_at, addf_at, one_eq]
  rfl

theorem projC_at (u : FVec Ideal S32x256x1024 .f32) (w : FVec Ideal S1024x2816 .bf16) (b : Fin 32) (n : Fin 256) (f : Fin 2816) :
    projC u w (ix3 b n f) = times (fun k => u (ix3 b n k)) (fun k f => w (ix2 k f)) f := by
  pointwise [projC]
  rfl

theorem siluC_at (a : FVec Ideal S32x256x2816 .f32) (b : Fin 32) (n : Fin 256) (f : Fin 2816) :
    siluC a (ix3 b n f) = a (ix3 b n f) * Ideal.logistic (a (ix3 b n f)) := by
  pointwise [siluC]
  rfl

theorem unitC_at (u : FVec Ideal S32x256x1024 .f32) (wg wu : FVec Ideal S1024x2816 .bf16) (wd : FVec Ideal S2816x1024 .bf16)
    (b : Fin 32) (n : Fin 256) (l : Fin 1024) :
    unitC u wg wu wd (ix3 b n l) = unit (fun k => u (ix3 b n k)) (fun k f => wg (ix2 k f)) (fun k f => wu (ix2 k f))
      (fun f l => wd (ix2 f l)) l := by
  pointwise [unitC]
  simp only [siluC_at, projC_at]
  rfl

theorem halfC_at (x : FVec Ideal S32x256x1024 .f32) (shift scale gate gin gout : FVec Ideal S1x1024 .f32)
    (wg wu : FVec Ideal S1024x2816 .bf16) (wd : FVec Ideal S2816x1024 .bf16) (b : Fin 32) (n : Fin 256) (l : Fin 1024) :
    halfC x shift scale gate gin gout wg wu wd (ix3 b n l)
      = halfStep (fun l => x (ix3 b n l)) (fun l => scale (ix2 0 l)) (fun l => shift (ix2 0 l)) (fun l => gate (ix2 0 l))
          (fun l => gin (ix2 0 l)) (fun l => gout (ix2 0 l)) (fun k f => wg (ix2 k f)) (fun k f => wu (ix2 k f)) (fun f l => wd (ix2 f l)) l := by
  pointwise [halfC]
  simp only [rmsC_at, unitC_at, modulatedC_at, everyC_at, rowC_at, numberC_at, mulf_at]
  rfl

theorem ctx0_at (x : FVec Ideal S9x1024 .f32) (l : Fin 1024) : ctx0 x (ix2 0 l) = x (ix2 0 l) := by
  pointwise [ctx0]

theorem ctx1_at (x : FVec Ideal S9x1024 .f32) (l : Fin 1024) : ctx1 x (ix2 0 l) = x (ix2 1 l) := by
  pointwise [ctx1]

theorem ctx2_at (x : FVec Ideal S9x1024 .f32) (l : Fin 1024) : ctx2 x (ix2 0 l) = x (ix2 2 l) := by
  pointwise [ctx2]

end Ffn

end
-- ==== Proof.Ffn.Reference2.lean ====
module

public import proofs.«01_k».proof.Proof.Ffn.HostLatent
public import proofs.«01_k».proof.Proof.Ffn.HostContext
public import proofs.«01_k».proof.Proof.Ffn.Point2

@[expose] public section

/-! # The reference's first half step, of both streams, is the half step of each token -/

set_option maxRecDepth 16384

noncomputable section

namespace Ffn

open Cert.Reference2Ideal Cert.Reference2Ideal.Gen Idealize.ShloMosaic Idealize.ShloMosaic.TcCoe Idealize.SL.Sem

section Parts

variable {F : FTy → Type} [FloatOps F]

/-- Rows 0, 1 and 2 of the latent tokens' modulation. -/
def row0 (x : FVec F S32x9x1024 .f32) : FVec F S32x1x1024 .f32 :=
  extractStridedSlice S32x1x1024 ![0, 0, 0] x slices_S32x9x1024_S32x1x1024_0_0_0
def row1 (x : FVec F S32x9x1024 .f32) : FVec F S32x1x1024 .f32 :=
  extractStridedSlice S32x1x1024 ![0, 1, 0] x slices_S32x9x1024_S32x1x1024_0_1_0
def row2 (x : FVec F S32x9x1024 .f32) : FVec F S32x1x1024 .f32 :=
  extractStridedSlice S32x1x1024 ![0, 2, 0] x slices_S32x9x1024_S32x1x1024_0_2_0

/-- Both streams, one under the other. -/
def joined (a : FVec F S32x2048x1024 .f32) (b : FVec F S32x256x1024 .f32) : FVec F S32x2304x1024 .f32 :=
  concatenate S32x2304x1024 1 [⟨S32x2048x1024, a⟩, ⟨S32x256x1024, b⟩] concatenates_S32x2048x1024_S32x256x1024_S32x2304x1024_d1

/-- The first half step's result is made of these. -/
theorem res2_parts (m : (ℓ : Loc nD τ sig) → Buf (Elt F) ℓ) (c : Dev nD) :
    Value.res_out0 m c = joined
      (halfL (latents (m ((c : Thread nD τ).loc main_arg0))) (row0 (m ((c : Thread nD τ).loc main_arg1)))
        (row1 (m ((c : Thread nD τ).loc main_arg1))) (row2 (m ((c : Thread nD τ).loc main_arg1)))
        (m ((c : Thread nD τ).loc main_arg3)) (m ((c : Thread nD τ).loc main_arg4)) (m ((c : Thread nD τ).loc main_arg5))
        (m ((c : Thread nD τ).loc main_arg6)) (m ((c : Thread nD τ).loc main_arg7)))
      (halfC (contexts (m ((c : Thread nD τ).loc main_arg0))) (ctx0 (m ((c : Thread nD τ).loc main_arg2)))
        (ctx1 (m ((c : Thread nD τ).loc main_arg2))) (ctx2 (m ((c : Thread nD τ).loc main_arg2)))
        (m ((c : Thread nD τ).loc main_arg3)) (m ((c : Thread nD τ).loc main_arg4)) (m ((c : Thread nD τ).loc main_arg5))
        (m ((c : Thread nD τ).loc main_arg6)) (m ((c : Thread nD τ).loc main_arg7))) := rfl

end Parts

theorem row0_at (x : FVec Ideal S32x9x1024 .f32) (b : Fin 32) (l : Fin 1024) : row0 x (ix3 b 0 l) = x (ix3 b 0 l) := by
  pointwise [row0]

theorem row1_at (x : FVec Ideal S32x9x1024 .f32) (b : Fin 32) (l : Fin 1024) : row1 x (ix3 b 0 l) = x (ix3 b 1 l) := by
  pointwise [row1]

theorem row2_at (x : FVec Ideal S32x9x1024 .f32) (b : Fin 32) (l : Fin 1024) : row2 x (ix3 b 0 l) = x (ix3 b 2 l) := by
  pointwise [row2]

theorem joined_at (x : FVec Ideal S32x2048x1024 .f32) (y : FVec Ideal S32x256x1024 .f32) (b : Fin 32) (n : Fin 2304) (l : Fin 1024) :
    joined x y (ix3 b n l) = if h : (n : ℕ) < 2048 then x (ix3 b ⟨n, h⟩ l) else y (ix3 b ⟨n - 2048, by omega⟩ l) := by
  pointwise [joined]

/-- The rows of the modulation of a latent and of a context token. -/
theorem modAt_latent {n : ℕ} (h : n < 2048) (c x : Fin 1024 → EReal) : modAt n c x = x := by
  funext l
  simp [modAt, Nat.not_le.mpr h]

theorem modAt_context {n : ℕ} (h : 2048 ≤ n) (c x : Fin 1024 → EReal) : modAt n c x = c := by
  funext l
  simp [modAt, h]

/-- The first half step, from the arguments. -/
theorem half2_at (x : FVec Ideal S32x2304x1024 .f32) (modx : FVec Ideal S32x9x1024 .f32) (modc : FVec Ideal S9x1024 .f32)
    (gin gout : FVec Ideal S1x1024 .f32) (wg wu : FVec Ideal S1024x2816 .bf16) (wd : FVec Ideal S2816x1024 .bf16) :
    joined (halfL (latents x) (row0 modx) (row1 modx) (row2 modx) gin gout wg wu wd)
        (halfC (contexts x) (ctx0 modc) (ctx1 modc) (ctx2 modc) gin gout wg wu wd)
      = result2 x modx modc gin gout wg wu wd := by
  funext y
  idx_vars y
  show _ = halfStep (fun l => x (ix3 y0 y1 l)) (modAt (y1 : ℕ) (fun l => modc (ix2 1 l)) (fun l => modx (ix3 y0 1 l)))
    (modAt (y1 : ℕ) (fun l => modc (ix2 0 l)) (fun l => modx (ix3 y0 0 l)))
    (modAt (y1 : ℕ) (fun l => modc (ix2 2 l)) (fun l => modx (ix3 y0 2 l)))
    (fun l => gin (ix2 0 l)) (fun l => gout (ix2 0 l)) (fun k f => wg (ix2 k f)) (fun k f => wu (ix2 k f)) (fun f l => wd (ix2 f l)) y2
  rw [joined_at]
  by_cases h : (y1 : ℕ) < 2048
  · rw [dif_pos h, halfL_at]
    simp only [modAt_latent h, latents_at, row0_at, row1_at, row2_at]
  · have h' : 2048 ≤ (y1 : ℕ) := Nat.not_lt.mp h
    have hn : (⟨2048 + (y1 - 2048), by omega⟩ : Fin 2304) = y1 := Fin.ext (by show 2048 + ((y1 : ℕ) - 2048) = y1; omega)
    rw [dif_neg h, halfC_at]
    simp only [modAt_context h', contexts_at, ctx0_at, ctx1_at, ctx2_at, hn]

theorem reference2_eq (m : (ℓ : Loc nD τ sig) → Buf (Elt Ideal) ℓ) (c : Dev nD) :
    Value.res_out0 m c = result2 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (res2_parts m c).trans (half2_at _ _ _ _ _ _ _ _)

end Ffn

end
-- ==== Proof.Ffn.Pieces3.lean ====
module

public import proofs.«01_k».proof.Proof.Ffn.Strand
public import proofs.«01_k».proof.Proof.Gen.Kernel3Ideal.Value

@[expose] public section

/-! # What a grid point of the last half step stores: four strands -/

set_option maxRecDepth 16384

noncomputable section

namespace Ffn

open Cert.Kernel3Ideal Cert.Kernel3Ideal.Gen Idealize.ShloMosaic Idealize.ShloMosaic.TcCoe Idealize.SL.Sem

variable {F : FTy → Type} [FloatOps F]

theorem inb_strand3 (s : Fin 4) (a : Fin S1x1024x1024.rank) :
    (![0, 256 * (s : ℕ), 0] : Fin 3 → ℕ) a + S1x256x1024.size a ≤ S1x1024x1024.size a := by
  revert a; revert s; decide

/-- The rows of strand `s` of a tile of 1024. -/
abbrev rect3 (s : Fin 4) : Rect S1x1024x1024 := Rect.unit (s := S1x1024x1024) ![0, 256 * (s : ℕ), 0] S1x256x1024.size (inb_strand3 s)

/-- The rows of the strand. -/
def load3 (x : Vec F S1x1024x1024 .f32) (s : Fin 4) : Vec F S1x256x1024 .f32 := View.ld x (rect3 s)

/-- Strand `s` of tile `T`. -/
def strand3 (T : ℕ) (x0 : Vec F S1x1024x1024 .f32) (x1 : Vec F S1x9x1024 .f32) (x2 : Vec F S9x1024 .f32)
    (x3 x4 : Vec F S1x1024 .f32) (x5 x6 : Vec F S1024x2816 .bf16) (x7 : Vec F S2816x1024 .bf16) (s : Fin 4) : Vec F S1x256x1024 .f32 :=
  strandOf 6 (base T 1024 (256 * s)) (load3 x0 s) x1 x2 x3 x4 x5 x6 x7

/-- The pieces of tile `T`, the last store first. -/
def pieces3 (T : ℕ) (x0 : Vec F S1x1024x1024 .f32) (x1 : Vec F S1x9x1024 .f32) (x2 : Vec F S9x1024 .f32)
    (x3 x4 : Vec F S1x1024 .f32) (x5 x6 : Vec F S1024x2816 .bf16) (x7 : Vec F S2816x1024 .bf16) :
    List (View.Piece (Elt F) S1x1024x1024 .f32) :=
  List.ofFn fun s : Fin 4 => ⟨rect3 (Fin.rev s), strand3 T x0 x1 x2 x3 x4 x5 x6 x7 (Fin.rev s)⟩

/-- The body leaves these. -/
theorem out3 (c : Dev nD) (i : grid0.Coords)
    (arg2 : Memref sig .tc .vmem S1x1024x1024 .f32) (harg2 : arg2.IsWhole) (arg3 : Memref sig .tc .vmem S1x9x1024 .f32) (harg3 : arg3.IsWhole)
    (arg4 : Memref sig .tc .vmem S9x1024 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S1024x2816 .bf16) (harg7 : arg7.IsWhole)
    (arg8 : Memref sig .tc .vmem S1024x2816 .bf16) (harg8 : arg8.IsWhole) (arg9 : Memref sig .tc .vmem S2816x1024 .bf16) (harg9 : arg9.IsWhole)
    (arg10 : Memref sig .tc .vmem S1x1024x1024 .f32) (harg10 : arg10.IsWhole)
    (x0 : Vec F S1x1024x1024 .f32) (x1 : Vec F S1x9x1024 .f32) (x2 : Vec F S9x1024 .f32)
    (x3 x4 : Vec F S1x1024 .f32) (x5 x6 : Vec F S1024x2816 .bf16) (x7 : Vec F S2816x1024 .bf16) :
    out0_A_8 c i arg2 harg2 arg3 harg3 arg4 harg4 arg5 harg5 arg6 harg6 arg7 harg7 arg8 harg8 arg9 harg9 arg10 harg10
        x0 x1 x2 x3 x4 x5 x6 x7 = View.canon (pieces3 (i 1).val x0 x1 x2 x3 x4 x5 x6 x7) := by
  have h : (kernelRun0_A c i arg2 harg2 arg3 harg3 arg4 harg4 arg5 harg5 arg6 harg6 arg7 harg7 arg8 harg8 arg9 harg9 arg10 harg10
        x0 x1 x2 x3 x4 x5 x6 x7).1
      = pieces3 (i 1).val (arg2.view.read (Elt F) (harg2.unread x0)) (arg3.view.read (Elt F) (harg3.unread x1))
        (arg4.view.read (Elt F) (harg4.unread x2)) (arg5.view.read (Elt F) (harg5.unread x3)) (arg6.view.read (Elt F) (harg6.unread x4))
        (arg7.view.read (Elt F) (harg7.unread x5)) (arg8.view.read (Elt F) (harg8.unread x6)) (arg9.view.read (Elt F) (harg9.unread x7)) :=
    rfl
  rw [out0_A_8, h, harg2.read_unread, harg3.read_unread, harg4.read_unread, harg5.read_unread, harg6.read_unread, harg7.read_unread,
    harg8.read_unread, harg9.read_unread]
  exact View.read_writes_junk_eq_canon _ _

end Ffn

end
-- ==== Proof.Ffn.Point3.lean ====
module

public import proofs.«01_k».proof.Proof.Ffn.Pieces3
public import proofs.«01_k».proof.Proof.Ffn.StrandValue
public import Idealize.ShloMosaic.Lib.Pipeline.ValueKit

@[expose] public section

/-! # The result array of the last half step

Its tiles hold latent tokens alone, so every row's modulation is its batch element's. -/

set_option maxRecDepth 16384

noncomputable section

namespace Ffn

open Cert.Kernel3Ideal Cert.Kernel3Ideal.Gen Idealize.ShloMosaic Idealize.ShloMosaic.TcCoe Idealize.SL.Sem
open Idealize.ShloMosaic.Pipeline (Dat)

/-- The last half step, of the latent tokens. -/
def result3 (x : FVec Ideal S32x2304x1024 .f32) (modx : FVec Ideal S32x9x1024 .f32)
    (gin gout : FVec Ideal S1x1024 .f32) (wg wu : FVec Ideal S1024x2816 .bf16) (wd : FVec Ideal S2816x1024 .bf16) :
    FVec Ideal S32x2048x1024 .f32 := fun y =>
  halfStep (fun l => x (ix3 (y 0) ⟨(y 1 : Fin 2048), (y 1 : Fin 2048).isLt.trans (by norm_num)⟩ l)) (fun l => modx (ix3 (y 0) 7 l)) (fun l => modx (ix3 (y 0) 6 l))
    (fun l => modx (ix3 (y 0) 8 l)) (fun l => gin (ix2 0 l)) (fun l => gout (ix2 0 l))
    (fun k f => wg (ix2 k f)) (fun k f => wu (ix2 k f)) (fun f l => wd (ix2 f l)) (y 2)

theorem load3_at (x : FVec Ideal S1x1024x1024 .f32) (s : Fin 4) (r : Fin 256) (l : Fin 1024) :
    load3 (F := Ideal) x s (ix3 0 r l) = x (ix3 0 ⟨256 * s + r, by omega⟩ l) := by
  pointwise [load3]

/-- A token before the 2048th is a latent one. -/
theorem modAt_latent (n : ℕ) (hn : n < 2048) (c x : Fin 1024 → EReal) : modAt n c x = x :=
  funext fun _ => if_neg (by omega)

/-- What the pieces of tile `T` hold at row `r`. -/
theorem canon3 (T : ℕ) (hT : T < 2) (x0 : FVec Ideal S1x1024x1024 .f32) (x1 : FVec Ideal S1x9x1024 .f32) (x2 : FVec Ideal S9x1024 .f32)
    (x3 x4 : FVec Ideal S1x1024 .f32) (x5 x6 : FVec Ideal S1024x2816 .bf16) (x7 : FVec Ideal S2816x1024 .bf16)
    (r : Fin 1024) (l : Fin 1024) :
    View.canon (pieces3 (F := Ideal) T x0 x1 x2 x3 x4 x5 x6 x7) (ix3 0 r l)
      = halfStep (fun l => x0 (ix3 0 r l)) (fun l => x1 (ix3 0 7 l)) (fun l => x1 (ix3 0 6 l)) (fun l => x1 (ix3 0 8 l))
          (fun l => x3 (ix2 0 l)) (fun l => x4 (ix2 0 l)) (fun k f => x5 (ix2 k f)) (fun k f => x6 (ix2 k f)) (fun f l => x7 (ix2 f l)) l := by
  unfold pieces3
  refine View.canon_ofFn_unit_eq_of_forall _ _ _ _ _ _ ?_ ?_
  · refine ⟨Fin.rev ⟨(r : ℕ) / 256, by omega⟩, fun a => ?_⟩
    fin_cases a <;> simp <;> omega
  · intro k
    tile_intro y h
    generalize Fin.rev k = s at *
    idx_vars y
    have hr : (r : ℕ) = 256 * s + y1 := h1
    have hl : y2 = l := Fin.ext h2.symm
    subst hl
    obtain rfl : y0 = 0 := Subsingleton.elim _ _
    have hx : (⟨256 * s + y1, by omega⟩ : Fin 1024) = r := Fin.ext hr.symm
    rw [strand3, base_eq, strandOf_at _ _ (by omega)]
    simp only [load3_at, hx, modAt_latent (T * 1024 + 256 * (s : ℕ) + y1) (by omega)]
    rfl

/-- Which block of each window a point holds: batch element `t / 2`, tile `t % 2`. -/
theorem idx3 : ∀ t : Fin cfg0.N, (grid0.coords t 1).val = t.val % 2 ∧ win0_0.index t = ![t.val / 2, t.val % 2, 0]
    ∧ win0_1.index t = ![t.val / 2, 0, 0] ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_8.index t = ![t.val / 2, t.val % 2, 0] :=
  (by decide +kernel : ∀ t : Fin grid0.N, _)

variable (m : (ℓ : Loc nD τ sig) → Buf (Elt Ideal) ℓ) (c : Dev nD) (t : Fin cfg0.N)

/-- The blocks of a point, and what it leaves. -/
abbrev tile3 : FVec Ideal S1x1024x1024 .f32 := X0_0 m c t
abbrev modx3 : FVec Ideal S1x9x1024 .f32 := iblk m c 1 t
abbrev gin3 : FVec Ideal S1x1024 .f32 := iblk m c 3 t
abbrev gout3 : FVec Ideal S1x1024 .f32 := iblk m c 4 t
abbrev wg3 : FVec Ideal S1024x2816 .bf16 := iblk m c 5 t
abbrev wu3 : FVec Ideal S1024x2816 .bf16 := iblk m c 6 t
abbrev wd3 : FVec Ideal S2816x1024 .bf16 := iblk m c 7 t
abbrev left3 : FVec Ideal S1x1024x1024 .f32 := outsAt0 m c t

/-- The arguments. -/
abbrev argX3 : FVec Ideal S32x2304x1024 .f32 := m ((c : Thread nD τ).loc main_arg0)
abbrev argModx3 : FVec Ideal S32x9x1024 .f32 := m ((c : Thread nD τ).loc main_arg1)
abbrev argGin3 : FVec Ideal S1x1024 .f32 := m ((c : Thread nD τ).loc main_arg3)
abbrev argGout3 : FVec Ideal S1x1024 .f32 := m ((c : Thread nD τ).loc main_arg4)
abbrev argWg3 : FVec Ideal S1024x2816 .bf16 := m ((c : Thread nD τ).loc main_arg5)
abbrev argWu3 : FVec Ideal S1024x2816 .bf16 := m ((c : Thread nD τ).loc main_arg6)
abbrev argWd3 : FVec Ideal S2816x1024 .bf16 := m ((c : Thread nD τ).loc main_arg7)

theorem tile3_at (b : Fin 32) (T : Fin 2) (hb : (b : ℕ) = t.val / 2) (hT : (T : ℕ) = t.val % 2) (r : Fin 1024) (l : Fin 1024) :
    tile3 m c t (ix3 0 r l) = argX3 m c (ix3 b ⟨T * 1024 + r, by omega⟩ l) := by
  unfold tile3 X0_0 Pipeline.Window.fill
  rw [dif_pos (moved0_0 t _)]
  blk_point [iblk, V, idx3 t]

theorem modx3_at (b : Fin 32) (hb : (b : ℕ) = t.val / 2) (j : Fin 9) (l : Fin 1024) :
    modx3 m c t (ix3 0 j l) = argModx3 m c (ix3 b j l) := by
  blk_point [iblk, V, idx3 t]

theorem gin3_at (l : Fin 1024) : gin3 m c t (ix2 0 l) = argGin3 m c (ix2 0 l) := by
  blk_point [iblk, V, idx3 t]

theorem gout3_at (l : Fin 1024) : gout3 m c t (ix2 0 l) = argGout3 m c (ix2 0 l) := by
  blk_point [iblk, V, idx3 t]

theorem wg3_at (k : Fin 1024) (f : Fin 2816) : wg3 m c t (ix2 k f) = argWg3 m c (ix2 k f) := by
  blk_point [iblk, V, idx3 t]

theorem wu3_at (k : Fin 1024) (f : Fin 2816) : wu3 m c t (ix2 k f) = argWu3 m c (ix2 k f) := by
  blk_point [iblk, V, idx3 t]

theorem wd3_at (f : Fin 2816) (l : Fin 1024) : wd3 m c t (ix2 f l) = argWd3 m c (ix2 f l) := by
  blk_point [iblk, V, idx3 t]

/-- What a point leaves, at row `r` of its tile. -/
theorem point3 (b : Fin 32) (T : Fin 2) (hb : (b : ℕ) = t.val / 2) (hT : (T : ℕ) = t.val % 2) (r : Fin 1024) (l : Fin 1024) :
    left3 m c t (ix3 0 r l)
      = result3 (argX3 m c) (argModx3 m c) (argGin3 m c) (argGout3 m c) (argWg3 m c) (argWu3 m c) (argWd3 m c)
          (ix3 b ⟨T * 1024 + r, by omega⟩ l) := by
  rw [left3, outsAt0, out3, (idx3 t).1, ← hT]
  refine (canon3 T T.isLt (tile3 m c t) (modx3 m c t) _ (gin3 m c t) (gout3 m c t) (wg3 m c t) (wu3 m c t) (wd3 m c t) r l).trans ?_
  simp only [tile3_at m c t b T hb hT, modx3_at m c t b hb, gin3_at, gout3_at, wg3_at, wu3_at, wd3_at]
  rfl

/-- The result array of the run. -/
theorem final3 : (dats m 0 c).arrAt 8 cfg0.N
    = result3 (argX3 m c) (argModx3 m c) (argGin3 m c) (argGout3 m c) (argWg3 m c) (argWu3 m c) (argWd3 m c) := by
  refine (dats m 0 c).arrAt_eq_of_covers 8 _ (by decide +kernel) fun t _ y => ?_
  have hN : t.val < 64 := lt_of_lt_of_eq t.isLt (show cfg0.N = 64 from N_0)
  blk_simp
  rw [after0_8]
  idx_vars y
  obtain rfl : y0 = 0 := Subsingleton.elim _ _
  refine (point3 m c t ⟨t.val / 2, by omega⟩ ⟨t.val % 2, by omega⟩ rfl rfl y1 y2).trans ?_
  refine congrArg _ ?_
  blk_ext [idx3 t]

end Ffn

end
-- ==== Proof.Ffn.Reference3.lean ====
module

public import proofs.«01_k».proof.Proof.Ffn.HostLatent
public import proofs.«01_k».proof.Proof.Ffn.Point3

@[expose] public section

/-! # The reference's last half step is the half step of each token -/

set_option maxRecDepth 16384

noncomputable section

namespace Ffn

open Cert.Reference3Ideal Cert.Reference3Ideal.Gen Idealize.ShloMosaic Idealize.ShloMosaic.TcCoe Idealize.SL.Sem

/-- The last half step, from the arguments. -/
theorem half3_at (x : FVec Ideal S32x2304x1024 .f32) (modx : FVec Ideal S32x9x1024 .f32) (gin gout : FVec Ideal S1x1024 .f32)
    (wg wu : FVec Ideal S1024x2816 .bf16) (wd : FVec Ideal S2816x1024 .bf16) :
    halfL (latents x) (row6 modx) (row7 modx) (row8 modx) gin gout wg wu wd = result3 x modx gin gout wg wu wd := by
  funext y
  idx_vars y
  rw [halfL_at]
  simp only [latents_at, row6_at, row7_at, row8_at]
  rfl

theorem reference3_eq (m : (ℓ : Loc nD τ sig) → Buf (Elt Ideal) ℓ) (c : Dev nD) :
    Value.res_out0 m c = result3 (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) :=
  (res3_parts m c).trans (half3_at _ _ _ _ _ _ _)

end Ffn

end
-- ==== Proof.Merge.Math.lean ====
module

public import proofs.«01_k».proof.Proof.Ffn.Math

@[expose] public section

/-! # The gated merge of the three mixers, for one token

The normalized, modulated token gives the scan's gate and three gates of the merge. The mixers' outputs are projected,
gated and summed; the sum is projected, normalized, gated and added to the token. -/

noncomputable section

namespace Merge

open Idealize.ShloMosaic Ffn

/-- One channel of a product with a square matrix. -/
def product (u : Fin 1024 → EReal) (w : Fin 1024 → Fin 1024 → EReal) (l : Fin 1024) : EReal := ∑ k, u k * w k l

/-- The columns of block `j` of the gates' weight. -/
def block (w : Fin 1024 → Fin 4096 → EReal) (j : Fin 4) (k l : Fin 1024) : EReal := w k ⟨1024 * j + l, by omega⟩

/-- The scan's output under its gate. -/
def scan (u y : Fin 1024 → EReal) (w : Fin 1024 → Fin 4096 → EReal) (l : Fin 1024) : EReal :=
  y l * (product u (block w 0) l * Ideal.logistic (product u (block w 0) l))

/-- The gated sum of the three projections. -/
def merged (u a b y : Fin 1024 → EReal) (w : Fin 1024 → Fin 4096 → EReal) (g : Fin 1024 → EReal)
    (wa wb wy : Fin 1024 → Fin 1024 → EReal) (l : Fin 1024) : EReal :=
  Ideal.logistic (product u (block w 1) l) * product a wa l + Ideal.logistic (product u (block w 2) l) * product b wb l
    + Ideal.logistic (product u (block w 3) l) * product (rms (scan u y w) g) wy l

/-- The token after the mixers. -/
def mixed (x scale shift gate gin gout a b y : Fin 1024 → EReal) (w : Fin 1024 → Fin 4096 → EReal) (g : Fin 1024 → EReal)
    (wa wb wy wo : Fin 1024 → Fin 1024 → EReal) (l : Fin 1024) : EReal :=
  x l + gate l * rms (product (merged (modulated x gin scale shift) a b y w g wa wb wy) wo) gout l

end Merge

end
-- ==== Proof.Merge.Strand.lean ====
module

public import proofs.«01_k».proof.Proof.Ffn.Strand
public import proofs.«01_k».proof.Proof.Gen.Kernel4Ideal.Value

@[expose] public section

/-! # What a grid point of the merge stores, operation by operation -/

set_option maxRecDepth 16384

noncomputable section

namespace Merge

open Cert.Kernel4Ideal Cert.Kernel4Ideal.Gen Idealize.ShloMosaic Idealize.ShloMosaic.TcCoe Idealize.SL.Sem
open Ffn (rmsRows modRows rows modulatedRows modX modC gains base)

variable {F : FTy → Type} [FloatOps F]

theorem inb_block (j : Fin 4) (a : Fin S1024x4096.rank) :
    (![0, 1024 * (j : ℕ)] : Fin 2 → ℕ) a + S1024x1024.size a ≤ S1024x4096.size a := by
  revert a; revert j; decide

/-- Block `j` of the columns of the gates' weight. -/
def columns (w : Vec F S1024x4096 .bf16) (j : Fin 4) : Vec F S1024x1024 .bf16 :=
  View.ld w (Rect.unit (s := S1024x4096) ![0, 1024 * (j : ℕ)] S1024x1024.size (inb_block j))

/-- Whole blocks, as loaded. -/
def weight (w : Vec F S1024x1024 .bf16) : Vec F S1024x1024 .bf16 := View.ld w r0_7
def tile (x : Vec F S1x256x1024 .f32) : Vec F S1x256x1024 .f32 := View.ld x r0_0
def mixer (x : Vec F S1x256x1024 .bf16) : Vec F S1x256x1024 .bf16 := View.ld x r0_0

/-- The rows of a mixer's output. -/
def mixerRows (x : Vec F S1x256x1024 .bf16) : FVec F S256x1024 .bf16 := shapeCast S256x1024 x shapeCasts_S1x256x1024_S256x1024

/-- The product with a square weight. -/
def square (u : FVec F S256x1024 .bf16) (w : FVec F S1024x1024 .bf16) : FVec F S256x1024 .f32 :=
  matmul dot_S256x1024_S1024x1024_S256x1024_1_0_0_1_n_n none u w (constant S256x1024 .f32 0x00000000#32)

/-- The scan's rows under their gate, normalized. -/
def scanRows (y z : FVec F S256x1024 .f32) (g : FVec F S1x1024 .f32) : FVec F S256x1024 .bf16 :=
  truncf .bf16 (rmsRows (mulf y (mulf z (logistic z))) g) bitsLt_bf16_f32

/-- The gated sum. -/
def mergedRows (g0 a g1 b g2 y : FVec F S256x1024 .f32) : FVec F S256x1024 .bf16 :=
  truncf .bf16 (addf (addf (mulf (logistic g0) a) (mulf (logistic g1) b)) (mulf (logistic g2) y)) bitsLt_bf16_f32

/-- The input, plus the gated, normalized rows. -/
def added (x gate y : FVec F S256x1024 .f32) (g : FVec F S1x1024 .f32) : Vec F S1x256x1024 .f32 :=
  shapeCast S1x256x1024 (addf x (mulf gate (rmsRows y g))) shapeCasts_S256x1024_S1x256x1024

/-- The modulated rows of a tile, row `start` of the array being its first. -/
def input (start : BitVec 32) (x0 : Vec F S1x256x1024 .f32) (x1 : Vec F S1x9x1024 .f32) (x2 : Vec F S9x1024 .f32)
    (x3 : Vec F S1x1024 .f32) : FVec F S256x1024 .bf16 :=
  modulatedRows (rows (tile x0)) (gains x3) (modRows start (modC x2 4) (modX x1 4)) (modRows start (modC x2 3) (modX x1 3))

/-- The gated sum of a tile with modulated rows `u`. -/
def gatedSum (u : FVec F S256x1024 .bf16) (x5 x6 : Vec F S1x256x1024 .bf16) (x7 : Vec F S1x256x1024 .f32)
    (x8 : Vec F S1024x4096 .bf16) (x9 : Vec F S1x1024 .f32) (x10 x11 x12 : Vec F S1024x1024 .bf16) : FVec F S256x1024 .bf16 :=
  mergedRows (square u (columns x8 1)) (square (mixerRows (mixer x5)) (weight x10))
    (square u (columns x8 2)) (square (mixerRows (mixer x6)) (weight x11))
    (square u (columns x8 3)) (square (scanRows (rows (tile x7)) (square u (columns x8 0)) (gains x9)) (weight x12))

/-- What the body stores. -/
def stored (start : BitVec 32) (x0 : Vec F S1x256x1024 .f32) (x1 : Vec F S1x9x1024 .f32) (x2 : Vec F S9x1024 .f32)
    (x3 x4 : Vec F S1x1024 .f32) (x5 x6 : Vec F S1x256x1024 .bf16) (x7 : Vec F S1x256x1024 .f32) (x8 : Vec F S1024x4096 .bf16)
    (x9 : Vec F S1x1024 .f32) (x10 x11 x12 x13 : Vec F S1024x1024 .bf16) : Vec F S1x256x1024 .f32 :=
  added (rows (tile x0)) (modRows start (modC x2 5) (modX x1 5))
    (square (gatedSum (input start x0 x1 x2 x3) x5 x6 x7 x8 x9 x10 x11 x12) (weight x13)) (gains x4)

/-- The body leaves it in the tile. -/
theorem out4 (i : grid0.Coords) (x0 : Vec F S1x256x1024 .f32) (x1 : Vec F S1x9x1024 .f32) (x2 : Vec F S9x1024 .f32)
    (x3 x4 : Vec F S1x1024 .f32) (x5 x6 : Vec F S1x256x1024 .bf16) (x7 : Vec F S1x256x1024 .f32) (x8 : Vec F S1024x4096 .bf16)
    (x9 : Vec F S1x1024 .f32) (x10 x11 x12 x13 : Vec F S1024x1024 .bf16) :
    out0_14 i x0 x1 x2 x3 x4 x5 x6 x7 x8 x9 x10 x11 x12 x13
      = View.canon [⟨r0_0, stored (base (i 1).val 256 0) x0 x1 x2 x3 x4 x5 x6 x7 x8 x9 x10 x11 x12 x13⟩] := rfl

end Merge

end
-- ==== Proof.Merge.StrandValue.lean ====
module

public import proofs.«01_k».proof.Proof.Merge.Math
public import proofs.«01_k».proof.Proof.Merge.Strand
public import proofs.«01_k».proof.Proof.Ffn.StrandValue

@[expose] public section

/-! # What a grid point of the merge stores, at an index -/

set_option maxRecDepth 16384

noncomputable section

namespace Merge

open Cert.Kernel4Ideal Cert.Kernel4Ideal.Gen Idealize.ShloMosaic Idealize.ShloMosaic.TcCoe Idealize.SL.Sem
open Ffn

theorem columns_at (w : FVec Ideal S1024x4096 .bf16) (j : Fin 4) (k l : Fin 1024) :
    columns (F := Ideal) w j (ix2 k l) = w (ix2 k ⟨1024 * j + l, by omega⟩) := by
  pointwise [columns]

theorem weight_at (w : FVec Ideal S1024x1024 .bf16) (k l : Fin 1024) : weight (F := Ideal) w (ix2 k l) = w (ix2 k l) := by
  pointwise [weight]

theorem tile_at (x : FVec Ideal S1x256x1024 .f32) (r : Fin 256) (l : Fin 1024) : tile (F := Ideal) x (ix3 0 r l) = x (ix3 0 r l) := by
  pointwise [tile]

theorem mixer_at (x : FVec Ideal S1x256x1024 .bf16) (r : Fin 256) (l : Fin 1024) :
    mixer (F := Ideal) x (ix3 0 r l) = x (ix3 0 r l) := by
  pointwise [mixer]

theorem mixerRows_at (x : FVec Ideal S1x256x1024 .bf16) (r : Fin 256) (l : Fin 1024) :
    mixerRows (F := Ideal) x (ix2 r l) = x (ix3 0 r l) := by
  pointwise [mixerRows]

theorem square_at (u : FVec Ideal S256x1024 .bf16) (w : FVec Ideal S1024x1024 .bf16) (r : Fin 256) (l : Fin 1024) :
    square u w (ix2 r l) = product (fun k => u (ix2 r k)) (fun k l => w (ix2 k l)) l := by
  pointwise [square]
  rfl

theorem scanRows_at (y z : FVec Ideal S256x1024 .f32) (g : FVec Ideal S1x1024 .f32) (r : Fin 256) (l : Fin 1024) :
    scanRows y z g (ix2 r l)
      = rms (fun l => y (ix2 r l) * (z (ix2 r l) * Ideal.logistic (z (ix2 r l)))) (fun l => g (ix2 0 l)) l := by
  pointwise [scanRows]
  rw [rmsRows_at]
  rfl

theorem mergedRows_at (g0 a g1 b g2 y : FVec Ideal S256x1024 .f32) (r : Fin 256) (l : Fin 1024) :
    mergedRows g0 a g1 b g2 y (ix2 r l) = Ideal.logistic (g0 (ix2 r l)) * a (ix2 r l)
      + Ideal.logistic (g1 (ix2 r l)) * b (ix2 r l) + Ideal.logistic (g2 (ix2 r l)) * y (ix2 r l) := by
  pointwise [mergedRows]

theorem added_at (x gate y : FVec Ideal S256x1024 .f32) (g : FVec Ideal S1x1024 .f32) (r : Fin 256) (l : Fin 1024) :
    added x gate y g (ix3 0 r l) = x (ix2 r l) + gate (ix2 r l) * rms (fun l => y (ix2 r l)) (fun l => g (ix2 0 l)) l := by
  pointwise [added]
  rw [rmsRows_at]

/-- The modulated row. -/
theorem input_at (n : ℕ) (hn : n < 4096) (x0 : FVec Ideal S1x256x1024 .f32) (x1 : FVec Ideal S1x9x1024 .f32)
    (x2 : FVec Ideal S9x1024 .f32) (x3 : FVec Ideal S1x1024 .f32) (r : Fin 256) (l : Fin 1024) :
    input (F := Ideal) (BitVec.ofNat 32 n) x0 x1 x2 x3 (ix2 r l) = modulated (fun l => x0 (ix3 0 r l)) (fun l => x3 (ix2 0 l))
      (modAt (n + r) (fun l => x2 (ix2 4 l)) (fun l => x1 (ix3 0 4 l))) (modAt (n + r) (fun l => x2 (ix2 3 l)) (fun l => x1 (ix3 0 3 l))) l := by
  rw [input]
  simp only [modulatedRows_at, rows_at, tile_at, modRows_at n hn, modX_at, modC_at, gains_at]
  rfl

/-- The gated sum of a row. -/
theorem gatedSum_at (u : FVec Ideal S256x1024 .bf16) (x5 x6 : FVec Ideal S1x256x1024 .bf16) (x7 : FVec Ideal S1x256x1024 .f32)
    (x8 : FVec Ideal S1024x4096 .bf16) (x9 : FVec Ideal S1x1024 .f32) (x10 x11 x12 : FVec Ideal S1024x1024 .bf16)
    (r : Fin 256) (l : Fin 1024) :
    gatedSum (F := Ideal) u x5 x6 x7 x8 x9 x10 x11 x12 (ix2 r l)
      = merged (fun k => u (ix2 r k)) (fun k => x5 (ix3 0 r k)) (fun k => x6 (ix3 0 r k)) (fun k => x7 (ix3 0 r k))
          (fun k f => x8 (ix2 k f)) (fun l => x9 (ix2 0 l)) (fun k l => x10 (ix2 k l)) (fun k l => x11 (ix2 k l)) (fun k l => x12 (ix2 k l)) l := by
  rw [gatedSum, mergedRows_at]
  simp only [square_at, scanRows_at, columns_at, weight_at, mixerRows_at, mixer_at, rows_at, tile_at, gains_at]
  rfl

/-- What is stored, at a row: the token after the mixers. -/
theorem stored_at (n : ℕ) (hn : n < 4096) (x0 : FVec Ideal S1x256x1024 .f32) (x1 : FVec Ideal S1x9x1024 .f32)
    (x2 : FVec Ideal S9x1024 .f32) (x3 x4 : FVec Ideal S1x1024 .f32) (x5 x6 : FVec Ideal S1x256x1024 .bf16)
    (x7 : FVec Ideal S1x256x1024 .f32) (x8 : FVec Ideal S1024x4096 .bf16) (x9 : FVec Ideal S1x1024 .f32)
    (x10 x11 x12 x13 : FVec Ideal S1024x1024 .bf16) (r : Fin 256) (l : Fin 1024) :
    stored (F := Ideal) (BitVec.ofNat 32 n) x0 x1 x2 x3 x4 x5 x6 x7 x8 x9 x10 x11 x12 x13 (ix3 0 r l)
      = mixed (fun l => x0 (ix3 0 r l)) (modAt (n + r) (fun l => x2 (ix2 4 l)) (fun l => x1 (ix3 0 4 l)))
          (modAt (n + r) (fun l => x2 (ix2 3 l)) (fun l => x1 (ix3 0 3 l))) (modAt (n + r) (fun l => x2 (ix2 5 l)) (fun l => x1 (ix3 0 5 l)))
          (fun l => x3 (ix2 0 l)) (fun l => x4 (ix2 0 l)) (fun k => x5 (ix3 0 r k)) (fun k => x6 (ix3 0 r k)) (fun k => x7 (ix3 0 r k))
          (fun k f => x8 (ix2 k f)) (fun l => x9 (ix2 0 l)) (fun k l => x10 (ix2 k l)) (fun k l => x11 (ix2 k l)) (fun k l => x12 (ix2 k l))
          (fun k l => x13 (ix2 k l)) l := by
  rw [stored, added_at]
  simp only [square_at, gatedSum_at, input_at n hn, rows_at, tile_at, weight_at, modRows_at n hn, modX_at, modC_at, gains_at]
  rfl

end Merge

end
-- ==== Proof.Merge.Point.lean ====
module

public import proofs.«01_k».proof.Proof.Merge.StrandValue
public import Idealize.ShloMosaic.Lib.Pipeline.ValueKit

@[expose] public section

/-! # The result array of the merge

Every row of the array is the token after the mixers; a latent token's modulation is its batch element's, a context
token's the context's. -/

set_option maxRecDepth 16384

noncomputable section

namespace Merge

open Cert.Kernel4Ideal Cert.Kernel4Ideal.Gen Idealize.ShloMosaic Idealize.ShloMosaic.TcCoe Idealize.SL.Sem
open Idealize.ShloMosaic.Pipeline (Dat)
open Ffn (modAt base_eq)

/-- The tokens of both streams after the mixers. -/
def result (x : FVec Ideal S32x2304x1024 .f32) (modx : FVec Ideal S32x9x1024 .f32) (modc : FVec Ideal S9x1024 .f32)
    (gin gout : FVec Ideal S1x1024 .f32) (a b : FVec Ideal S32x2304x1024 .bf16) (s : FVec Ideal S32x2304x1024 .f32)
    (w : FVec Ideal S1024x4096 .bf16) (g : FVec Ideal S1x1024 .f32) (wa wb ws wo : FVec Ideal S1024x1024 .bf16) :
    FVec Ideal S32x2304x1024 .f32 := fun y =>
  mixed (fun l => x (ix3 (y 0) (y 1) l))
    (modAt (y 1 : ℕ) (fun l => modc (ix2 4 l)) (fun l => modx (ix3 (y 0) 4 l)))
    (modAt (y 1 : ℕ) (fun l => modc (ix2 3 l)) (fun l => modx (ix3 (y 0) 3 l)))
    (modAt (y 1 : ℕ) (fun l => modc (ix2 5 l)) (fun l => modx (ix3 (y 0) 5 l)))
    (fun l => gin (ix2 0 l)) (fun l => gout (ix2 0 l))
    (fun k => a (ix3 (y 0) (y 1) k)) (fun k => b (ix3 (y 0) (y 1) k)) (fun k => s (ix3 (y 0) (y 1) k))
    (fun k f => w (ix2 k f)) (fun l => g (ix2 0 l)) (fun k l => wa (ix2 k l)) (fun k l => wb (ix2 k l)) (fun k l => ws (ix2 k l))
    (fun k l => wo (ix2 k l)) (y 2)

/-- Which block of each window a point holds: batch element `t / 9`, tile `t % 9`. -/
theorem idx4 : ∀ t : Fin cfg0.N, (grid0.coords t 1).val = t.val % 9 ∧ win0_0.index t = ![t.val / 9, t.val % 9, 0]
    ∧ win0_1.index t = ![t.val / 9, 0, 0] ∧ win0_2.index t = ![0, 0] ∧ win0_3.index t = ![0, 0] ∧ win0_4.index t = ![0, 0]
    ∧ win0_5.index t = ![t.val / 9, t.val % 9, 0] ∧ win0_6.index t = ![t.val / 9, t.val % 9, 0]
    ∧ win0_7.index t = ![t.val / 9, t.val % 9, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![t.val / 9, t.val % 9, 0] :=
  (by decide +kernel : ∀ t : Fin grid0.N, _)

variable (m : (ℓ : Loc nD τ sig) → Buf (Elt Ideal) ℓ) (c : Dev nD) (t : Fin cfg0.N)

/-- The blocks of a point. -/
abbrev blkX : FVec Ideal S1x256x1024 .f32 := iblk m c 0 t
abbrev blkModx : FVec Ideal S1x9x1024 .f32 := iblk m c 1 t
abbrev blkModc : FVec Ideal S9x1024 .f32 := iblk m c 2 t
abbrev blkGin : FVec Ideal S1x1024 .f32 := iblk m c 3 t
abbrev blkGout : FVec Ideal S1x1024 .f32 := iblk m c 4 t
abbrev blkMla : FVec Ideal S1x256x1024 .bf16 := iblk m c 5 t
abbrev blkGqa : FVec Ideal S1x256x1024 .bf16 := iblk m c 6 t
abbrev blkY : FVec Ideal S1x256x1024 .f32 := iblk m c 7 t
abbrev blkW : FVec Ideal S1024x4096 .bf16 := iblk m c 8 t
abbrev blkG : FVec Ideal S1x1024 .f32 := iblk m c 9 t
abbrev blkWmla : FVec Ideal S1024x1024 .bf16 := iblk m c 10 t
abbrev blkWgqa : FVec Ideal S1024x1024 .bf16 := iblk m c 11 t
abbrev blkWy : FVec Ideal S1024x1024 .bf16 := iblk m c 12 t
abbrev blkWout : FVec Ideal S1024x1024 .bf16 := iblk m c 13 t

/-- The arguments. -/
abbrev argX : FVec Ideal S32x2304x1024 .f32 := m ((c : Thread nD τ).loc main_arg0)
abbrev argModx : FVec Ideal S32x9x1024 .f32 := m ((c : Thread nD τ).loc main_arg1)
abbrev argModc : FVec Ideal S9x1024 .f32 := m ((c : Thread nD τ).loc main_arg2)
abbrev argGin : FVec Ideal S1x1024 .f32 := m ((c : Thread nD τ).loc main_arg3)
abbrev argGout : FVec Ideal S1x1024 .f32 := m ((c : Thread nD τ).loc main_arg4)
abbrev argMla : FVec Ideal S32x2304x1024 .bf16 := m ((c : Thread nD τ).loc main_arg5)
abbrev argGqa : FVec Ideal S32x2304x1024 .bf16 := m ((c : Thread nD τ).loc main_arg6)
abbrev argY : FVec Ideal S32x2304x1024 .f32 := m ((c : Thread nD τ).loc main_arg7)
abbrev argW : FVec Ideal S1024x4096 .bf16 := m ((c : Thread nD τ).loc main_arg8)
abbrev argG : FVec Ideal S1x1024 .f32 := m ((c : Thread nD τ).loc main_arg9)
abbrev argWmla : FVec Ideal S1024x1024 .bf16 := m ((c : Thread nD τ).loc main_arg10)
abbrev argWgqa : FVec Ideal S1024x1024 .bf16 := m ((c : Thread nD τ).loc main_arg11)
abbrev argWy : FVec Ideal S1024x1024 .bf16 := m ((c : Thread nD τ).loc main_arg12)
abbrev argWout : FVec Ideal S1024x1024 .bf16 := m ((c : Thread nD τ).loc main_arg13)

section Tiles

variable (b : Fin 32) (T : Fin 9) (hb : (b : ℕ) = t.val / 9) (hT : (T : ℕ) = t.val % 9) (r : Fin 256) (l : Fin 1024)

include hb hT in
theorem blkX_at : blkX m c t (ix3 0 r l) = argX m c (ix3 b ⟨T * 256 + r, by omega⟩ l) := by
  blk_point [iblk, V, idx4 t]

include hb hT in
theorem blkMla_at : blkMla m c t (ix3 0 r l) = argMla m c (ix3 b ⟨T * 256 + r, by omega⟩ l) := by
  blk_point [iblk, V, idx4 t]

include hb hT in
theorem blkGqa_at : blkGqa m c t (ix3 0 r l) = argGqa m c (ix3 b ⟨T * 256 + r, by omega⟩ l) := by
  blk_point [iblk, V, idx4 t]

include hb hT in
theorem blkY_at : blkY m c t (ix3 0 r l) = argY m c (ix3 b ⟨T * 256 + r, by omega⟩ l) := by
  blk_point [iblk, V, idx4 t]

include hb in
theorem blkModx_at (j : Fin 9) : blkModx m c t (ix3 0 j l) = argModx m c (ix3 b j l) := by
  blk_point [iblk, V, idx4 t]

end Tiles

theorem blkModc_at (j : Fin 9) (l : Fin 1024) : blkModc m c t (ix2 j l) = argModc m c (ix2 j l) := by
  blk_point [iblk, V, idx4 t]

theorem blkGin_at (l : Fin 1024) : blkGin m c t (ix2 0 l) = argGin m c (ix2 0 l) := by
  blk_point [iblk, V, idx4 t]

theorem blkGout_at (l : Fin 1024) : blkGout m c t (ix2 0 l) = argGout m c (ix2 0 l) := by
  blk_point [iblk, V, idx4 t]

theorem blkW_at (k : Fin 1024) (f : Fin 4096) : blkW m c t (ix2 k f) = argW m c (ix2 k f) := by
  blk_point [iblk, V, idx4 t]

theorem blkG_at (l : Fin 1024) : blkG m c t (ix2 0 l) = argG m c (ix2 0 l) := by
  blk_point [iblk, V, idx4 t]

theorem blkWmla_at (k l : Fin 1024) : blkWmla m c t (ix2 k l) = argWmla m c (ix2 k l) := by
  blk_point [iblk, V, idx4 t]

theorem blkWgqa_at (k l : Fin 1024) : blkWgqa m c t (ix2 k l) = argWgqa m c (ix2 k l) := by
  blk_point [iblk, V, idx4 t]

theorem blkWy_at (k l : Fin 1024) : blkWy m c t (ix2 k l) = argWy m c (ix2 k l) := by
  blk_point [iblk, V, idx4 t]

theorem blkWout_at (k l : Fin 1024) : blkWout m c t (ix2 k l) = argWout m c (ix2 k l) := by
  blk_point [iblk, V, idx4 t]

/-- The result, from the arguments. -/
abbrev argResult : FVec Ideal S32x2304x1024 .f32 :=
  result (argX m c) (argModx m c) (argModc m c) (argGin m c) (argGout m c) (argMla m c) (argGqa m c) (argY m c) (argW m c) (argG m c)
    (argWmla m c) (argWgqa m c) (argWy m c) (argWout m c)

/-- What a point leaves, at row `r` of its tile. -/
theorem point (b : Fin 32) (T : Fin 9) (hb : (b : ℕ) = t.val / 9) (hT : (T : ℕ) = t.val % 9) (r : Fin 256) (l : Fin 1024) :
    out0_14 (F := Ideal) (grid0.coords t) (blkX m c t) (blkModx m c t) (blkModc m c t) (blkGin m c t) (blkGout m c t) (blkMla m c t)
        (blkGqa m c t) (blkY m c t) (blkW m c t) (blkG m c t) (blkWmla m c t) (blkWgqa m c t) (blkWy m c t) (blkWout m c t) (ix3 0 r l)
      = argResult m c (ix3 b ⟨T * 256 + r, by omega⟩ l) := by
  rw [out4, (idx4 t).1, ← hT, View.canon_unit_zero (by decide), base_eq, stored_at _ (by omega)]
  simp only [blkX_at m c t b T hb hT, blkMla_at m c t b T hb hT, blkGqa_at m c t b T hb hT, blkY_at m c t b T hb hT,
    blkModx_at m c t b hb, blkModc_at, blkGin_at, blkGout_at, blkW_at, blkG_at, blkWmla_at, blkWgqa_at, blkWy_at, blkWout_at]
  rfl

/-- The result array of the run. -/
theorem final : (dats m 0 c).arrAt 14 cfg0.N = argResult m c := by
  refine (dats m 0 c).arrAt_eq_of_covers 14 _ (by decide +kernel) fun t _ y => ?_
  have hN : t.val < 288 := lt_of_lt_of_eq t.isLt (show cfg0.N = 288 from N_0)
  blk_simp
  rw [after0_14]
  idx_vars y
  obtain rfl : y0 = 0 := Subsingleton.elim _ _
  refine (point m c t ⟨t.val / 9, by omega⟩ ⟨t.val % 9, by omega⟩ rfl rfl y1 y2).trans ?_
  refine congrArg _ ?_
  blk_ext [idx4 t]

end Merge

end
-- ==== Proof.Merge.Host.lean ====
module

public import proofs.«01_k».proof.Proof.Merge.Math
public import proofs.«01_k».proof.Proof.Gen.Reference4Ideal.Run

@[expose] public section

/-! # The reference's merge of the mixers, operation by operation -/

set_option maxRecDepth 16384

noncomputable section

namespace Merge

open Cert.Reference4Ideal Cert.Reference4Ideal.Gen Idealize.ShloMosaic Idealize.ShloMosaic.TcCoe Idealize.SL.Sem
open Ffn (rms modulated modAt one_eq addf_at mulf_at)

section Parts

variable {F : FTy → Type} [FloatOps F]

/-- One row of the latent tokens' modulation, at every latent token. -/
def latentRows (r : FVec F S32x1x1024 .f32) : FVec F S32x2048x1024 .f32 :=
  broadcastInDim S32x2048x1024 ![0, 1, 2] bcast_S32x1x1024_S32x2048x1024_0_1_2
    (broadcastInDim S32x1x1024 ![0, 2] bcast_S32x1024_S32x1x1024_0_2 (shapeCast S32x1024 r shapeCasts_S32x1x1024_S32x1024))

/-- One row of the context's modulation, at every context token. -/
def contextRows (r : FVec F S1x1024 .f32) : FVec F S32x256x1024 .f32 :=
  broadcastInDim S32x256x1024 ![2] bcast_S1024_S32x256x1024_2 (shapeCast S1024 r shapeCasts_S1x1024_S1024)

/-- Each token's row. -/
def tokenRows (x : FVec F S32x1x1024 .f32) (c : FVec F S1x1024 .f32) : FVec F S32x2304x1024 .f32 :=
  concatenate S32x2304x1024 1 [⟨S32x2048x1024, latentRows x⟩, ⟨S32x256x1024, contextRows c⟩]
    concatenates_S32x2048x1024_S32x256x1024_S32x2304x1024_d1

/-- Rows 3, 4 and 5 of the modulation. -/
def modx3 (x : FVec F S32x9x1024 .f32) : FVec F S32x1x1024 .f32 :=
  extractStridedSlice S32x1x1024 ![0, 3, 0] x slices_S32x9x1024_S32x1x1024_0_3_0
def modx4 (x : FVec F S32x9x1024 .f32) : FVec F S32x1x1024 .f32 :=
  extractStridedSlice S32x1x1024 ![0, 4, 0] x slices_S32x9x1024_S32x1x1024_0_4_0
def modx5 (x : FVec F S32x9x1024 .f32) : FVec F S32x1x1024 .f32 :=
  extractStridedSlice S32x1x1024 ![0, 5, 0] x slices_S32x9x1024_S32x1x1024_0_5_0
def modc3 (x : FVec F S9x1024 .f32) : FVec F S1x1024 .f32 := extractStridedSlice S1x1024 ![3, 0] x slices_S9x1024_S1x1024_3_0
def modc4 (x : FVec F S9x1024 .f32) : FVec F S1x1024 .f32 := extractStridedSlice S1x1024 ![4, 0] x slices_S9x1024_S1x1024_4_0
def modc5 (x : FVec F S9x1024 .f32) : FVec F S1x1024 .f32 := extractStridedSlice S1x1024 ![5, 0] x slices_S9x1024_S1x1024_5_0

/-- The gains at every token. -/
def gainRows (g : FVec F S1x1024 .f32) : FVec F S32x2304x1024 .f32 :=
  broadcastInDim S32x2304x1024 ![0, 1, 2] bcast_S1x1x1024_S32x2304x1024_0_1_2
    (broadcastInDim S1x1x1024 ![2] bcast_S1024_S1x1x1024_2 (shapeCast S1024 g shapeCasts_S1x1024_S1024))

/-- The normalization. -/
def rmsH (t g : FVec F S32x2304x1024 .f32) : FVec F S32x2304x1024 .f32 :=
  mulf (mulf t (broadcastInDim S32x2304x1024 ![0, 1, 2] bcast_S32x2304x1_S32x2304x1024_0_1_2 (Host.rsqrt (addf
    (Host.divf (broadcastInDim S32x2304x1 ![0, 1] bcast_S32x2304_S32x2304x1_0_1
        (Host.reduceAdd (mulf t t) (constant S_ .f32 0x00000000#32) reducesTo_S32x2304x1024_S32x2304_d2 h_S_))
      (broadcastInDim S32x2304x1 ![] bcast_S_S32x2304x1 (constant S_ .f32 0x44800000#32)))
    (broadcastInDim S32x2304x1 ![] bcast_S_S32x2304x1 (constant S_ .f32 0x358637BD#32)))))) g

/-- The modulated tokens. -/
def modulatedH (x g scale shift : FVec F S32x2304x1024 .f32) : FVec F S32x2304x1024 .f32 :=
  addf (mulf (rmsH x g) (addf (broadcastInDim S32x2304x1024 ![] bcast_S_S32x2304x1024 (constant S_ .f32 0x3F800000#32)) scale)) shift

/-- The columns of the gates. -/
def gatesH (u : FVec F S32x2304x1024 .f32) (w : FVec F S1024x4096 .bf16) : FVec F S32x2304x4096 .f32 :=
  Host.dotGeneral dot_S32x2304x1024_S1024x4096_S32x2304x4096_2_0_01_1_n_n none u (extf .f32 w bitsLt_bf16_f32)

/-- The scan's gate. -/
def zH (h : FVec F S32x2304x4096 .f32) : FVec F S32x2304x1024 .f32 :=
  extractStridedSlice S32x2304x1024 ![0, 0, 0] h slices_S32x2304x4096_S32x2304x1024_0_0_0

/-- The scan's output under its gate. -/
def scanH (y z : FVec F S32x2304x1024 .f32) : FVec F S32x2304x1024 .f32 :=
  mulf y (mulf z (Host.divf (broadcastInDim S32x2304x1024 ![] bcast_S_S32x2304x1024 (constant S_ .f32 0x3F800000#32))
    (addf (broadcastInDim S32x2304x1024 ![] bcast_S_S32x2304x1024 (constant S_ .f32 0x3F800000#32)) (Host.exp (Host.negf z)))))

/-- The columns of the merge's gates. -/
def mergeCols (h : FVec F S32x2304x4096 .f32) : FVec F S32x2304x3072 .f32 :=
  extractStridedSlice S32x2304x3072 ![0, 0, 1024] h slices_S32x2304x4096_S32x2304x3072_0_0_1024

/-- The three gates. -/
def sigmoidH (a : FVec F S32x2304x3072 .f32) : FVec F S32x2304x3072 .f32 :=
  Host.divf (broadcastInDim S32x2304x3072 ![] bcast_S_S32x2304x3072 (constant S_ .f32 0x3F800000#32))
    (addf (broadcastInDim S32x2304x3072 ![] bcast_S_S32x2304x3072 (constant S_ .f32 0x3F800000#32)) (Host.exp (Host.negf a)))

/-- The gates, branch by branch. -/
def split (a : FVec F S32x2304x3072 .f32) : FVec F S32x2304x3x1024 .f32 :=
  shapeCast S32x2304x3x1024 a shapeCasts_S32x2304x3072_S32x2304x3x1024

def branch0 (a : FVec F S32x2304x3x1024 .f32) : FVec F S32x2304x1024 .f32 :=
  shapeCast S32x2304x1024 (extractStridedSlice S32x2304x1x1024 ![0, 0, 0, 0] a slices_S32x2304x3x1024_S32x2304x1x1024_0_0_0_0)
    shapeCasts_S32x2304x1x1024_S32x2304x1024
def branch1 (a : FVec F S32x2304x3x1024 .f32) : FVec F S32x2304x1024 .f32 :=
  shapeCast S32x2304x1024 (extractStridedSlice S32x2304x1x1024 ![0, 0, 1, 0] a slices_S32x2304x3x1024_S32x2304x1x1024_0_0_1_0)
    shapeCasts_S32x2304x1x1024_S32x2304x1024
def branch2 (a : FVec F S32x2304x3x1024 .f32) : FVec F S32x2304x1024 .f32 :=
  shapeCast S32x2304x1024 (extractStridedSlice S32x2304x1x1024 ![0, 0, 2, 0] a slices_S32x2304x3x1024_S32x2304x1x1024_0_0_2_0)
    shapeCasts_S32x2304x1x1024_S32x2304x1024

/-- The product with a square weight. -/
def squareH (u : FVec F S32x2304x1024 .f32) (w : FVec F S1024x1024 .bf16) : FVec F S32x2304x1024 .f32 :=
  Host.dotGeneral dot_S32x2304x1024_S1024x1024_S32x2304x1024_2_0_01_1_n_n none u (extf .f32 w bitsLt_bf16_f32)

/-- The gated sum of the projections. -/
def mergedH (g : FVec F S32x2304x3x1024 .f32) (a b y : FVec F S32x2304x1024 .f32) : FVec F S32x2304x1024 .f32 :=
  addf (addf (mulf (branch0 g) a) (mulf (branch1 g) b)) (mulf (branch2 g) y)

/-- The gated sum from the modulated tokens and the mixers' outputs. -/
def sumH (h : FVec F S32x2304x4096 .f32) (a b : FVec F S32x2304x1024 .bf16) (y : FVec F S32x2304x1024 .f32) (g : FVec F S1x1024 .f32)
    (wa wb wy : FVec F S1024x1024 .bf16) : FVec F S32x2304x1024 .f32 :=
  mergedH (split (sigmoidH (mergeCols h))) (squareH (extf .f32 a bitsLt_bf16_f32) wa) (squareH (extf .f32 b bitsLt_bf16_f32) wb)
    (squareH (rmsH (scanH y (zH h)) (gainRows g)) wy)

/-- The tokens after the mixers. -/
def mixedH (x gate : FVec F S32x2304x1024 .f32) (s : FVec F S32x2304x1024 .f32) (g : FVec F S1x1024 .f32) (wo : FVec F S1024x1024 .bf16) :
    FVec F S32x2304x1024 .f32 :=
  addf x (mulf gate (rmsH (squareH s wo) (gainRows g)))

/-- All of it, from the arguments. -/
def whole (x : FVec F S32x2304x1024 .f32) (modx : FVec F S32x9x1024 .f32) (modc : FVec F S9x1024 .f32)
    (gin gout : FVec F S1x1024 .f32) (a b : FVec F S32x2304x1024 .bf16) (y : FVec F S32x2304x1024 .f32)
    (w : FVec F S1024x4096 .bf16) (g : FVec F S1x1024 .f32) (wa wb wy wo : FVec F S1024x1024 .bf16) : FVec F S32x2304x1024 .f32 :=
  mixedH x (tokenRows (modx5 modx) (modc5 modc))
    (sumH (gatesH (modulatedH x (gainRows gin) (tokenRows (modx4 modx) (modc4 modc)) (tokenRows (modx3 modx) (modc3 modc))) w)
      a b y g wa wb wy) gout wo

/-- The reference's result is made of these. -/
theorem res_parts (m : (ℓ : Loc nD τ sig) → Buf (Elt F) ℓ) (c : Dev nD) :
    Value.res_out0 m c = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) := rfl

end Parts

/-! ## The parts at an index -/

theorem latentRows_at (r : FVec Ideal S32x1x1024 .f32) (b : Fin 32) (n : Fin 2048) (l : Fin 1024) :
    latentRows r (ix3 b n l) = r (ix3 b 0 l) := by
  pointwise [latentRows]

theorem contextRows_at (r : FVec Ideal S1x1024 .f32) (b : Fin 32) (n : Fin 256) (l : Fin 1024) :
    contextRows r (ix3 b n l) = r (ix2 0 l) := by
  pointwise [contextRows]

theorem tokenRows_at (x : FVec Ideal S32x1x1024 .f32) (c : FVec Ideal S1x1024 .f32) (b : Fin 32) (n : Fin 2304) (l : Fin 1024) :
    tokenRows x c (ix3 b n l) = modAt (n : ℕ) (fun l => c (ix2 0 l)) (fun l => x (ix3 b 0 l)) l := by
  pointwise [tokenRows]
  unfold modAt
  by_cases h : (n : ℕ) < 2048
  · rw [dif_pos h]
    exact (latentRows_at _ _ _ _).trans (if_neg (by omega)).symm
  · rw [dif_neg h]
    exact (contextRows_at _ _ _ _).trans (if_pos (by omega)).symm

theorem modx3_at (x : FVec Ideal S32x9x1024 .f32) (b : Fin 32) (l : Fin 1024) : modx3 x (ix3 b 0 l) = x (ix3 b 3 l) := by
  pointwise [modx3]
theorem modx4_at (x : FVec Ideal S32x9x1024 .f32) (b : Fin 32) (l : Fin 1024) : modx4 x (ix3 b 0 l) = x (ix3 b 4 l) := by
  pointwise [modx4]
theorem modx5_at (x : FVec Ideal S32x9x1024 .f32) (b : Fin 32) (l : Fin 1024) : modx5 x (ix3 b 0 l) = x (ix3 b 5 l) := by
  pointwise [modx5]
theorem modc3_at (x : FVec Ideal S9x1024 .f32) (l : Fin 1024) : modc3 x (ix2 0 l) = x (ix2 3 l) := by
  pointwise [modc3]
theorem modc4_at (x : FVec Ideal S9x1024 .f32) (l : Fin 1024) : modc4 x (ix2 0 l) = x (ix2 4 l) := by
  pointwise [modc4]
theorem modc5_at (x : FVec Ideal S9x1024 .f32) (l : Fin 1024) : modc5 x (ix2 0 l) = x (ix2 5 l) := by
  pointwise [modc5]

theorem gainRows_at (g : FVec Ideal S1x1024 .f32) (b : Fin 32) (n : Fin 2304) (l : Fin 1024) :
    gainRows g (ix3 b n l) = g (ix2 0 l) := by
  pointwise [gainRows]

theorem rmsH_at (t g : FVec Ideal S32x2304x1024 .f32) (b : Fin 32) (n : Fin 2304) (l : Fin 1024) :
    rmsH t g (ix3 b n l) = rms (fun l => t (ix3 b n l)) (fun l => g (ix3 b n l)) l := by
  pointwise [rmsH]
  rfl

theorem modulatedH_at (x g scale shift : FVec Ideal S32x2304x1024 .f32) (b : Fin 32) (n : Fin 2304) (l : Fin 1024) :
    modulatedH x g scale shift (ix3 b n l) = modulated (fun l => x (ix3 b n l)) (fun l => g (ix3 b n l))
      (fun l => scale (ix3 b n l)) (fun l => shift (ix3 b n l)) l := by
  pointwise [modulatedH]
  rw [rmsH_at]
  rfl

theorem gatesH_at (u : FVec Ideal S32x2304x1024 .f32) (w : FVec Ideal S1024x4096 .bf16) (b : Fin 32) (n : Fin 2304) (f : Fin 4096) :
    gatesH u w (ix3 b n f) = ∑ k : Fin 1024, u (ix3 b n k) * w (ix2 k f) := by
  pointwise [gatesH]

theorem zH_at (h : FVec Ideal S32x2304x4096 .f32) (b : Fin 32) (n : Fin 2304) (l : Fin 1024) :
    zH h (ix3 b n l) = h (ix3 b n ⟨l, by omega⟩) := by
  pointwise [zH]

theorem scanH_at (y z : FVec Ideal S32x2304x1024 .f32) (b : Fin 32) (n : Fin 2304) (l : Fin 1024) :
    scanH y z (ix3 b n l) = y (ix3 b n l) * (z (ix3 b n l) * Ideal.logistic (z (ix3 b n l))) := by
  pointwise [scanH]
  rfl

theorem mergeCols_at (h : FVec Ideal S32x2304x4096 .f32) (b : Fin 32) (n : Fin 2304) (f : Fin 3072) :
    mergeCols h (ix3 b n f) = h (ix3 b n ⟨1024 + f, by omega⟩) := by
  pointwise [mergeCols]

theorem sigmoidH_at (a : FVec Ideal S32x2304x3072 .f32) (b : Fin 32) (n : Fin 2304) (f : Fin 3072) :
    sigmoidH a (ix3 b n f) = Ideal.logistic (a (ix3 b n f)) := by
  pointwise [sigmoidH]
  rfl

theorem split_at (a : FVec Ideal S32x2304x3072 .f32) (b : Fin 32) (n : Fin 2304) (j : Fin 3) (l : Fin 1024) :
    split a (ix4 b n j l) = a (ix3 b n ⟨j * 1024 + l, by omega⟩) := by
  pointwise [split]

theorem branch0_at (a : FVec Ideal S32x2304x3x1024 .f32) (b : Fin 32) (n : Fin 2304) (l : Fin 1024) :
    branch0 a (ix3 b n l) = a (ix4 b n 0 l) := by
  pointwise [branch0]
theorem branch1_at (a : FVec Ideal S32x2304x3x1024 .f32) (b : Fin 32) (n : Fin 2304) (l : Fin 1024) :
    branch1 a (ix3 b n l) = a (ix4 b n 1 l) := by
  pointwise [branch1]
theorem branch2_at (a : FVec Ideal S32x2304x3x1024 .f32) (b : Fin 32) (n : Fin 2304) (l : Fin 1024) :
    branch2 a (ix3 b n l) = a (ix4 b n 2 l) := by
  pointwise [branch2]

theorem squareH_at (u : FVec Ideal S32x2304x1024 .f32) (w : FVec Ideal S1024x1024 .bf16) (b : Fin 32) (n : Fin 2304) (l : Fin 1024) :
    squareH u w (ix3 b n l) = product (fun k => u (ix3 b n k)) (fun k l => w (ix2 k l)) l := by
  pointwise [squareH]
  rfl

theorem mergedH_at (g : FVec Ideal S32x2304x3x1024 .f32) (a c y : FVec Ideal S32x2304x1024 .f32) (b : Fin 32) (n : Fin 2304) (l : Fin 1024) :
    mergedH g a c y (ix3 b n l) = g (ix4 b n 0 l) * a (ix3 b n l) + g (ix4 b n 1 l) * c (ix3 b n l) + g (ix4 b n 2 l) * y (ix3 b n l) := by
  pointwise [mergedH]
  simp only [branch0_at, branch1_at, branch2_at]

/-- Over the reals widening changes nothing. -/
theorem extf_at {s : Shape} (x : FVec Ideal s .bf16) (h) (i : s.Idx) : extf (F := Ideal) .f32 x h i = x i := rfl

/-- The gate of branch `j`. -/
theorem gate_at (u : FVec Ideal S32x2304x1024 .f32) (w : FVec Ideal S1024x4096 .bf16) (b : Fin 32) (n : Fin 2304) (j : Fin 3) (l : Fin 1024) :
    split (sigmoidH (mergeCols (gatesH u w))) (ix4 b n j l)
      = Ideal.logistic (product (fun k => u (ix3 b n k)) (block (fun k f => w (ix2 k f)) ⟨j + 1, by omega⟩) l) := by
  rw [split_at, sigmoidH_at, mergeCols_at, gatesH_at]
  have h : (⟨1024 + (j * 1024 + l), by omega⟩ : Fin 4096) = ⟨1024 * (j + 1) + l, by omega⟩ :=
    Fin.ext (by show 1024 + ((j : ℕ) * 1024 + l) = 1024 * (j + 1) + l; omega)
  exact congrArg Ideal.logistic (Finset.sum_congr rfl fun k _ => congrArg (fun f => u (ix3 b n k) * w (ix2 k f)) h)

/-- The scan's gate. -/
theorem z_at (u : FVec Ideal S32x2304x1024 .f32) (w : FVec Ideal S1024x4096 .bf16) (b : Fin 32) (n : Fin 2304) (l : Fin 1024) :
    zH (gatesH u w) (ix3 b n l) = product (fun k => u (ix3 b n k)) (block (fun k f => w (ix2 k f)) 0) l := by
  rw [zH_at, gatesH_at]
  have h : (⟨l, by omega⟩ : Fin 4096) = ⟨1024 * (0 : Fin 4) + l, by omega⟩ := Fin.ext (by show (l : ℕ) = 1024 * 0 + l; omega)
  exact Finset.sum_congr rfl fun k _ => congrArg (fun f => u (ix3 b n k) * w (ix2 k f)) h

theorem sumH_at (u : FVec Ideal S32x2304x1024 .f32) (w : FVec Ideal S1024x4096 .bf16) (a c : FVec Ideal S32x2304x1024 .bf16)
    (y : FVec Ideal S32x2304x1024 .f32) (g : FVec Ideal S1x1024 .f32) (wa wb wy : FVec Ideal S1024x1024 .bf16)
    (b : Fin 32) (n : Fin 2304) (l : Fin 1024) :
    sumH (gatesH u w) a c y g wa wb wy (ix3 b n l)
      = merged (fun k => u (ix3 b n k)) (fun k => a (ix3 b n k)) (fun k => c (ix3 b n k)) (fun k => y (ix3 b n k))
          (fun k f => w (ix2 k f)) (fun l => g (ix2 0 l)) (fun k l => wa (ix2 k l)) (fun k l => wb (ix2 k l)) (fun k l => wy (ix2 k l)) l := by
  rw [sumH, mergedH_at]
  simp only [gate_at, squareH_at, extf_at, rmsH_at, scanH_at, z_at, gainRows_at]
  rfl

theorem mixedH_at (x gate s : FVec Ideal S32x2304x1024 .f32) (g : FVec Ideal S1x1024 .f32) (wo : FVec Ideal S1024x1024 .bf16)
    (b : Fin 32) (n : Fin 2304) (l : Fin 1024) :
    mixedH x gate s g wo (ix3 b n l) = x (ix3 b n l)
      + gate (ix3 b n l) * rms (product (fun k => s (ix3 b n k)) (fun k l => wo (ix2 k l))) (fun l => g (ix2 0 l)) l := by
  pointwise [mixedH]
  simp only [rmsH_at, squareH_at, gainRows_at]

end Merge

end
-- ==== Proof.Merge.Reference.lean ====
module

public import proofs.«01_k».proof.Proof.Merge.Host
public import proofs.«01_k».proof.Proof.Merge.Point

@[expose] public section

/-! # The reference's tokens after the mixers are those of the kernel -/

set_option maxRecDepth 16384

noncomputable section

namespace Merge

open Cert.Reference4Ideal Cert.Reference4Ideal.Gen Idealize.ShloMosaic Idealize.ShloMosaic.TcCoe Idealize.SL.Sem

theorem whole_at (x : FVec Ideal S32x2304x1024 .f32) (modx : FVec Ideal S32x9x1024 .f32) (modc : FVec Ideal S9x1024 .f32)
    (gin gout : FVec Ideal S1x1024 .f32) (a b : FVec Ideal S32x2304x1024 .bf16) (s : FVec Ideal S32x2304x1024 .f32)
    (w : FVec Ideal S1024x4096 .bf16) (g : FVec Ideal S1x1024 .f32) (wa wb ws wo : FVec Ideal S1024x1024 .bf16) :
    whole x modx modc gin gout a b s w g wa wb ws wo = result x modx modc gin gout a b s w g wa wb ws wo := by
  funext y
  idx_vars y
  rw [whole, mixedH_at]
  simp only [sumH_at, modulatedH_at, tokenRows_at, modx3_at, modx4_at, modx5_at, modc3_at, modc4_at, modc5_at, gainRows_at]
  rfl

theorem reference_eq (m : (ℓ : Loc nD τ sig) → Buf (Elt Ideal) ℓ) (c : Dev nD) :
    Value.res_out0 m c = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) :=
  (res_parts m c).trans (whole_at _ _ _ _ _ _ _ _ _ _ _ _ _ _)

end Merge

end
-- ==== Proof.Grouped.Ideal.RunA.lean ====
/- The launch set-up of `Kernel5Ideal`: a query tile of context tokens runs its body. Taken over from the module of the same name under Gen/, with the body run
   printed part by printed part. -/
module

public import proofs.«01_k».proof.Proof.Gen.Kernel5Ideal.Frame.Runs

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 not taken, `scf.if` 1 taken: points 0, 9, … 279: 32 of 288), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x256x1024 .bf16) (harg3 : arg3.IsWhole) (arg4 : Memref sig .tc .vmem S1x4x2304x128 .bf16) (harg4 : arg4.IsWhole) (arg5 : Memref sig .tc .vmem S1x256x2304 .bf16) (harg5 : arg5.IsWhole) (arg6 : Memref sig .tc .vmem S1x256x1024 .bf16) (harg6 : arg6.IsWhole) (hc0 : ¬cond0_0 i) (hc1 : cond0_1 i)
    (x0 : Vec F S1x256x1024 .bf16) (x1 : Vec F S1x4x2304x128 .bf16) (x2 : Vec F S1x256x2304 .bf16) :
    { L3 : List (View.Piece (Elt F) S1x256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc0_gqa_attention i arg3 harg3 arg4 harg4 arg5 harg5 arg6 harg6) K } := by
  refine ⟨?_, fun E K => ?run⟩
  case run =>
    sl_unfold [cc0_gqa_attention]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel5Ideal.Gen

end
-- ==== Proof.Grouped.Ideal.RunB.lean ====
/- The launch set-up of `Kernel5Ideal`: a query tile of latent tokens runs its body. Taken over from the module of the same name under Gen/, with the body run
   printed part by printed part. -/
module

public import proofs.«01_k».proof.Proof.Gen.Kernel5Ideal.Frame.Runs

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2604000 in
/-- What the body's stores leave in each output's staging memref, as pieces (last first) IN CASE B (`scf.if` 0 taken, `scf.if` 1 not taken: points 1, 2, … 287: 256 of 288), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x256x1024 .bf16) (harg3 : arg3.IsWhole) (arg4 : Memref sig .tc .vmem S1x4x2304x128 .bf16) (harg4 : arg4.IsWhole) (arg5 : Memref sig .tc .vmem S1x256x2304 .bf16) (harg5 : arg5.IsWhole) (arg6 : Memref sig .tc .vmem S1x256x1024 .bf16) (harg6 : arg6.IsWhole) (hc0 : cond0_0 i) (hc1 : ¬cond0_1 i)
    (x0 : Vec F S1x256x1024 .bf16) (x1 : Vec F S1x4x2304x128 .bf16) (x2 : Vec F S1x256x2304 .bf16) :
    { L3 : List (View.Piece (Elt F) S1x256x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc0_gqa_attention i arg3 harg3 arg4 harg4 arg5 harg5 arg6 harg6) K } := by
  refine ⟨?_, fun E K => ?run⟩
  case run =>
    sl_unfold [cc0_gqa_attention]
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel5Ideal.Gen

end
-- ==== Proof.Grouped.Ideal.Frame.lean ====
/- The launch set-up of `Kernel5Ideal`: the run of the whole grid. Taken over from the module of the same name under Gen/, with the body run
   printed part by printed part. -/
module

public import proofs.«01_k».proof.Proof.Grouped.Ideal.RunA
public import proofs.«01_k».proof.Proof.Grouped.Ideal.RunB
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (8 stores of `S1x256x128`, checked by the kernel's evaluation: Lib/Ring.lean `Piece.tiledL`, linear in the pieces, through a loop's `@[irreducible]` trip theorem too), so they cover it. -/
theorem cover0_A_3 (c : Dev nD) (i : grid0.Coords) (arg3 : Memref sig .tc .vmem S1x256x1024 .bf16) (harg3 : arg3.IsWhole) (arg4 : Memref sig .tc .vmem S1x4x2304x128 .bf16) (harg4 : arg4.IsWhole) (arg5 : Memref sig .tc .vmem S1x256x2304 .bf16) (harg5 : arg5.IsWhole) (arg6 : Memref sig .tc .vmem S1x256x1024 .bf16) (harg6 : arg6.IsWhole) (hc0 : ¬cond0_0 i) (hc1 : cond0_1 i)
    (x0 : Vec F S1x256x1024 .bf16) (x1 : Vec F S1x4x2304x128 .bf16) (x2 : Vec F S1x256x2304 .bf16) (y : S1x256x1024.Idx) :
    ∃ pc ∈ (kernelRun0_A c i arg3 harg3 arg4 harg4 arg5 harg5 arg6 harg6 hc0 hc1 x0 x1 x2).1, y ∈ pc.1.set :=
  View.cover_of_tiledL (kernelRun0_A c i arg3 harg3 arg4 harg4 arg5 harg5 arg6 harg6 hc0 hc1 x0 x1 x2).1 S1x256x128.size (by sl_kernel_rfl) y

/-- What case A leaves in output 3's staging buffer: its pieces read back over junk. -/
def out0_A_3 (c : Dev nD) (i : grid0.Coords) (arg3 : Memref sig .tc .vmem S1x256x1024 .bf16) (harg3 : arg3.IsWhole) (arg4 : Memref sig .tc .vmem S1x4x2304x128 .bf16) (harg4 : arg4.IsWhole) (arg5 : Memref sig .tc .vmem S1x256x2304 .bf16) (harg5 : arg5.IsWhole) (arg6 : Memref sig .tc .vmem S1x256x1024 .bf16) (harg6 : arg6.IsWhole) (hc0 : ¬cond0_0 i) (hc1 : cond0_1 i)
    (x0 : Vec F S1x256x1024 .bf16) (x1 : Vec F S1x4x2304x128 .bf16) (x2 : Vec F S1x256x2304 .bf16) : Vec F S1x256x1024 .bf16 :=
  VO0_3.read (Elt F) (VO0_3.writes (Elt F) VO0_3.junk (kernelRun0_A c i arg3 harg3 arg4 harg4 arg5 harg5 arg6 harg6 hc0 hc1 x0 x1 x2).1)

/-- Case B's pieces for output 3 tile its block (8 stores of `S1x256x128`, checked by the kernel's evaluation: Lib/Ring.lean `Piece.tiledL`, linear in the pieces, through a loop's `@[irreducible]` trip theorem too), so they cover it. -/
theorem cover0_B_3 (c : Dev nD) (i : grid0.Coords) (arg3 : Memref sig .tc .vmem S1x256x1024 .bf16) (harg3 : arg3.IsWhole) (arg4 : Memref sig .tc .vmem S1x4x2304x128 .bf16) (harg4 : arg4.IsWhole) (arg5 : Memref sig .tc .vmem S1x256x2304 .bf16) (harg5 : arg5.IsWhole) (arg6 : Memref sig .tc .vmem S1x256x1024 .bf16) (harg6 : arg6.IsWhole) (hc0 : cond0_0 i) (hc1 : ¬cond0_1 i)
    (x0 : Vec F S1x256x1024 .bf16) (x1 : Vec F S1x4x2304x128 .bf16) (x2 : Vec F S1x256x2304 .bf16) (y : S1x256x1024.Idx) :
    ∃ pc ∈ (kernelRun0_B c i arg3 harg3 arg4 harg4 arg5 harg5 arg6 harg6 hc0 hc1 x0 x1 x2).1, y ∈ pc.1.set :=
  View.cover_of_tiledL (kernelRun0_B c i arg3 harg3 arg4 harg4 arg5 harg5 arg6 harg6 hc0 hc1 x0 x1 x2).1 S1x256x128.size (by sl_kernel_rfl) y

/-- What case B leaves in output 3's staging buffer: its pieces read back over junk. -/
def out0_B_3 (c : Dev nD) (i : grid0.Coords) (arg3 : Memref sig .tc .vmem S1x256x1024 .bf16) (harg3 : arg3.IsWhole) (arg4 : Memref sig .tc .vmem S1x4x2304x128 .bf16) (harg4 : arg4.IsWhole) (arg5 : Memref sig .tc .vmem S1x256x2304 .bf16) (harg5 : arg5.IsWhole) (arg6 : Memref sig .tc .vmem S1x256x1024 .bf16) (harg6 : arg6.IsWhole) (hc0 : cond0_0 i) (hc1 : ¬cond0_1 i)
    (x0 : Vec F S1x256x1024 .bf16) (x1 : Vec F S1x4x2304x128 .bf16) (x2 : Vec F S1x256x2304 .bf16) : Vec F S1x256x1024 .bf16 :=
  VO0_3.read (Elt F) (VO0_3.writes (Elt F) VO0_3.junk (kernelRun0_B c i arg3 harg3 arg4 harg4 arg5 harg5 arg6 harg6 hc0 hc1 x0 x1 x2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .bf16
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (fun h => (fun h => by (try dsimp only at h); omega) ((hcond0_0 ⟨0, hn⟩).mp h)) ((hcond0_1 ⟨0, hn⟩).mpr (Nat.zero_mod _)) (iblk m c 0 ⟨0, hn⟩) (iblk m c 1 ⟨0, hn⟩) (iblk m c 2 ⟨0, hn⟩)
  | n + 1, hn =>
    if h0 : 1 ≤ (n + 1) % 9 then
      if h1 : (n + 1) % 9 = 0 then
        False.elim (by have hN : n + 1 < 288 := lt_of_lt_of_eq hn (show cfg0.N = 288 from N_0); omega)
      else
        out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩)
    else
      if h1 : (n + 1) % 9 = 0 then
        out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)
      else
        False.elim (by have hN : n + 1 < 288 := lt_of_lt_of_eq hn (show cfg0.N = 288 from N_0); omega)

/-- `outsAt0` at a point of case A: that case's contents. -/
theorem outsAt0_A (c : Dev nD) (t : Fin cfg0.N) (h0 : ¬1 ≤ t.val % 9) (h1 : t.val % 9 = 0) :
    outsAt0 m c t.val t.isLt = out0_A_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t) := by
  obtain ⟨n, hn⟩ := t
  cases n with
  | zero => exact rfl
  | succ n => exact (dif_neg h0).trans ((dif_pos h1).trans rfl)

/-- `outsAt0` at a point of case B: that case's contents. -/
theorem outsAt0_B (c : Dev nD) (t : Fin cfg0.N) (h0 : 1 ≤ t.val % 9) (h1 : ¬t.val % 9 = 0) :
    outsAt0 m c t.val t.isLt = out0_B_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (iblk m c 2 t) := by
  obtain ⟨n, hn⟩ := t
  cases n with
  | zero => exact (by exfalso; (try dsimp only at h0); exact by omega)
  | succ n => exact (dif_pos h0).trans ((dif_neg h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 288 := lt_of_lt_of_eq t.isLt (show cfg0.N = 288 from N_0)
  by_cases h0 : 1 ≤ t.val % 9
  · by_cases h1 : t.val % 9 = 0
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t ((hcond0_0 t).mpr h0) (fun h => h1 ((hcond0_1 t).mp h))], after0_3]
      rw [outsAt0_B m c t h0 h1]
      unfold out0_B_3
      iintro ⟨HΦ, Ho, ⟨%d0, H0⟩, ⟨%d1, H1⟩, ⟨%d2, H2⟩, ⟨%d3, H3⟩⟩
      iapply ((kernelRun0_B c (grid0.coords t) _ _ _ _ _ _ _ _ ((hcond0_0 t).mpr h0) (fun h => h1 ((hcond0_1 t).mp h)) (iblk m c 0 t) (iblk m c 1 t) (iblk m c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _)
  · by_cases h1 : t.val % 9 = 0
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t (fun h => h0 ((hcond0_0 t).mp h)) ((hcond0_1 t).mpr h1)], after0_3]
      rw [outsAt0_A m c t h0 h1]
      unfold out0_A_3
      iintro ⟨HΦ, Ho, ⟨%d0, H0⟩, ⟨%d1, H1⟩, ⟨%d2, H2⟩, ⟨%d3, H3⟩⟩
      iapply ((kernelRun0_A c (grid0.coords t) _ _ _ _ _ _ _ _ (fun h => h0 ((hcond0_0 t).mp h)) ((hcond0_1 t).mpr h1) (iblk m c 0 t) (iblk m c 1 t) (iblk m c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel5Ideal`'s statement (Defs.lean) at any `F` — Proof.lean cites it at `Bits`:
    `theorem Cert.Proof.claim : Cert.Claim := ⟨Cert.Kernel5Ideal.Gen.facts, fun m ρ _ => Cert.Kernel5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.Gen

end
-- ==== Proof.Grouped.Ideal.Value.lean ====
/- The launch set-up of `Kernel5Ideal`: the result array of the run, tile by tile. Taken over from the module of the same name under Gen/, with the body run
   printed part by printed part. -/
module

public import proofs.«01_k».proof.Proof.Grouped.Ideal.Frame
public import Idealize.ShloMosaic.Lib.Pipeline.Value

@[expose] public section

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t.val t.isLt) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : ¬1 ≤ t.val % 9) (h1 : t.val % 9 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : 1 ≤ t.val % 9) (h1 : ¬t.val % 9 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (iblk m c 2 t)) := by
  simp only [flushed3, outsAt0_B m c t h0 h1]

-- no `blocks3`: window 3's index map is injective over its 288 points, but past 200 points that is decided here only for a window whose block index on one axis is the point's position;
-- the final array is still the frame's `arrAt`, to read with Lib/Pipeline/Value.lean's lemmas by hand

/-- An index that no flushing point's block covers keeps output window 3's array contents at region entry. -/
theorem entry3 (c : Dev nD) (i : S32x2304x1024.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.Kernel5Ideal.Value

end
-- ==== Proof.Grouped.Heads.lean ====
module

public import proofs.«01_k».proof.Proof.HeadValue
public import proofs.«01_k».proof.Proof.Gen.Kernel5Ideal.Skeleton

@[expose] public section

/-! # One head of the grouped attention kernel

A pair of heads has its queries in the same 128 lanes, and the keys of a group hold one 64-lane half per member of a pair: a
head's queries are the pair's with the other head's lanes zeroed. The rest of a head's arithmetic is the other attention's. -/

set_option maxRecDepth 16384

noncomputable section

namespace Grouped

open Cert.Kernel5Ideal Cert.Kernel5Ideal.Gen Idealize.ShloMosaic Idealize.ShloMosaic.TcCoe Idealize.SL.Sem
open Cert.KernelIdeal.Heads (queries scores scores_at queries_at accAt quotient joined inb_o)

variable {F : FTy → Type} [FloatOps F]

/-- The queries of member `s` of a pair: the pair's, the other member's lanes zeroed. -/
def halfQ (s : Fin 2) (q : Vec F S1x256x128 .bf16) : FVec F S256x128 .bf16 :=
  select (cmpi ((![.slt, .sge] : Fin 2 → CmpIPredicate) s) (iota .tc S256x128 32 [1] iota_S256x128_d1_w32) (broadcast S256x128 64#32))
    (queries q) (broadcast S256x128 (Scalar.ofBits .bf16 0x0000#16))

/-! ## The loads -/

theorem inb_q (p : Fin 8) : ∀ a, (![0, 0, 128 * (p : ℕ)] : Fin 3 → ℕ) a + S1x256x128.size a ≤ S1x256x1024.size a := by
  decide +revert
theorem inb_k (g : Fin 4) (c : Fin 9) :
    ∀ a, (![0, (g : ℕ), 256 * (c : ℕ), 0] : Fin 4 → ℕ) a + S1x1x256x128.size a ≤ S1x4x2304x128.size a := by
  decide +revert
theorem inb_v (g : Fin 4) (c : Fin 9) :
    ∀ a, (![0, 64 * (g : ℕ), 256 * (c : ℕ)] : Fin 3 → ℕ) a + S1x64x256.size a ≤ S1x256x2304.size a := by
  decide +revert

/-- Pair `p`'s lanes of the query tile. -/
def loadQ (x : Vec F S1x256x1024 .bf16) (p : Fin 8) : Vec F S1x256x128 .bf16 :=
  View.ld x (Rect.unit (s := S1x256x1024) ![0, 0, 128 * (p : ℕ)] S1x256x128.size (inb_q p))

/-- Chunk `c` of group `g`'s keys. -/
def loadK (x : Vec F S1x4x2304x128 .bf16) (g : Fin 4) (c : Fin 9) : Vec F S1x1x256x128 .bf16 :=
  View.ld x (Rect.unit (s := S1x4x2304x128) ![0, (g : ℕ), 256 * (c : ℕ), 0] S1x1x256x128.size (inb_k g c))

/-- Chunk `c` of group `g`'s values, transposed. -/
def loadV (x : Vec F S1x256x2304 .bf16) (g : Fin 4) (c : Fin 9) : Vec F S1x64x256 .bf16 :=
  View.ld x (Rect.unit (s := S1x256x2304) ![0, 64 * (g : ℕ), 256 * (c : ℕ)] S1x64x256.size (inb_v g c))

/-- The group of a pair. -/
def group (p : Fin 8) : Fin 4 := ⟨(p : ℕ) / 2, by omega⟩

/-- The result of member `s` of pair `p` from the blocks, over the chunks `c0, c0 + 1, …, c0 + n`. -/
def headOut (x0 : Vec F S1x256x1024 .bf16) (x1 : Vec F S1x4x2304x128 .bf16) (x2 : Vec F S1x256x2304 .bf16) (c0 : Fin 9) (n : ℕ)
    (p : Fin 8) (s : Fin 2) : FVec F S64x256 .f32 :=
  quotient (accAt (fun c => scores (loadK x1 (group p) (c0 + Fin.ofNat 9 c)) (halfQ s (loadQ x0 p)))
    (fun c => loadV x2 (group p) (c0 + Fin.ofNat 9 c)) n)

/-- What the store of pair `p` writes. -/
def pairOut (x0 : Vec F S1x256x1024 .bf16) (x1 : Vec F S1x4x2304x128 .bf16) (x2 : Vec F S1x256x2304 .bf16) (c0 : Fin 9) (n : ℕ)
    (p : Fin 8) : Vec F S1x256x128 .bf16 :=
  joined (headOut x0 x1 x2 c0 n p 0) (headOut x0 x1 x2 c0 n p 1)

/-- The pieces a point's stores leave, the last store first. -/
def pieces (x0 : Vec F S1x256x1024 .bf16) (x1 : Vec F S1x4x2304x128 .bf16) (x2 : Vec F S1x256x2304 .bf16) (c0 : Fin 9) (n : ℕ) :
    List (View.Piece (Elt F) S1x256x1024 .bf16) :=
  List.ofFn fun p : Fin 8 => ⟨Rect.unit (s := S1x256x1024) ![0, 0, 128 * ((Fin.rev p : Fin 8) : ℕ)] S1x256x128.size (inb_o (Fin.rev p)),
    pairOut x0 x1 x2 c0 n (Fin.rev p)⟩

/-! ## At an index -/

theorem loadQ_at (x : FVec Ideal S1x256x1024 .bf16) (p : Fin 8) (r : Fin 256) (d : Fin 128) :
    loadQ (F := Ideal) x p (ix3 0 r d) = x (ix3 0 r ⟨128 * p + d, by omega⟩) := by
  pointwise [loadQ]

theorem loadK_at (x : FVec Ideal S1x4x2304x128 .bf16) (g : Fin 4) (c : Fin 9) (a : Fin 256) (d : Fin 128) :
    loadK (F := Ideal) x g c (ix4 0 0 a d) = x (ix4 0 g ⟨256 * c + a, by omega⟩ d) := by
  pointwise [loadK]

theorem loadV_at (x : FVec Ideal S1x256x2304 .bf16) (g : Fin 4) (c : Fin 9) (e : Fin 64) (a : Fin 256) :
    loadV (F := Ideal) x g c (ix3 0 e a) = x (ix3 0 ⟨64 * g + e, by omega⟩ ⟨256 * c + a, by omega⟩) := by
  pointwise [loadV]

/-- Which lanes a member's mask keeps. -/
theorem mask_eq : ∀ (s : Fin 2) (d : Fin 128),
    IntOp.cmpi ((![.slt, .sge] : Fin 2 → CmpIPredicate) s) (BitVec.ofNat 32 d) 64#32 = if (d : ℕ) / 64 = s then 1#1 else 0#1 := by
  decide +kernel

theorem halfQ_at (s : Fin 2) (q : FVec Ideal S1x256x128 .bf16) (r : Fin 256) (d : Fin 128) :
    halfQ (F := Ideal) s q (ix2 r d) = if (d : ℕ) / 64 = s then q (ix3 0 r d) else 0 := by
  pointwise [halfQ]
  rw [mask_eq, queries_at]
  by_cases h : (d : ℕ) / 64 = s
  · rw [if_pos h, if_pos h]; rfl
  · rw [if_neg h, if_neg h]; rfl

/-- A sum over a pair's lanes, of which one member's count. -/
theorem sum_half (s : Fin 2) (f g : Fin 128 → EReal) :
    ∑ d, f d * (if (d : ℕ) / 64 = s then g d else 0)
      = ∑ d : Fin 64, f ⟨64 * s + d, by omega⟩ * g ⟨64 * s + d, by omega⟩ := by
  rw [Fin.sum_univ_tiles 2 64 rfl, Finset.sum_eq_single s]
  · refine Finset.sum_congr rfl fun d _ => ?_
    have e : (⟨s * 64 + d, by omega⟩ : Fin 128) = ⟨64 * s + d, by omega⟩ := Fin.ext (by simp only; omega)
    rw [e, if_pos (by simp only; omega)]
  · intro c _ hc
    refine Finset.sum_eq_zero fun d _ => ?_
    have hc' : (c : ℕ) ≠ s := fun h => hc (Fin.ext h)
    rw [if_neg (by simp only; omega), mul_zero]
  · intro h
    exact absurd (Finset.mem_univ s) h

/-- A member's scores: over its own half of the lanes. -/
theorem half_scores_at (k : FVec Ideal S1x1x256x128 .bf16) (s : Fin 2) (q : FVec Ideal S1x256x128 .bf16) (a r : Fin 256) :
    scores (F := Ideal) k (halfQ s q) (ix2 a r)
      = ∑ d : Fin 64, k (ix4 0 0 a ⟨64 * s + d, by omega⟩) * q (ix3 0 r ⟨64 * s + d, by omega⟩) := by
  rw [scores_at]
  simp only [halfQ_at]
  exact sum_half s (fun d => k (ix4 0 0 a d)) fun d => q (ix3 0 r d)

end Grouped

end
-- ==== Proof.Grouped.Pieces.lean ====
module

public import proofs.«01_k».proof.Proof.Grouped.Ideal.Value
public import proofs.«01_k».proof.Proof.Grouped.Heads

@[expose] public section

/-! # What a grid point of the grouped attention stores

The stores of a point, as the run leaves them, are the head pairs of `Heads`: over the context keys alone for the context
tile, over all nine chunks of keys for a latent tile. -/

set_option maxRecDepth 16384

noncomputable section

namespace Grouped

open Cert.Kernel5Ideal Cert.Kernel5Ideal.Gen Idealize.ShloMosaic Idealize.ShloMosaic.TcCoe Idealize.SL.Sem

variable (c : Dev nD) (i : grid0.Coords)
  (arg3 : Memref sig .tc .vmem S1x256x1024 .bf16) (harg3 : arg3.IsWhole)
  (arg4 : Memref sig .tc .vmem S1x4x2304x128 .bf16) (harg4 : arg4.IsWhole)
  (arg5 : Memref sig .tc .vmem S1x256x2304 .bf16) (harg5 : arg5.IsWhole)
  (arg6 : Memref sig .tc .vmem S1x256x1024 .bf16) (harg6 : arg6.IsWhole)

section Pieces

variable {F : FTy → Type} [FloatOps F]
variable (x0 : Vec F S1x256x1024 .bf16) (x1 : Vec F S1x4x2304x128 .bf16) (x2 : Vec F S1x256x2304 .bf16)

/-- The context tile: the keys of the last chunk. -/
theorem pieces_A (hc0 : ¬cond0_0 i) (hc1 : cond0_1 i) :
    (kernelRun0_A c i arg3 harg3 arg4 harg4 arg5 harg5 arg6 harg6 hc0 hc1 x0 x1 x2).1 = pieces x0 x1 x2 8 0 := by
  have h : (kernelRun0_A c i arg3 harg3 arg4 harg4 arg5 harg5 arg6 harg6 hc0 hc1 x0 x1 x2).1
      = pieces (arg3.view.read (Elt F) (harg3.unread x0)) (arg4.view.read (Elt F) (harg4.unread x1))
        (arg5.view.read (Elt F) (harg5.unread x2)) 8 0 := rfl
  rw [h, harg3.read_unread, harg4.read_unread, harg5.read_unread]

/-- A latent tile: all nine chunks of keys. -/
theorem pieces_B (hc0 : cond0_0 i) (hc1 : ¬cond0_1 i) :
    (kernelRun0_B c i arg3 harg3 arg4 harg4 arg5 harg5 arg6 harg6 hc0 hc1 x0 x1 x2).1 = pieces x0 x1 x2 0 8 := by
  have h : (kernelRun0_B c i arg3 harg3 arg4 harg4 arg5 harg5 arg6 harg6 hc0 hc1 x0 x1 x2).1
      = pieces (arg3.view.read (Elt F) (harg3.unread x0)) (arg4.view.read (Elt F) (harg4.unread x1))
        (arg5.view.read (Elt F) (harg5.unread x2)) 0 8 := rfl
  rw [h, harg3.read_unread, harg4.read_unread, harg5.read_unread]

end Pieces

variable (x0 : FVec Ideal S1x256x1024 .bf16) (x1 : FVec Ideal S1x4x2304x128 .bf16) (x2 : FVec Ideal S1x256x2304 .bf16)

/-- A context tile's block. -/
theorem out_A (hc0 : ¬cond0_0 i) (hc1 : cond0_1 i) :
    out0_A_3 (F := Ideal) c i arg3 harg3 arg4 harg4 arg5 harg5 arg6 harg6 hc0 hc1 x0 x1 x2
      = View.canon (pieces (F := Ideal) x0 x1 x2 8 0) := by
  rw [out0_A_3, pieces_A]
  exact View.read_writes_junk_eq_canon _ _

/-- A latent tile's block. -/
theorem out_B (hc0 : cond0_0 i) (hc1 : ¬cond0_1 i) :
    out0_B_3 (F := Ideal) c i arg3 harg3 arg4 harg4 arg5 harg5 arg6 harg6 hc0 hc1 x0 x1 x2
      = View.canon (pieces (F := Ideal) x0 x1 x2 0 8) := by
  rw [out0_B_3, pieces_B]
  exact View.read_writes_junk_eq_canon _ _

end Grouped

end
-- ==== Proof.Grouped.Attention.lean ====
module

public import proofs.«01_k».proof.Proof.Finite
public import proofs.«01_k».proof.Proof.Gen.Pre_finite_grouped_scores

@[expose] public section

/-! # The grouped attention, as one function of its arguments

The query of token `n` and head `h` is in the lanes `64 h …` of row `n`. Heads come in four groups of four; a group has two
keys per token, side by side, the even heads' and the odd heads', and one row block of 64 in the transposed values. A latent
token (the first 2048) attends to every token, a context token to the last 256. -/

set_option maxRecDepth 16384

noncomputable section

namespace Grouped

open Idealize.ShloMosaic
open Attn

/-- The queries' shape. -/
abbrev SQ : Shape := ⟨3, ![32, 2304, 1024]⟩
/-- The keys' shape. -/
abbrev SK : Shape := ⟨4, ![32, 4, 2304, 128]⟩
/-- The transposed values' shape. -/
abbrev SV : Shape := ⟨3, ![32, 256, 2304]⟩

variable (q : FVec Ideal SQ .bf16) (k : FVec Ideal SK .bf16) (v : FVec Ideal SV .bf16)

/-- Channel `d` of the query of head `h` of token `n`. -/
def query (b : Fin 32) (n : Fin 2304) (h : Fin 16) (d : Fin 64) : EReal := q (ix3 b n ⟨64 * h + d, by omega⟩)

/-- Channel `d` of the key of token `j` for head `h`. -/
def keyOf (b : Fin 32) (h : Fin 16) (j : Fin 2304) (d : Fin 64) : EReal :=
  k (ix4 b ⟨(h : ℕ) / 4, by omega⟩ j ⟨64 * ((h : ℕ) % 2) + d, by omega⟩)

/-- Channel `e` of the value of token `j` for head `h`. -/
def valueOf (b : Fin 32) (h : Fin 16) (e : Fin 64) (j : Fin 2304) : EReal := v (ix3 b ⟨64 * ((h : ℕ) / 4) + e, by omega⟩ j)

/-- The score of token `n`'s query against token `j`'s key, in head `h` of batch element `b`. -/
def score (b : Fin 32) (n : Fin 2304) (h : Fin 16) (j : Fin 2304) : ℝ :=
  ∑ d : Fin 64, (query q b n h d).toReal * (keyOf k b h j d).toReal

/-- The score, where queries and keys are real. -/
theorem score_eq (hq : Finite q) (hk : Finite k) (b : Fin 32) (n : Fin 2304) (h : Fin 16) (j : Fin 2304) :
    ∑ d : Fin 64, query q b n h d * keyOf k b h j d = ((score q k b n h j : ℝ) : EReal) := by
  rw [score, ← coe_sum]
  exact Finset.sum_congr rfl fun d _ => by rw [EReal.coe_mul, query, keyOf, ← hq, ← hk]

/-- Channel `e` of head `h` of token `n`'s result. -/
def attended (b : Fin 32) (n : Fin 2304) (h : Fin 16) (e : Fin 64) : EReal :=
  if (n : ℕ) < 2048 then average Finset.univ (fun j : Fin 2304 => score q k b n h j) fun j => valueOf v b h e j
  else average Finset.univ (fun j : Fin 256 => score q k b n h ⟨2048 + j, by omega⟩) fun j => valueOf v b h e ⟨2048 + j, by omega⟩

/-- The attention's result. -/
def result : FVec Ideal SO .bf16 := fun i =>
  attended q k v (i 0) (i 1) ⟨(i 2 : ℕ) / 64, by have h : (i 2 : ℕ) < 1024 := (i 2).isLt; omega⟩
    ⟨(i 2 : ℕ) % 64, Nat.mod_lt _ (by norm_num)⟩

/-- The precondition's two masks are everywhere true: queries and keys are real. -/
theorem finite_of_pre (h : (Cert.Pre_finite_grouped_scores.fn (F := Ideal) q k v).1 = (fun _ => 1#1)
      ∧ (Cert.Pre_finite_grouped_scores.fn (F := Ideal) q k v).2 = (fun _ => 1#1)) :
    Finite q ∧ Finite k := by
  constructor <;> intro i
  · have hi := congrFun h.1 i
    pointwise [Cert.Pre_finite_grouped_scores.fn] at hi
    exact real_of_abs _ hi
  · have hi := congrFun h.2 i
    pointwise [Cert.Pre_finite_grouped_scores.fn] at hi
    exact real_of_abs _ hi

end Grouped

end
-- ==== Proof.Grouped.Final.lean ====
module

public import proofs.«01_k».proof.Proof.Point
public import proofs.«01_k».proof.Proof.Grouped.Pieces
public import proofs.«01_k».proof.Proof.Grouped.Attention

@[expose] public section

/-! # The result array of the grouped attention's whole grid -/

set_option maxRecDepth 16384

noncomputable section

namespace Grouped

open Cert.Kernel5Ideal Cert.Kernel5Ideal.Gen Idealize.ShloMosaic Idealize.ShloMosaic.TcCoe Idealize.SL.Sem
open Idealize.ShloMosaic.Pipeline (Dat)
open Attn (average Finite)
open Cert.KernelIdeal.Heads (quotient_accAt key average_all average_ctx joined_at)

section Block

variable (x0 : FVec Ideal S1x256x1024 .bf16) (x1 : FVec Ideal S1x4x2304x128 .bf16) (x2 : FVec Ideal S1x256x2304 .bf16)

/-- A head's result: the average over the keys of its chunks. -/
theorem headOut_at (c0 : Fin 9) (n : ℕ) (p : Fin 8) (s : Fin 2) (e : Fin 64) (r : Fin 256) (sr : Fin 2304 → Fin 256 → ℝ)
    (hs : ∀ j r, ∑ d : Fin 64, x1 (ix4 0 (group p) j ⟨64 * s + d, by omega⟩) * x0 (ix3 0 r ⟨128 * p + (64 * s + d), by omega⟩)
      = ((sr j r : ℝ) : EReal)) :
    headOut (F := Ideal) x0 x1 x2 c0 n p s (ix2 e r)
      = average (Finset.range (n + 1) ×ˢ (Finset.univ : Finset (Fin 256))) (fun t => sr (key c0 t) r)
          (fun t => x2 (ix3 0 ⟨64 * group p + e, by omega⟩ (key c0 t))) := by
  rw [headOut, quotient_accAt _ (fun c a r => sr (key c0 (c, a)) r) fun c a r => ?_]
  · refine congrArg (average _ _) (funext fun t => ?_)
    exact loadV_at x2 (group p) _ e t.2
  · rw [half_scores_at, ← hs]
    refine Finset.sum_congr rfl fun d _ => ?_
    rw [loadK_at, loadQ_at]
    rfl

/-- What the stores leave at row `r` and lane `l`: the channel `l % 64` of head `l / 64`. -/
theorem canon_pieces (c0 : Fin 9) (n : ℕ) (r : Fin 256) (l : Fin 1024) :
    View.canon (pieces (F := Ideal) x0 x1 x2 c0 n) (ix3 0 r l)
      = headOut (F := Ideal) x0 x1 x2 c0 n ⟨(l : ℕ) / 128, by omega⟩ ⟨(l : ℕ) / 64 % 2, by omega⟩ (ix2 ⟨(l : ℕ) % 64, by omega⟩ r) := by
  unfold pieces
  refine View.canon_ofFn_unit_eq_of_forall _ _ _ _ _ _ ?_ ?_
  · refine ⟨Fin.rev ⟨(l : ℕ) / 128, by omega⟩, fun a => ?_⟩
    fin_cases a <;> simp <;> omega
  · intro k
    tile_intro y h
    generalize Fin.rev k = k' at *
    idx_vars y
    have hy : y1 = r := Fin.ext h1.symm
    have hl : (l : ℕ) = 128 * k' + y2 := h2
    subst hy
    obtain rfl : y0 = 0 := Subsingleton.elim _ _
    have e1 : k' = ⟨(l : ℕ) / 128, by omega⟩ := Fin.ext (by simp only; omega)
    rw [pairOut, joined_at]
    by_cases h : (y2 : ℕ) < 64
    · rw [dif_pos h]
      have e0 : (0 : Fin 2) = ⟨(l : ℕ) / 64 % 2, by omega⟩ := Fin.ext (by show 0 = (l : ℕ) / 64 % 2; omega)
      have e2 : (⟨(y2 : ℕ), h⟩ : Fin 64) = ⟨(l : ℕ) % 64, by omega⟩ := Fin.ext (by simp only; omega)
      rw [← e0, ← e1, e2]
    · rw [dif_neg h]
      have e0 : (1 : Fin 2) = ⟨(l : ℕ) / 64 % 2, by omega⟩ := Fin.ext (by show 1 = (l : ℕ) / 64 % 2; omega)
      have e2 : (⟨(y2 : ℕ) - 64, by omega⟩ : Fin 64) = ⟨(l : ℕ) % 64, by omega⟩ := Fin.ext (by simp only; omega)
      rw [← e0, ← e1, e2]

end Block

/-- Which block of each window a point holds: batch element `t / 9`, query tile `(t % 9 + 8) % 9`. -/
theorem idx : ∀ t : Fin cfg0.N, win0_0.index t = ![t.val / 9, (t.val % 9 + 8) % 9, 0] ∧ win0_1.index t = ![t.val / 9, 0, 0, 0]
    ∧ win0_2.index t = ![t.val / 9, 0, 0] ∧ win0_3.index t = ![t.val / 9, (t.val % 9 + 8) % 9, 0] :=
  (by decide +kernel : ∀ t : Fin grid0.N, _)

variable (m : (ℓ : Loc nD τ sig) → Buf (Elt Ideal) ℓ)

/-- The queries, the keys and the transposed values. -/
abbrev Q (c : Dev nD) : FVec Ideal SQ .bf16 := m ((c : Thread nD τ).loc main_arg0)
abbrev K (c : Dev nD) : FVec Ideal SK .bf16 := m ((c : Thread nD τ).loc main_arg1)
abbrev Vt (c : Dev nD) : FVec Ideal SV .bf16 := m ((c : Thread nD τ).loc main_arg2)

variable (c : Dev nD) (t : Fin cfg0.N)

/-- The blocks of a point, and what it leaves. -/
abbrev tileQ : FVec Ideal S1x256x1024 .bf16 := iblk m c 0 t
abbrev tileK : FVec Ideal S1x4x2304x128 .bf16 := iblk m c 1 t
abbrev tileV : FVec Ideal S1x256x2304 .bf16 := iblk m c 2 t
abbrev left : FVec Ideal S1x256x1024 .bf16 := outsAt0 m c t.val t.isLt

theorem blockQ (b : Fin 32) (T : Fin 9) (hb : (b : ℕ) = t.val / 9) (hT : (T : ℕ) = (t.val % 9 + 8) % 9) (r : Fin 256) (l : Fin 1024) :
    tileQ m c t (ix3 0 r l) = Q m c (ix3 b ⟨256 * T + r, by omega⟩ l) := by
  blk_point [iblk, V, idx t]

theorem blockK (b : Fin 32) (hb : (b : ℕ) = t.val / 9) (g : Fin 4) (j : Fin 2304) (d : Fin 128) :
    tileK m c t (ix4 0 g j d) = K m c (ix4 b g j d) := by
  blk_point [iblk, V, idx t]

theorem blockV (b : Fin 32) (hb : (b : ℕ) = t.val / 9) (l : Fin 256) (j : Fin 2304) :
    tileV m c t (ix3 0 l j) = Vt m c (ix3 b l j) := by
  blk_point [iblk, V, idx t]

/-- A point's scores are the arrays' scores. -/
theorem blockScore (hq : Finite (Q m c)) (hk : Finite (K m c)) (b : Fin 32) (T : Fin 9) (hb : (b : ℕ) = t.val / 9)
    (hT : (T : ℕ) = (t.val % 9 + 8) % 9) (h : Fin 16) (p : Fin 8) (s : Fin 2) (hp : (h : ℕ) = 2 * p + s) (j : Fin 2304) (r : Fin 256) :
    ∑ d : Fin 64, tileK m c t (ix4 0 (group p) j ⟨64 * s + d, by omega⟩) * tileQ m c t (ix3 0 r ⟨128 * p + (64 * s + d), by omega⟩)
      = ((score (Q m c) (K m c) b ⟨256 * T + r, by omega⟩ h j : ℝ) : EReal) := by
  rw [← score_eq _ _ hq hk]
  refine Finset.sum_congr rfl fun d _ => ?_
  have e1 : group p = ⟨(h : ℕ) / 4, by omega⟩ := Fin.ext (by simp only [group]; omega)
  have e2 : (⟨64 * s + d, by omega⟩ : Fin 128) = ⟨64 * ((h : ℕ) % 2) + d, by omega⟩ := Fin.ext (by simp only; omega)
  have e3 : (⟨128 * p + (64 * s + d), by omega⟩ : Fin 1024) = ⟨64 * h + d, by omega⟩ := Fin.ext (by simp only; omega)
  rw [blockK m c t b hb, blockQ m c t b T hb hT, mul_comm, e1, e2, e3, query, keyOf]

/-- What a point leaves, at row `r` and lane `l` of its block. -/
theorem point (hq : Finite (Q m c)) (hk : Finite (K m c)) (b : Fin 32) (T : Fin 9) (hb : (b : ℕ) = t.val / 9)
    (hT : (T : ℕ) = (t.val % 9 + 8) % 9) (r : Fin 256) (l : Fin 1024) :
    (left m c t) (ix3 0 r l)
      = result (Q m c) (K m c) (Vt m c) (ix3 b ⟨256 * T + r, by omega⟩ l) := by
  have hv : ∀ j, tileV m c t (ix3 0 ⟨64 * group ⟨(l : ℕ) / 128, by omega⟩ + (l : ℕ) % 64, by omega⟩ j)
      = valueOf (Vt m c) b ⟨(l : ℕ) / 64, by omega⟩ ⟨(l : ℕ) % 64, by omega⟩ j := fun j => by
    have e : (⟨64 * group ⟨(l : ℕ) / 128, by omega⟩ + (l : ℕ) % 64, by omega⟩ : Fin 256)
        = ⟨64 * ((l : ℕ) / 64 / 4) + (l : ℕ) % 64, by omega⟩ := Fin.ext (by simp only [group]; omega)
    rw [blockV m c t b hb, valueOf, e]
  show _ = attended (Q m c) (K m c) (Vt m c) b ⟨256 * T + r, by omega⟩ ⟨(l : ℕ) / 64, by omega⟩ ⟨(l : ℕ) % 64, by omega⟩
  have hs := fun j r => blockScore m c t hq hk b T hb hT ⟨(l : ℕ) / 64, by omega⟩ ⟨(l : ℕ) / 128, by omega⟩ ⟨(l : ℕ) / 64 % 2, by omega⟩
    (by simp only; omega) j r
  by_cases h : t.val % 9 = 0
  · rw [left, outsAt0_A m c t (by omega) h, out_A, canon_pieces, headOut_at _ _ _ _ _ _ _ _ _ _ hs, attended, if_neg (by simp only; omega)]
    refine (average_ctx (fun j => score (Q m c) (K m c) b ⟨256 * T + r, by omega⟩ ⟨(l : ℕ) / 64, by omega⟩ j)
      (fun j => tileV m c t (ix3 0 ⟨64 * group ⟨(l : ℕ) / 128, by omega⟩ + (l : ℕ) % 64, by omega⟩ j))).trans ?_
    exact congrArg (average _ _) (funext fun j => hv _)
  · rw [left, outsAt0_B m c t (by omega) h, out_B, canon_pieces, headOut_at _ _ _ _ _ _ _ _ _ _ hs, attended, if_pos (by simp only; omega)]
    refine (average_all (fun j => score (Q m c) (K m c) b ⟨256 * T + r, by omega⟩ ⟨(l : ℕ) / 64, by omega⟩ j)
      (fun j => tileV m c t (ix3 0 ⟨64 * group ⟨(l : ℕ) / 128, by omega⟩ + (l : ℕ) % 64, by omega⟩ j))).trans ?_
    exact congrArg (average _ _) (funext fun j => hv _)

/-- The result array of the run is the grouped attention of the arguments. -/
theorem final (hq : Finite (Q m c)) (hk : Finite (K m c)) :
    (dats m 0 c).arrAt 3 cfg0.N = result (Q m c) (K m c) (Vt m c) := by
  refine (dats m 0 c).arrAt_eq_of_covers 3 _ (by decide +kernel) fun t _ y => ?_
  have hN : t.val < 288 := lt_of_lt_of_eq t.isLt (show cfg0.N = 288 from N_0)
  blk_simp
  rw [after0_3]
  idx_vars y
  obtain rfl : y0 = 0 := Subsingleton.elim _ _
  refine (point m c t hq hk ⟨t.val / 9, by omega⟩ ⟨(t.val % 9 + 8) % 9, by omega⟩ rfl rfl y1 y2).trans ?_
  refine congrArg _ ?_
  blk_ext [idx t]

end Grouped

end
-- ==== Proof.Grouped.Reference.lean ====
module

public import proofs.«01_k».proof.Proof.Grouped.Attention
public import proofs.«01_k».proof.Proof.ReferenceEq
public import proofs.«01_k».proof.Proof.Gen.Reference5Ideal.Run

@[expose] public section

/-! # The grouped attention's reference is the grouped attention of its arguments

The reference gives every head its own keys and values and then is the other attention's: the softmax rows are shared. -/

set_option maxRecDepth 16384

noncomputable section

namespace Grouped

open Cert.Reference5Ideal Cert.Reference5Ideal.Gen Idealize.ShloMosaic Idealize.ShloMosaic.TcCoe Idealize.SL.Sem
open Attn (average Finite)
open Cert.ReferenceIdeal.Value (maxL expL normL maxC expC normC stacked both stacked_at both_at log_two latent_row context_row)

variable {F : FTy → Type} [FloatOps F]

/-! ## The operations -/

/-- The queries by head. -/
def headQ (q : FVec F S32x2304x1024 .bf16) : FVec F S32x2304x16x64 .f32 :=
  shapeCast S32x2304x16x64 (extf .f32 q bitsLt_bf16_f32) shapeCasts_S32x2304x1024_S32x2304x16x64

/-- A group's two keys per token, apart. -/
def splitK (k : FVec F S32x4x2304x128 .bf16) : FVec F S32x4x2x2304x64 .f32 :=
  transpose S32x4x2x2304x64 [0, 1, 3, 2, 4]
    (shapeCast S32x4x2304x2x64 (extf .f32 k bitsLt_bf16_f32) shapeCasts_S32x4x2304x128_S32x4x2304x2x64)
    transposes_S32x4x2304x2x64_S32x4x2x2304x64_0_1_3_2_4

/-- Both, once for each pair of the group. -/
def pairedK (k : FVec F S32x4x2304x128 .bf16) : FVec F S32x4x2x2x2304x64 .f32 :=
  broadcastInDim S32x4x2x2x2304x64 ![0, 1, 2, 3, 4, 5] bcast_S32x4x1x2x2304x64_S32x4x2x2x2304x64_0_1_2_3_4_5
    (broadcastInDim S32x4x1x2x2304x64 ![0, 1, 3, 4, 5] bcast_S32x4x2x2304x64_S32x4x1x2x2304x64_0_1_3_4_5 (splitK k))

/-- The keys by head. -/
def headK (k : FVec F S32x4x2304x128 .bf16) : FVec F S32x16x2304x64 .f32 :=
  shapeCast S32x16x2304x64 (pairedK k) shapeCasts_S32x4x2x2x2304x64_S32x16x2304x64

/-- The transposed values, once for each head of a group. -/
def copiedV (v : FVec F S32x256x2304 .bf16) : FVec F S32x4x4x64x2304 .f32 :=
  broadcastInDim S32x4x4x64x2304 ![0, 1, 2, 3, 4] bcast_S32x4x1x64x2304_S32x4x4x64x2304_0_1_2_3_4
    (shapeCast S32x4x1x64x2304 (extf .f32 v bitsLt_bf16_f32) shapeCasts_S32x256x2304_S32x4x1x64x2304)

/-- The transposed values by head. -/
def headV (v : FVec F S32x256x2304 .bf16) : FVec F S32x16x64x2304 .f32 :=
  shapeCast S32x16x64x2304 (copiedV v) shapeCasts_S32x4x4x64x2304_S32x16x64x2304

/-- The scores of the latent queries against all keys, in natural units. -/
def scoresL (q : FVec F S32x2304x16x64 .f32) (k : FVec F S32x16x2304x64 .f32) : FVec F S32x16x2048x2304 .f32 :=
  mulf (Host.dotGeneral dot_S32x2048x16x64_S32x16x2304x64_S32x16x2048x2304_3_3_1_2_02_01 none
      (extractStridedSlice S32x2048x16x64 ![0, 0, 0, 0] q slices_S32x2304x16x64_S32x2048x16x64_0_0_0_0) k)
    (broadcastInDim S32x16x2048x2304 ![] bcast_S_S32x16x2048x2304 (Host.log (constant S_ .f32 0x40000000#32)))

/-- The scores of the context queries against the context keys, in natural units. -/
def scoresC (q : FVec F S32x2304x16x64 .f32) (k : FVec F S32x16x2304x64 .f32) : FVec F S32x16x256x256 .f32 :=
  mulf (Host.dotGeneral dot_S32x256x16x64_S32x16x256x64_S32x16x256x256_3_3_1_2_02_01 none
      (extractStridedSlice S32x256x16x64 ![0, 2048, 0, 0] q slices_S32x2304x16x64_S32x256x16x64_0_2048_0_0)
      (extractStridedSlice S32x16x256x64 ![0, 0, 2048, 0] k slices_S32x16x2304x64_S32x16x256x64_0_0_2048_0))
    (broadcastInDim S32x16x256x256 ![] bcast_S_S32x16x256x256 (Host.log (constant S_ .f32 0x40000000#32)))

/-- The latent tokens' result. -/
def outL (v : FVec F S32x16x64x2304 .f32) (p : FVec F S32x16x2048x2304 .f32) : FVec F S32x2048x16x64 .f32 :=
  transpose S32x2048x16x64 [0, 3, 1, 2]
    (Host.dotGeneral dot_S32x16x64x2304_S32x16x2048x2304_S32x16x64x2048_3_3_2_2_01_01 none v p)
    transposes_S32x16x64x2048_S32x2048x16x64_0_3_1_2

/-- The context tokens' result. -/
def outC (v : FVec F S32x16x64x2304 .f32) (p : FVec F S32x16x256x256 .f32) : FVec F S32x256x16x64 .f32 :=
  transpose S32x256x16x64 [0, 3, 1, 2]
    (Host.dotGeneral dot_S32x16x64x256_S32x16x256x256_S32x16x64x256_3_3_2_2_01_01 none
      (extractStridedSlice S32x16x64x256 ![0, 0, 0, 2048] v slices_S32x16x64x2304_S32x16x64x256_0_0_0_2048) p)
    transposes_S32x16x64x256_S32x256x16x64_0_3_1_2

/-- The whole, from the arguments by head. -/
def whole (q : FVec F S32x2304x16x64 .f32) (k : FVec F S32x16x2304x64 .f32) (v : FVec F S32x16x64x2304 .f32) :
    FVec F S32x2304x1024 .bf16 :=
  both (outL v (normL (expL (scoresL q k) (maxL (scoresL q k))))) (outC v (normC (expC (scoresC q k) (maxC (scoresC q k)))))

/-- The reference's result is made of these. -/
theorem res_parts (m : (ℓ : Loc nD τ sig) → Buf (Elt F) ℓ) (c : Dev nD) :
    Cert.Reference5Ideal.Value.res_out0 m c = whole (headQ (m ((c : Thread nD τ).loc main_arg0)))
      (headK (m ((c : Thread nD τ).loc main_arg1))) (headV (m ((c : Thread nD τ).loc main_arg2))) := rfl

/-! ## At an index -/

theorem headQ_at (q : FVec Ideal S32x2304x1024 .bf16) (b : Fin 32) (n : Fin 2304) (h : Fin 16) (d : Fin 64) :
    headQ q (ix4 b n h d) = query q b n h d := by
  pointwise [headQ, query]
  simp only [Nat.mul_comm]

theorem splitK_at (k : FVec Ideal S32x4x2304x128 .bf16) (b : Fin 32) (g : Fin 4) (s : Fin 2) (j : Fin 2304) (d : Fin 64) :
    splitK k (ix5 b g s j d) = k (ix4 b g j ⟨64 * s + d, by omega⟩) := by
  pointwise [splitK]
  simp only [Nat.mul_comm]

theorem pairedK_at (k : FVec Ideal S32x4x2304x128 .bf16) (b : Fin 32) (g : Fin 4) (i s : Fin 2) (j : Fin 2304) (d : Fin 64) :
    pairedK k (ix6 b g i s j d) = splitK k (ix5 b g s j d) := by
  pointwise [pairedK]

theorem headK_at (k : FVec Ideal S32x4x2304x128 .bf16) (b : Fin 32) (h : Fin 16) (j : Fin 2304) (d : Fin 64) :
    headK k (ix4 b h j d) = keyOf k b h j d := by
  pointwise [headK]
  exact (pairedK_at _ _ _ _ _ _ _).trans (splitK_at _ _ _ _ _ _)

theorem copiedV_at (v : FVec Ideal S32x256x2304 .bf16) (b : Fin 32) (g i : Fin 4) (e : Fin 64) (j : Fin 2304) :
    copiedV v (ix5 b g i e j) = v (ix3 b ⟨64 * g + e, by omega⟩ j) := by
  pointwise [copiedV]
  simp only [Nat.mul_comm]

theorem headV_at (v : FVec Ideal S32x256x2304 .bf16) (b : Fin 32) (h : Fin 16) (e : Fin 64) (j : Fin 2304) :
    headV v (ix4 b h e j) = valueOf v b h e j := by
  pointwise [headV]
  exact copiedV_at _ _ _ _ _ _

section Rows

variable (q : FVec Ideal S32x2304x16x64 .f32) (k : FVec Ideal S32x16x2304x64 .f32) (v : FVec Ideal S32x16x64x2304 .f32)

theorem scoresL_at (b : Fin 32) (h : Fin 16) (n : Fin 2048) (j : Fin 2304) :
    scoresL q k (ix4 b h n j) = (∑ d : Fin 64, q (ix4 b ⟨n, by omega⟩ h d) * k (ix4 b h j d)) * ((Real.log 2 : ℝ) : EReal) := by
  pointwise [scoresL]
  rw [log_two]

theorem scoresC_at (b : Fin 32) (h : Fin 16) (n : Fin 256) (j : Fin 256) :
    scoresC q k (ix4 b h n j) = (∑ d : Fin 64, q (ix4 b ⟨2048 + n, by omega⟩ h d) * k (ix4 b h ⟨2048 + j, by omega⟩ d))
      * ((Real.log 2 : ℝ) : EReal) := by
  pointwise [scoresC]
  rw [log_two]

theorem outL_at (p : FVec Ideal S32x16x2048x2304 .f32) (b : Fin 32) (n : Fin 2048) (h : Fin 16) (e : Fin 64) :
    outL v p (ix4 b n h e) = ∑ j : Fin 2304, v (ix4 b h e j) * p (ix4 b h n j) := by
  pointwise [outL]

theorem outC_at (p : FVec Ideal S32x16x256x256 .f32) (b : Fin 32) (n : Fin 256) (h : Fin 16) (e : Fin 64) :
    outC v p (ix4 b n h e) = ∑ j : Fin 256, v (ix4 b h e ⟨2048 + j, by omega⟩) * p (ix4 b h n j) := by
  pointwise [outC]

end Rows

variable (q : FVec Ideal S32x2304x1024 .bf16) (k : FVec Ideal S32x4x2304x128 .bf16) (v : FVec Ideal S32x256x2304 .bf16)

/-- The reference's whole, at an index. -/
theorem whole_eq (hq : Finite (s := SQ) q) (hk : Finite (s := SK) k) : whole (headQ q) (headK k) (headV v) = result q k v := by
  funext y
  idx_vars y
  unfold whole
  rw [both_at, stacked_at]
  show _ = attended q k v y0 y1 ⟨(y2 : ℕ) / 64, by omega⟩ ⟨(y2 : ℕ) % 64, by omega⟩
  unfold attended
  by_cases h : (y1 : ℕ) < 2048
  · rw [dif_pos h, if_pos h, outL_at]
    simp only [headV_at]
    exact latent_row _ _ _ _ _ (fun j => valueOf v _ _ _ j) fun j => by
      rw [scoresL_at, ← score_eq q k hq hk]
      simp only [headQ_at, headK_at]
  · rw [dif_neg h, if_neg h, outC_at]
    simp only [headV_at]
    have hn : (⟨2048 + (y1 - 2048), by omega⟩ : Fin 2304) = y1 := Fin.ext (by show 2048 + ((y1 : ℕ) - 2048) = y1; omega)
    exact context_row _ _ _ _ _ (fun j => valueOf v _ _ _ ⟨2048 + j, by omega⟩) fun j => by
      rw [scoresC_at, ← score_eq q k hq hk]
      simp only [headQ_at, headK_at, hn]

/-- The reference's result. -/
theorem reference_eq (m : (ℓ : Loc nD τ sig) → Buf (Elt Ideal) ℓ) (c : Dev nD)
    (hq : Finite (s := SQ) (m ((c : Thread nD τ).loc main_arg0))) (hk : Finite (s := SK) (m ((c : Thread nD τ).loc main_arg1))) :
    Cert.Reference5Ideal.Value.res_out0 m c = result (m ((c : Thread nD τ).loc main_arg0)) (m ((c : Thread nD τ).loc main_arg1))
      (m ((c : Thread nD τ).loc main_arg2)) :=
  (res_parts m c).trans (whole_eq _ _ _ hq hk)

end Grouped

end
-- ==== Proof.Proj.Math.lean ====
module

public import proofs.«01_k».proof.Proof.Ffn.Math

@[expose] public section

/-! # The input projections of one token

The normalized, modulated token is multiplied with one wide weight; the mixers take their inputs from its columns, and
the values of the two attentions follow by a further product. -/

noncomputable section

namespace Proj

open Idealize.ShloMosaic Ffn

/-- The width of the latent vector that keys and values share. -/
abbrev latentWidth : EReal := Ideal.ofBits .f32 0x43800000#32

/-- A vector over the root of its mean square, times the gains; `c` is its width. -/
def normed {n : ℕ} (c : EReal) (t g : Fin n → EReal) (l : Fin n) : EReal :=
  t l * Ideal.rsqrt (Ideal.div (∑ k, t k * t k) c + eps) * g l

/-- A column of the product with the wide weight. -/
def column (u : Fin 1024 → EReal) (w : Fin 1024 → Fin 4608 → EReal) (f : Fin 4608) : EReal := ∑ k, u k * w k f

/-- The latent vector of the keys and values, normalized. -/
def latent (u : Fin 1024 → EReal) (w : Fin 1024 → Fin 4608 → EReal) (g : Fin 256 → EReal) (k : Fin 256) : EReal :=
  normed latentWidth (fun k => column u w ⟨k, by omega⟩) g k

/-- A channel of the latent attention's values. -/
def latentValue (u : Fin 1024 → EReal) (w : Fin 1024 → Fin 4608 → EReal) (g : Fin 256 → EReal) (wv : Fin 1024 → Fin 256 → EReal)
    (l : Fin 1024) : EReal := ∑ k, latent u w g k * wv l k

/-- A channel of the grouped attention's values. -/
def groupedValue (u : Fin 1024 → EReal) (wv : Fin 256 → Fin 1024 → EReal) (l : Fin 256) : EReal := ∑ k, u k * wv l k

end Proj

end
-- ==== Proof.Proj.Host.lean ====
module

public import proofs.«01_k».proof.Proof.Proj.Math
public import proofs.«01_k».proof.Proof.Merge.Host
public import proofs.«01_k».proof.Proof.Gen.Reference6Ideal.Run

@[expose] public section

/-! # The reference's input projections, operation by operation -/

set_option maxRecDepth 16384

noncomputable section

namespace Proj

open Cert.Reference6Ideal Cert.Reference6Ideal.Gen Idealize.ShloMosaic Idealize.ShloMosaic.TcCoe Idealize.SL.Sem
open Merge (modulatedH gainRows tokenRows modx3 modx4 modc3 modc4)

section Parts

variable {F : FTy → Type} [FloatOps F]

/-- The modulated tokens, from the arguments. -/
def tokens (x : FVec F S32x2304x1024 .f32) (modx : FVec F S32x9x1024 .f32) (modc : FVec F S9x1024 .f32) (g : FVec F S1x1024 .f32) :
    FVec F S32x2304x1024 .f32 :=
  modulatedH x (gainRows g) (tokenRows (modx4 modx) (modc4 modc)) (tokenRows (modx3 modx) (modc3 modc))

/-- The product with the wide weight. -/
def columnsH (u : FVec F S32x2304x1024 .f32) (w : FVec F S1024x4608 .bf16) : FVec F S32x2304x4608 .f32 :=
  Host.dotGeneral dot_S32x2304x1024_S1024x4608_S32x2304x4608_2_0_01_1_n_n none u (extf .f32 w bitsLt_bf16_f32)

/-- The latent vector, the scan's input and the step sizes. -/
def latentH (h : FVec F S32x2304x4608 .f32) : FVec F S32x2304x256 .f32 :=
  extractStridedSlice S32x2304x256 ![0, 0, 0] h slices_S32x2304x4608_S32x2304x256_0_0_0
def scanH (h : FVec F S32x2304x4608 .f32) : FVec F S32x2304x2048 .f32 :=
  extractStridedSlice S32x2304x2048 ![0, 0, 768] h slices_S32x2304x4608_S32x2304x2048_0_0_768
def stepsH (h : FVec F S32x2304x4608 .f32) : FVec F S32x2304x128 .f32 :=
  extractStridedSlice S32x2304x128 ![0, 0, 4480] h slices_S32x2304x4608_S32x2304x128_0_0_4480

/-- The normalization of the latent vector. -/
def normedH (t : FVec F S32x2304x256 .f32) (g : FVec F S1x256 .f32) : FVec F S32x2304x256 .f32 :=
  mulf (mulf t (broadcastInDim S32x2304x256 ![0, 1, 2] bcast_S32x2304x1_S32x2304x256_0_1_2 (Host.rsqrt (addf
    (Host.divf (broadcastInDim S32x2304x1 ![0, 1] bcast_S32x2304_S32x2304x1_0_1
        (Host.reduceAdd (mulf t t) (constant S_ .f32 0x00000000#32) reducesTo_S32x2304x256_S32x2304_d2 h_S_))
      (broadcastInDim S32x2304x1 ![] bcast_S_S32x2304x1 (constant S_ .f32 0x43800000#32)))
    (broadcastInDim S32x2304x1 ![] bcast_S_S32x2304x1 (constant S_ .f32 0x358637BD#32))))))
    (broadcastInDim S32x2304x256 ![0, 1, 2] bcast_S1x1x256_S32x2304x256_0_1_2
      (broadcastInDim S1x1x256 ![2] bcast_S256_S1x1x256_2 (shapeCast S256 g shapeCasts_S1x256_S256)))

/-- The values of the latent attention, a channel to a row. -/
def latentValuesH (c : FVec F S32x2304x256 .f32) (w : FVec F S1024x256 .bf16) : FVec F S32x1024x2304 .bf16 :=
  truncf .bf16 (transpose S32x1024x2304 [0, 2, 1] (Host.dotGeneral dot_S32x2304x256_S256x1024_S32x2304x1024_2_0_01_1_n_n none c
    (transpose S256x1024 [1, 0] (extf .f32 w bitsLt_bf16_f32) transposes_S1024x256_S256x1024_1_0))
    transposes_S32x2304x1024_S32x1024x2304_0_2_1) bitsLt_bf16_f32

/-- The values of the grouped attention, a channel to a row. -/
def groupedValuesH (u : FVec F S32x2304x1024 .f32) (w : FVec F S256x1024 .bf16) : FVec F S32x256x2304 .bf16 :=
  truncf .bf16 (transpose S32x256x2304 [0, 2, 1] (Host.dotGeneral dot_S32x2304x1024_S1024x256_S32x2304x256_2_0_01_1_n_n none u
    (transpose S1024x256 [1, 0] (extf .f32 w bitsLt_bf16_f32) transposes_S256x1024_S1024x256_1_0))
    transposes_S32x2304x256_S32x256x2304_0_2_1) bitsLt_bf16_f32

section Results

variable (m : (ℓ : Loc nD τ sig) → Buf (Elt F) ℓ) (c : Dev nD)

/-- The reference's modulated tokens and columns. -/
abbrev argTokens : FVec F S32x2304x1024 .f32 := tokens (m ((c : Thread nD τ).loc main_arg0)) (m ((c : Thread nD τ).loc main_arg1))
  (m ((c : Thread nD τ).loc main_arg2)) (m ((c : Thread nD τ).loc main_arg3))
abbrev argColumns : FVec F S32x2304x4608 .f32 := columnsH (argTokens m c) (m ((c : Thread nD τ).loc main_arg4))

end Results

end Parts

/-! ## The parts at an index -/

theorem columnsH_at (u : FVec Ideal S32x2304x1024 .f32) (w : FVec Ideal S1024x4608 .bf16) (b : Fin 32) (n : Fin 2304) (f : Fin 4608) :
    columnsH u w (ix3 b n f) = column (fun k => u (ix3 b n k)) (fun k f => w (ix2 k f)) f := by
  pointwise [columnsH]
  rfl

theorem latentH_at (h : FVec Ideal S32x2304x4608 .f32) (b : Fin 32) (n : Fin 2304) (f : Fin 256) :
    latentH h (ix3 b n f) = h (ix3 b n ⟨f, by omega⟩) := by
  pointwise [latentH]

theorem scanH_at (h : FVec Ideal S32x2304x4608 .f32) (b : Fin 32) (n : Fin 2304) (f : Fin 2048) :
    scanH h (ix3 b n f) = h (ix3 b n ⟨768 + f, by omega⟩) := by
  pointwise [scanH]

theorem stepsH_at (h : FVec Ideal S32x2304x4608 .f32) (b : Fin 32) (n : Fin 2304) (f : Fin 128) :
    stepsH h (ix3 b n f) = h (ix3 b n ⟨4480 + f, by omega⟩) := by
  pointwise [stepsH]

theorem normedH_at (t : FVec Ideal S32x2304x256 .f32) (g : FVec Ideal S1x256 .f32) (b : Fin 32) (n : Fin 2304) (l : Fin 256) :
    normedH t g (ix3 b n l) = normed latentWidth (fun l => t (ix3 b n l)) (fun l => g (ix2 0 l)) l := by
  pointwise [normedH]
  rfl

theorem latentValuesH_at (c : FVec Ideal S32x2304x256 .f32) (w : FVec Ideal S1024x256 .bf16) (b : Fin 32) (l : Fin 1024) (n : Fin 2304) :
    latentValuesH c w (ix3 b l n) = ∑ k : Fin 256, c (ix3 b n k) * w (ix2 l k) := by
  pointwise [latentValuesH]

theorem groupedValuesH_at (u : FVec Ideal S32x2304x1024 .f32) (w : FVec Ideal S256x1024 .bf16) (b : Fin 32) (l : Fin 256) (n : Fin 2304) :
    groupedValuesH u w (ix3 b l n) = ∑ k : Fin 1024, u (ix3 b n k) * w (ix2 l k) := by
  pointwise [groupedValuesH]

end Proj

end
-- ==== Proof.Proj.Body.lean ====
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp

@[expose] public section

/-! # What the body of the input projections leaves

The set-up of the launch: the rectangles the body stores, the values it stores there, and the body run on whole buffers. -/

set_option maxRecDepth 16384

noncomputable section

namespace Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S1x256x1024 := Rect.unit (s := S1x256x1024) ![0, 0, 0] S1x256x1024.size inb_S1x256x1024_S1x256x1024_0_0_0
abbrev r0_1 : Rect S9x1024 := Rect.unit (s := S9x1024) ![3, 0] S1x1024.size inb_S9x1024_S1x1024_3_0
abbrev r0_2 : Rect S1x9x1024 := Rect.unit (s := S1x9x1024) ![0, 3, 0] S1x1x1024.size inb_S1x9x1024_S1x1x1024_0_3_0
abbrev r0_3 : Rect S9x1024 := Rect.unit (s := S9x1024) ![4, 0] S1x1024.size inb_S9x1024_S1x1024_4_0
abbrev r0_4 : Rect S1x9x1024 := Rect.unit (s := S1x9x1024) ![0, 4, 0] S1x1x1024.size inb_S1x9x1024_S1x1x1024_0_4_0
abbrev r0_5 : Rect S1x1024 := Rect.unit (s := S1x1024) ![0, 0] S1x1024.size inb_S1x1024_S1x1024_0_0
abbrev r0_6 : Rect S256x128 := Rect.unit (s := S256x128) ![0, 0] S256x128.size inb_S256x128_S256x128_0_0
abbrev r0_7 : Rect S1024x4608 := Rect.unit (s := S1024x4608) ![0, 2816] S1024x512.size inb_S1024x4608_S1024x512_0_2816
abbrev r0_8 : Rect S1024x4608 := Rect.unit (s := S1024x4608) ![0, 3328] S1024x1024.size inb_S1024x4608_S1024x1024_0_3328
abbrev r0_9 : Rect S1x512 := Rect.unit (s := S1x512) ![0, 0] S1x512.size inb_S1x512_S1x512_0_0
abbrev r0_10 : Rect S512x2048 := Rect.unit (s := S512x2048) ![0, 0] S512x2048.size inb_S512x2048_S512x2048_0_0
abbrev r0_11 : Rect S1024x128 := Rect.unit (s := S1024x128) ![0, 0] S1024x128.size inb_S1024x128_S1024x128_0_0
abbrev r0_12 : Rect S1024x4608 := Rect.unit (s := S1024x4608) ![0, 0] S1024x256.size inb_S1024x4608_S1024x256_0_0
abbrev r0_13 : Rect S1024x4608 := Rect.unit (s := S1024x4608) ![0, 256] S1024x512.size inb_S1024x4608_S1024x512_0_256
abbrev r0_14 : Rect S1024x4608 := Rect.unit (s := S1024x4608) ![0, 4352] S1024x256.size inb_S1024x4608_S1024x256_0_4352
abbrev r0_15 : Rect S1x256x2048 := Rect.unit (s := S1x256x2048) ![0, 0, 0] S1x256x2048.size inb_S1x256x2048_S1x256x2048_0_0_0
abbrev r0_16 : Rect S1x256 := Rect.unit (s := S1x256) ![0, 0] S1x256.size inb_S1x256_S1x256_0_0
abbrev r0_17 : Rect S256x2048 := Rect.unit (s := S256x2048) ![0, 0] S256x2048.size inb_S256x2048_S256x2048_0_0
abbrev r0_18 : Rect S1024x256 := Rect.unit (s := S1024x256) ![0, 0] S1024x256.size inb_S1024x256_S1024x256_0_0
abbrev r0_19 : Rect S1024x128 := Rect.unit (s := S1024x128) ![0, 0] S512x128.size inb_S1024x128_S512x128_0_0
abbrev r0_20 : Rect S256x1024 := Rect.unit (s := S256x1024) ![0, 0] S256x1024.size inb_S256x1024_S256x1024_0_0
abbrev r0_21 : Rect S1x256x128 := Rect.unit (s := S1x256x128) ![0, 0, 0] S1x256x128.size inb_S1x256x128_S1x256x128_0_0_0
abbrev r0_22 : Rect S1x16x256x128 := Rect.unit (s := S1x16x256x128) ![0, 0, 0, 0] S1x1x256x128.size inb_S1x16x256x128_S1x1x256x128_0_0_0_0
abbrev r0_23 : Rect S1x16x256x128 := Rect.unit (s := S1x16x256x128) ![0, 1, 0, 0] S1x1x256x128.size inb_S1x16x256x128_S1x1x256x128_0_1_0_0
abbrev r0_24 : Rect S1x16x256x128 := Rect.unit (s := S1x16x256x128) ![0, 2, 0, 0] S1x1x256x128.size inb_S1x16x256x128_S1x1x256x128_0_2_0_0
abbrev r0_25 : Rect S1x16x256x128 := Rect.unit (s := S1x16x256x128) ![0, 3, 0, 0] S1x1x256x128.size inb_S1x16x256x128_S1x1x256x128_0_3_0_0
abbrev r0_26 : Rect S1x16x256x128 := Rect.unit (s := S1x16x256x128) ![0, 4, 0, 0] S1x1x256x128.size inb_S1x16x256x128_S1x1x256x128_0_4_0_0
abbrev r0_27 : Rect S1x16x256x128 := Rect.unit (s := S1x16x256x128) ![0, 5, 0, 0] S1x1x256x128.size inb_S1x16x256x128_S1x1x256x128_0_5_0_0
abbrev r0_28 : Rect S1x16x256x128 := Rect.unit (s := S1x16x256x128) ![0, 6, 0, 0] S1x1x256x128.size inb_S1x16x256x128_S1x1x256x128_0_6_0_0
abbrev r0_29 : Rect S1x16x256x128 := Rect.unit (s := S1x16x256x128) ![0, 7, 0, 0] S1x1x256x128.size inb_S1x16x256x128_S1x1x256x128_0_7_0_0
abbrev r0_30 : Rect S1x16x256x128 := Rect.unit (s := S1x16x256x128) ![0, 8, 0, 0] S1x1x256x128.size inb_S1x16x256x128_S1x1x256x128_0_8_0_0
abbrev r0_31 : Rect S1x16x256x128 := Rect.unit (s := S1x16x256x128) ![0, 9, 0, 0] S1x1x256x128.size inb_S1x16x256x128_S1x1x256x128_0_9_0_0
abbrev r0_32 : Rect S1x16x256x128 := Rect.unit (s := S1x16x256x128) ![0, 10, 0, 0] S1x1x256x128.size inb_S1x16x256x128_S1x1x256x128_0_10_0_0
abbrev r0_33 : Rect S1x16x256x128 := Rect.unit (s := S1x16x256x128) ![0, 11, 0, 0] S1x1x256x128.size inb_S1x16x256x128_S1x1x256x128_0_11_0_0
abbrev r0_34 : Rect S1x16x256x128 := Rect.unit (s := S1x16x256x128) ![0, 12, 0, 0] S1x1x256x128.size inb_S1x16x256x128_S1x1x256x128_0_12_0_0
abbrev r0_35 : Rect S1x16x256x128 := Rect.unit (s := S1x16x256x128) ![0, 13, 0, 0] S1x1x256x128.size inb_S1x16x256x128_S1x1x256x128_0_13_0_0
abbrev r0_36 : Rect S1x16x256x128 := Rect.unit (s := S1x16x256x128) ![0, 14, 0, 0] S1x1x256x128.size inb_S1x16x256x128_S1x1x256x128_0_14_0_0
abbrev r0_37 : Rect S1x16x256x128 := Rect.unit (s := S1x16x256x128) ![0, 15, 0, 0] S1x1x256x128.size inb_S1x16x256x128_S1x1x256x128_0_15_0_0
abbrev r0_38 : Rect S1x1024x256 := Rect.unit (s := S1x1024x256) ![0, 0, 0] S1x1024x256.size inb_S1x1024x256_S1x1024x256_0_0_0
abbrev r0_39 : Rect S1x4x256x128 := Rect.unit (s := S1x4x256x128) ![0, 0, 0, 0] S1x1x256x128.size inb_S1x4x256x128_S1x1x256x128_0_0_0_0
abbrev r0_40 : Rect S1x4x256x128 := Rect.unit (s := S1x4x256x128) ![0, 1, 0, 0] S1x1x256x128.size inb_S1x4x256x128_S1x1x256x128_0_1_0_0
abbrev r0_41 : Rect S1x4x256x128 := Rect.unit (s := S1x4x256x128) ![0, 2, 0, 0] S1x1x256x128.size inb_S1x4x256x128_S1x1x256x128_0_2_0_0
abbrev r0_42 : Rect S1x4x256x128 := Rect.unit (s := S1x4x256x128) ![0, 3, 0, 0] S1x1x256x128.size inb_S1x4x256x128_S1x1x256x128_0_3_0_0
abbrev r0_43 : Rect S1x256x256 := Rect.unit (s := S1x256x256) ![0, 0, 0] S1x256x256.size inb_S1x256x256_S1x256x256_0_0_0
abbrev r0_44 : Rect S1024x4608 := Rect.unit (s := S1024x4608) ![0, 768] S1024x2048.size inb_S1024x4608_S1024x2048_0_768

/-! Values of the body that several stores use, as functions of the blocks. -/

def k0_pay73 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x1024 .f32 :=
  k0_pay2 (View.ld x0 r0_0)
def k0_pay74 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x1024 .f32 :=
  k0_pay3 i (View.ld x2 r0_1) (View.ld x1 r0_2)
def k0_pay75 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x1024 .f32 :=
  k0_pay4 i (View.ld x2 r0_3) (View.ld x1 r0_4)
def k0_pay76 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x1024 .bf16 :=
  k0_pay5 (k0_pay73 i x0 x1 x2 x3 x4 x5 x6 x7 x8 x9 x10 x11 x12 x13 x14 x15 x16 x17) (k0_pay74 i x0 x1 x2 x3 x4 x5 x6 x7 x8 x9 x10 x11 x12 x13 x14 x15 x16 x17) (k0_pay75 i x0 x1 x2 x3 x4 x5 x6 x7 x8 x9 x10 x11 x12 x13 x14 x15 x16 x17) (View.ld x3 r0_5)
def k0_pay77 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay6 (View.ld x14 r0_6)
def k0_pay78 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay7 (View.ld x15 r0_6)
def k0_pay79 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay8 (View.ld x16 r0_6)
def k0_pay80 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay9 (View.ld x17 r0_6)
def k0_pay81 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x1024 .f32 :=
  k0_pay11 (k0_pay73 i x0 x1 x2 x3 x4 x5 x6 x7 x8 x9 x10 x11 x12 x13 x14 x15 x16 x17) (k0_pay74 i x0 x1 x2 x3 x4 x5 x6 x7 x8 x9 x10 x11 x12 x13 x14 x15 x16 x17) (k0_pay75 i x0 x1 x2 x3 x4 x5 x6 x7 x8 x9 x10 x11 x12 x13 x14 x15 x16 x17) (View.ld x3 r0_5) (View.ld x4 r0_8)
def k0_pay82 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay13 (k0_pay81 i x0 x1 x2 x3 x4 x5 x6 x7 x8 x9 x10 x11 x12 x13 x14 x15 x16 x17) (View.ld x11 r0_11)
def k0_pay83 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x256 .f32 :=
  k0_pay14 (k0_pay76 i x0 x1 x2 x3 x4 x5 x6 x7 x8 x9 x10 x11 x12 x13 x14 x15 x16 x17) (View.ld x4 r0_12)
def k0_pay84 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x512 .f32 :=
  k0_pay15 (k0_pay76 i x0 x1 x2 x3 x4 x5 x6 x7 x8 x9 x10 x11 x12 x13 x14 x15 x16 x17) (View.ld x4 r0_13)
def k0_pay85 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x256 .f32 :=
  k0_pay16 (k0_pay76 i x0 x1 x2 x3 x4 x5 x6 x7 x8 x9 x10 x11 x12 x13 x14 x15 x16 x17) (View.ld x4 r0_14)
def k0_pay86 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x1 .f32 :=
  k0_pay18 (k0_pay76 i x0 x1 x2 x3 x4 x5 x6 x7 x8 x9 x10 x11 x12 x13 x14 x15 x16 x17) (View.ld x4 r0_12)
def k0_pay87 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x2048 .f32 :=
  k0_pay20 (k0_pay83 i x0 x1 x2 x3 x4 x5 x6 x7 x8 x9 x10 x11 x12 x13 x14 x15 x16 x17) (View.ld x6 r0_16) (k0_pay86 i x0 x1 x2 x3 x4 x5 x6 x7 x8 x9 x10 x11 x12 x13 x14 x15 x16 x17) (Scalar.ofBits .f32 0x43800000#32) (View.ld x7 r0_17)
def k0_pay88 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay22 (k0_pay84 i x0 x1 x2 x3 x4 x5 x6 x7 x8 x9 x10 x11 x12 x13 x14 x15 x16 x17) (View.ld x11 r0_19)
def k0_pay89 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay24 (k0_pay82 i x0 x1 x2 x3 x4 x5 x6 x7 x8 x9 x10 x11 x12 x13 x14 x15 x16 x17)
def k0_pay90 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : IVec S256x128 32 :=
  k0_pay25
def k0_pay91 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x2048 .bf16 :=
  k0_pay38 (k0_pay77 i x0 x1 x2 x3 x4 x5 x6 x7 x8 x9 x10 x11 x12 x13 x14 x15 x16 x17) (k0_pay78 i x0 x1 x2 x3 x4 x5 x6 x7 x8 x9 x10 x11 x12 x13 x14 x15 x16 x17) (k0_pay85 i x0 x1 x2 x3 x4 x5 x6 x7 x8 x9 x10 x11 x12 x13 x14 x15 x16 x17) (k0_pay87 i x0 x1 x2 x3 x4 x5 x6 x7 x8 x9 x10 x11 x12 x13 x14 x15 x16 x17)
def k0_pay92 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay58 (k0_pay88 i x0 x1 x2 x3 x4 x5 x6 x7 x8 x9 x10 x11 x12 x13 x14 x15 x16 x17)
def k0_pay93 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : IVec S256x128 32 :=
  k0_pay59
def k0_pay94 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay60 (k0_pay88 i x0 x1 x2 x3 x4 x5 x6 x7 x8 x9 x10 x11 x12 x13 x14 x15 x16 x17)
def k0_pay95 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x128 .f32 :=
  k0_pay61 (k0_pay88 i x0 x1 x2 x3 x4 x5 x6 x7 x8 x9 x10 x11 x12 x13 x14 x15 x16 x17)
def k0_pay96 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : IVec S256x128 32 :=
  k0_pay62
def k0_pay97 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : IVec S256x128 32 :=
  k0_pay63
def k0_pay98 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x512 .f32 :=
  k0_pay65 (k0_pay79 i x0 x1 x2 x3 x4 x5 x6 x7 x8 x9 x10 x11 x12 x13 x14 x15 x16 x17) (k0_pay84 i x0 x1 x2 x3 x4 x5 x6 x7 x8 x9 x10 x11 x12 x13 x14 x15 x16 x17) (View.ld x12 r0_9) (k0_pay92 i x0 x1 x2 x3 x4 x5 x6 x7 x8 x9 x10 x11 x12 x13 x14 x15 x16 x17) (k0_pay93 i x0 x1 x2 x3 x4 x5 x6 x7 x8 x9 x10 x11 x12 x13 x14 x15 x16 x17) (k0_pay94 i x0 x1 x2 x3 x4 x5 x6 x7 x8 x9 x10 x11 x12 x13 x14 x15 x16 x17) (k0_pay95 i x0 x1 x2 x3 x4 x5 x6 x7 x8 x9 x10 x11 x12 x13 x14 x15 x16 x17) (k0_pay96 i x0 x1 x2 x3 x4 x5 x6 x7 x8 x9 x10 x11 x12 x13 x14 x15 x16 x17) (k0_pay97 i x0 x1 x2 x3 x4 x5 x6 x7 x8 x9 x10 x11 x12 x13 x14 x15 x16 x17)
def k0_pay99 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : FVec F S256x512 .f32 :=
  k0_pay66 (k0_pay80 i x0 x1 x2 x3 x4 x5 x6 x7 x8 x9 x10 x11 x12 x13 x14 x15 x16 x17) (k0_pay84 i x0 x1 x2 x3 x4 x5 x6 x7 x8 x9 x10 x11 x12 x13 x14 x15 x16 x17) (View.ld x12 r0_9) (k0_pay92 i x0 x1 x2 x3 x4 x5 x6 x7 x8 x9 x10 x11 x12 x13 x14 x15 x16 x17) (k0_pay93 i x0 x1 x2 x3 x4 x5 x6 x7 x8 x9 x10 x11 x12 x13 x14 x15 x16 x17) (k0_pay94 i x0 x1 x2 x3 x4 x5 x6 x7 x8 x9 x10 x11 x12 x13 x14 x15 x16 x17) (k0_pay95 i x0 x1 x2 x3 x4 x5 x6 x7 x8 x9 x10 x11 x12 x13 x14 x15 x16 x17) (k0_pay96 i x0 x1 x2 x3 x4 x5 x6 x7 x8 x9 x10 x11 x12 x13 x14 x15 x16 x17) (k0_pay97 i x0 x1 x2 x3 x4 x5 x6 x7 x8 x9 x10 x11 x12 x13 x14 x15 x16 x17)

/-- What a point leaves in window 18. -/
def out0_18 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x16x256x128 .bf16 :=
  View.canon [⟨r0_37, k0_pay56 (k0_pay91 i x0 x1 x2 x3 x4 x5 x6 x7 x8 x9 x10 x11 x12 x13 x14 x15 x16 x17)⟩,
    ⟨r0_36, k0_pay55 (k0_pay91 i x0 x1 x2 x3 x4 x5 x6 x7 x8 x9 x10 x11 x12 x13 x14 x15 x16 x17)⟩,
    ⟨r0_35, k0_pay54 (k0_pay91 i x0 x1 x2 x3 x4 x5 x6 x7 x8 x9 x10 x11 x12 x13 x14 x15 x16 x17)⟩,
    ⟨r0_34, k0_pay53 (k0_pay91 i x0 x1 x2 x3 x4 x5 x6 x7 x8 x9 x10 x11 x12 x13 x14 x15 x16 x17)⟩,
    ⟨r0_33, k0_pay52 (k0_pay91 i x0 x1 x2 x3 x4 x5 x6 x7 x8 x9 x10 x11 x12 x13 x14 x15 x16 x17)⟩,
    ⟨r0_32, k0_pay51 (k0_pay91 i x0 x1 x2 x3 x4 x5 x6 x7 x8 x9 x10 x11 x12 x13 x14 x15 x16 x17)⟩,
    ⟨r0_31, k0_pay50 (k0_pay91 i x0 x1 x2 x3 x4 x5 x6 x7 x8 x9 x10 x11 x12 x13 x14 x15 x16 x17)⟩,
    ⟨r0_30, k0_pay49 (k0_pay48 (k0_pay91 i x0 x1 x2 x3 x4 x5 x6 x7 x8 x9 x10 x11 x12 x13 x14 x15 x16 x17))⟩,
    ⟨r0_29, k0_pay47 (k0_pay91 i x0 x1 x2 x3 x4 x5 x6 x7 x8 x9 x10 x11 x12 x13 x14 x15 x16 x17)⟩,
    ⟨r0_28, k0_pay46 (k0_pay91 i x0 x1 x2 x3 x4 x5 x6 x7 x8 x9 x10 x11 x12 x13 x14 x15 x16 x17)⟩,
    ⟨r0_27, k0_pay45 (k0_pay91 i x0 x1 x2 x3 x4 x5 x6 x7 x8 x9 x10 x11 x12 x13 x14 x15 x16 x17)⟩,
    ⟨r0_26, k0_pay44 (k0_pay91 i x0 x1 x2 x3 x4 x5 x6 x7 x8 x9 x10 x11 x12 x13 x14 x15 x16 x17)⟩,
    ⟨r0_25, k0_pay43 (k0_pay91 i x0 x1 x2 x3 x4 x5 x6 x7 x8 x9 x10 x11 x12 x13 x14 x15 x16 x17)⟩,
    ⟨r0_24, k0_pay42 (k0_pay91 i x0 x1 x2 x3 x4 x5 x6 x7 x8 x9 x10 x11 x12 x13 x14 x15 x16 x17)⟩,
    ⟨r0_23, k0_pay41 (k0_pay40 (k0_pay77 i x0 x1 x2 x3 x4 x5 x6 x7 x8 x9 x10 x11 x12 x13 x14 x15 x16 x17) (k0_pay78 i x0 x1 x2 x3 x4 x5 x6 x7 x8 x9 x10 x11 x12 x13 x14 x15 x16 x17) (k0_pay85 i x0 x1 x2 x3 x4 x5 x6 x7 x8 x9 x10 x11 x12 x13 x14 x15 x16 x17) (k0_pay87 i x0 x1 x2 x3 x4 x5 x6 x7 x8 x9 x10 x11 x12 x13 x14 x15 x16 x17))⟩,
    ⟨r0_22, k0_pay39 (k0_pay77 i x0 x1 x2 x3 x4 x5 x6 x7 x8 x9 x10 x11 x12 x13 x14 x15 x16 x17) (k0_pay78 i x0 x1 x2 x3 x4 x5 x6 x7 x8 x9 x10 x11 x12 x13 x14 x15 x16 x17) (k0_pay85 i x0 x1 x2 x3 x4 x5 x6 x7 x8 x9 x10 x11 x12 x13 x14 x15 x16 x17) (k0_pay87 i x0 x1 x2 x3 x4 x5 x6 x7 x8 x9 x10 x11 x12 x13 x14 x15 x16 x17)⟩]

theorem cover0_18 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (y : S1x16x256x128.Idx) :
    ∃ pc ∈ ([⟨r0_37, p0⟩, ⟨r0_36, p1⟩, ⟨r0_35, p2⟩, ⟨r0_34, p3⟩, ⟨r0_33, p4⟩, ⟨r0_32, p5⟩, ⟨r0_31, p6⟩, ⟨r0_30, p7⟩, ⟨r0_29, p8⟩, ⟨r0_28, p9⟩, ⟨r0_27, p10⟩, ⟨r0_26, p11⟩, ⟨r0_25, p12⟩, ⟨r0_24, p13⟩, ⟨r0_23, p14⟩, ⟨r0_22, p15⟩] : List (View.Piece (Elt F) S1x16x256x128 .bf16)), y ∈ pc.1.set :=
  View.cover_of_tiled [⟨r0_37, p0⟩, ⟨r0_36, p1⟩, ⟨r0_35, p2⟩, ⟨r0_34, p3⟩, ⟨r0_33, p4⟩, ⟨r0_32, p5⟩, ⟨r0_31, p6⟩, ⟨r0_30, p7⟩, ⟨r0_29, p8⟩, ⟨r0_28, p9⟩, ⟨r0_27, p10⟩, ⟨r0_26, p11⟩, ⟨r0_25, p12⟩, ⟨r0_24, p13⟩, ⟨r0_23, p14⟩, ⟨r0_22, p15⟩] S1x1x256x128.size (by rfl) y

/-- What a point leaves in window 19. -/
def out0_19 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x1024x256 .bf16 :=
  View.canon [⟨r0_38, k0_pay57 (k0_pay21 (k0_pay83 i x0 x1 x2 x3 x4 x5 x6 x7 x8 x9 x10 x11 x12 x13 x14 x15 x16 x17) (View.ld x6 r0_16) (k0_pay86 i x0 x1 x2 x3 x4 x5 x6 x7 x8 x9 x10 x11 x12 x13 x14 x15 x16 x17) (Scalar.ofBits .f32 0x43800000#32) (View.ld x8 r0_18))⟩]

theorem cover0_19 (p0 : Vec F S1x1024x256 .bf16) (y : S1x1024x256.Idx) :
    ∃ pc ∈ ([⟨r0_38, p0⟩] : List (View.Piece (Elt F) S1x1024x256 .bf16)), y ∈ pc.1.set :=
  View.cover_of_tiled [⟨r0_38, p0⟩] S1x1024x256.size (by rfl) y

/-- What a point leaves in window 20. -/
def out0_20 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x256x2048 .bf16 :=
  View.canon [⟨r0_15, k0_pay17 (k0_pay77 i x0 x1 x2 x3 x4 x5 x6 x7 x8 x9 x10 x11 x12 x13 x14 x15 x16 x17) (k0_pay78 i x0 x1 x2 x3 x4 x5 x6 x7 x8 x9 x10 x11 x12 x13 x14 x15 x16 x17) (k0_pay10 (k0_pay73 i x0 x1 x2 x3 x4 x5 x6 x7 x8 x9 x10 x11 x12 x13 x14 x15 x16 x17) (k0_pay74 i x0 x1 x2 x3 x4 x5 x6 x7 x8 x9 x10 x11 x12 x13 x14 x15 x16 x17) (k0_pay75 i x0 x1 x2 x3 x4 x5 x6 x7 x8 x9 x10 x11 x12 x13 x14 x15 x16 x17) (View.ld x3 r0_5) (View.ld x4 r0_7)) (View.ld x9 r0_9) (k0_pay12 (k0_pay73 i x0 x1 x2 x3 x4 x5 x6 x7 x8 x9 x10 x11 x12 x13 x14 x15 x16 x17) (k0_pay74 i x0 x1 x2 x3 x4 x5 x6 x7 x8 x9 x10 x11 x12 x13 x14 x15 x16 x17) (k0_pay75 i x0 x1 x2 x3 x4 x5 x6 x7 x8 x9 x10 x11 x12 x13 x14 x15 x16 x17) (View.ld x3 r0_5) (View.ld x4 r0_7)) (View.ld x10 r0_10)⟩]

theorem cover0_20 (p0 : Vec F S1x256x2048 .bf16) (y : S1x256x2048.Idx) :
    ∃ pc ∈ ([⟨r0_15, p0⟩] : List (View.Piece (Elt F) S1x256x2048 .bf16)), y ∈ pc.1.set :=
  View.cover_of_tiled [⟨r0_15, p0⟩] S1x256x2048.size (by rfl) y

/-- What a point leaves in window 21. -/
def out0_21 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x4x256x128 .bf16 :=
  View.canon [⟨r0_42, k0_pay71 (k0_pay98 i x0 x1 x2 x3 x4 x5 x6 x7 x8 x9 x10 x11 x12 x13 x14 x15 x16 x17) (k0_pay99 i x0 x1 x2 x3 x4 x5 x6 x7 x8 x9 x10 x11 x12 x13 x14 x15 x16 x17)⟩,
    ⟨r0_41, k0_pay70 (k0_pay98 i x0 x1 x2 x3 x4 x5 x6 x7 x8 x9 x10 x11 x12 x13 x14 x15 x16 x17) (k0_pay99 i x0 x1 x2 x3 x4 x5 x6 x7 x8 x9 x10 x11 x12 x13 x14 x15 x16 x17)⟩,
    ⟨r0_40, k0_pay69 (k0_pay98 i x0 x1 x2 x3 x4 x5 x6 x7 x8 x9 x10 x11 x12 x13 x14 x15 x16 x17) (k0_pay99 i x0 x1 x2 x3 x4 x5 x6 x7 x8 x9 x10 x11 x12 x13 x14 x15 x16 x17)⟩,
    ⟨r0_39, k0_pay68 (k0_pay98 i x0 x1 x2 x3 x4 x5 x6 x7 x8 x9 x10 x11 x12 x13 x14 x15 x16 x17) (k0_pay99 i x0 x1 x2 x3 x4 x5 x6 x7 x8 x9 x10 x11 x12 x13 x14 x15 x16 x17)⟩]

theorem cover0_21 (p0 : Vec F S1x1x256x128 .bf16) (p1 : Vec F S1x1x256x128 .bf16) (p2 : Vec F S1x1x256x128 .bf16) (p3 : Vec F S1x1x256x128 .bf16) (y : S1x4x256x128.Idx) :
    ∃ pc ∈ ([⟨r0_42, p0⟩, ⟨r0_41, p1⟩, ⟨r0_40, p2⟩, ⟨r0_39, p3⟩] : List (View.Piece (Elt F) S1x4x256x128 .bf16)), y ∈ pc.1.set :=
  View.cover_of_tiled [⟨r0_42, p0⟩, ⟨r0_41, p1⟩, ⟨r0_40, p2⟩, ⟨r0_39, p3⟩] S1x1x256x128.size (by rfl) y

/-- What a point leaves in window 22. -/
def out0_22 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x256x256 .bf16 :=
  View.canon [⟨r0_43, k0_pay72 (k0_pay23 (k0_pay76 i x0 x1 x2 x3 x4 x5 x6 x7 x8 x9 x10 x11 x12 x13 x14 x15 x16 x17) (View.ld x5 r0_20))⟩]

theorem cover0_22 (p0 : Vec F S1x256x256 .bf16) (y : S1x256x256.Idx) :
    ∃ pc ∈ ([⟨r0_43, p0⟩] : List (View.Piece (Elt F) S1x256x256 .bf16)), y ∈ pc.1.set :=
  View.cover_of_tiled [⟨r0_43, p0⟩] S1x256x256.size (by rfl) y

/-- What a point leaves in window 23. -/
def out0_23 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x256x1024 .bf16 :=
  View.canon [⟨r0_0, k0_pay36 (k0_pay79 i x0 x1 x2 x3 x4 x5 x6 x7 x8 x9 x10 x11 x12 x13 x14 x15 x16 x17) (k0_pay80 i x0 x1 x2 x3 x4 x5 x6 x7 x8 x9 x10 x11 x12 x13 x14 x15 x16 x17) (k0_pay34 (k0_pay81 i x0 x1 x2 x3 x4 x5 x6 x7 x8 x9 x10 x11 x12 x13 x14 x15 x16 x17) (View.ld x13 r0_5) (k0_pay89 i x0 x1 x2 x3 x4 x5 x6 x7 x8 x9 x10 x11 x12 x13 x14 x15 x16 x17) (k0_pay90 i x0 x1 x2 x3 x4 x5 x6 x7 x8 x9 x10 x11 x12 x13 x14 x15 x16 x17) (k0_pay26 (k0_pay82 i x0 x1 x2 x3 x4 x5 x6 x7 x8 x9 x10 x11 x12 x13 x14 x15 x16 x17)) (k0_pay27 (k0_pay89 i x0 x1 x2 x3 x4 x5 x6 x7 x8 x9 x10 x11 x12 x13 x14 x15 x16 x17) (k0_pay90 i x0 x1 x2 x3 x4 x5 x6 x7 x8 x9 x10 x11 x12 x13 x14 x15 x16 x17) 2#32) (k0_pay28 (k0_pay89 i x0 x1 x2 x3 x4 x5 x6 x7 x8 x9 x10 x11 x12 x13 x14 x15 x16 x17) (k0_pay90 i x0 x1 x2 x3 x4 x5 x6 x7 x8 x9 x10 x11 x12 x13 x14 x15 x16 x17)) (k0_pay29 (k0_pay89 i x0 x1 x2 x3 x4 x5 x6 x7 x8 x9 x10 x11 x12 x13 x14 x15 x16 x17) (k0_pay90 i x0 x1 x2 x3 x4 x5 x6 x7 x8 x9 x10 x11 x12 x13 x14 x15 x16 x17)) (k0_pay30 (k0_pay89 i x0 x1 x2 x3 x4 x5 x6 x7 x8 x9 x10 x11 x12 x13 x14 x15 x16 x17) (k0_pay90 i x0 x1 x2 x3 x4 x5 x6 x7 x8 x9 x10 x11 x12 x13 x14 x15 x16 x17)) (k0_pay31 (k0_pay90 i x0 x1 x2 x3 x4 x5 x6 x7 x8 x9 x10 x11 x12 x13 x14 x15 x16 x17)) (k0_pay32 (k0_pay90 i x0 x1 x2 x3 x4 x5 x6 x7 x8 x9 x10 x11 x12 x13 x14 x15 x16 x17)) (k0_pay33 (k0_pay90 i x0 x1 x2 x3 x4 x5 x6 x7 x8 x9 x10 x11 x12 x13 x14 x15 x16 x17))) k0_pay35⟩]

theorem cover0_23 (p0 : Vec F S1x256x1024 .bf16) (y : S1x256x1024.Idx) :
    ∃ pc ∈ ([⟨r0_0, p0⟩] : List (View.Piece (Elt F) S1x256x1024 .bf16)), y ∈ pc.1.set :=
  View.cover_of_tiled [⟨r0_0, p0⟩] S1x256x1024.size (by rfl) y

/-- What a point leaves in window 24. -/
def out0_24 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x256x2048 .f32 :=
  View.canon [⟨r0_15, k0_pay1 (k0_pay76 i x0 x1 x2 x3 x4 x5 x6 x7 x8 x9 x10 x11 x12 x13 x14 x15 x16 x17) (View.ld x4 r0_44)⟩]

theorem cover0_24 (p0 : Vec F S1x256x2048 .f32) (y : S1x256x2048.Idx) :
    ∃ pc ∈ ([⟨r0_15, p0⟩] : List (View.Piece (Elt F) S1x256x2048 .f32)), y ∈ pc.1.set :=
  View.cover_of_tiled [⟨r0_15, p0⟩] S1x256x2048.size (by rfl) y

/-- What a point leaves in window 25. -/
def out0_25 (i : grid0.Coords) (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) : Vec F S1x256x128 .f32 :=
  View.canon [⟨r0_21, k0_pay37 (k0_pay85 i x0 x1 x2 x3 x4 x5 x6 x7 x8 x9 x10 x11 x12 x13 x14 x15 x16 x17)⟩]

theorem cover0_25 (p0 : Vec F S1x256x128 .f32) (y : S1x256x128.Idx) :
    ∃ pc ∈ ([⟨r0_21, p0⟩] : List (View.Piece (Elt F) S1x256x128 .f32)), y ∈ pc.1.set :=
  View.cover_of_tiled [⟨r0_21, p0⟩] S1x256x128.size (by rfl) y

set_option maxHeartbeats 1104200 in
/-- The body on whole buffers: the inputs stay, each output is left as stated above. -/
theorem sound_kernel (c : Dev nD) (E : Set ℕ) (i : grid0.Coords) (arg2 : Memref sig .tc .vmem S1x256x1024 .f32) (harg2 : arg2.IsWhole) (arg3 : Memref sig .tc .vmem S1x9x1024 .f32) (harg3 : arg3.IsWhole) (arg4 : Memref sig .tc .vmem S9x1024 .f32) (harg4 : arg4.IsWhole) (arg5 : Memref sig .tc .vmem S1x1024 .f32) (harg5 : arg5.IsWhole) (arg6 : Memref sig .tc .vmem S1024x4608 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S256x2048 .bf16) (harg9 : arg9.IsWhole) (arg10 : Memref sig .tc .vmem S1024x256 .bf16) (harg10 : arg10.IsWhole) (arg11 : Memref sig .tc .vmem S1x512 .f32) (harg11 : arg11.IsWhole) (arg12 : Memref sig .tc .vmem S512x2048 .bf16) (harg12 : arg12.IsWhole) (arg13 : Memref sig .tc .vmem S1024x128 .bf16) (harg13 : arg13.IsWhole) (arg14 : Memref sig .tc .vmem S1x512 .f32) (harg14 : arg14.IsWhole) (arg15 : Memref sig .tc .vmem S1x1024 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x16x256x128 .bf16) (harg20 : arg20.IsWhole) (arg21 : Memref sig .tc .vmem S1x1024x256 .bf16) (harg21 : arg21.IsWhole) (arg22 : Memref sig .tc .vmem S1x256x2048 .bf16) (harg22 : arg22.IsWhole) (arg23 : Memref sig .tc .vmem S1x4x256x128 .bf16) (harg23 : arg23.IsWhole) (arg24 : Memref sig .tc .vmem S1x256x256 .bf16) (harg24 : arg24.IsWhole) (arg25 : Memref sig .tc .vmem S1x256x1024 .bf16) (harg25 : arg25.IsWhole) (arg26 : Memref sig .tc .vmem S1x256x2048 .f32) (harg26 : arg26.IsWhole) (arg27 : Memref sig .tc .vmem S1x256x128 .f32) (harg27 : arg27.IsWhole)
    (x0 : Vec F S1x256x1024 .f32) (x1 : Vec F S1x9x1024 .f32) (x2 : Vec F S9x1024 .f32) (x3 : Vec F S1x1024 .f32) (x4 : Vec F S1024x4608 .bf16) (x5 : Vec F S256x1024 .bf16) (x6 : Vec F S1x256 .f32) (x7 : Vec F S256x2048 .bf16) (x8 : Vec F S1024x256 .bf16) (x9 : Vec F S1x512 .f32) (x10 : Vec F S512x2048 .bf16) (x11 : Vec F S1024x128 .bf16) (x12 : Vec F S1x512 .f32) (x13 : Vec F S1x1024 .f32) (x14 : Vec F S256x128 .f32) (x15 : Vec F S256x128 .f32) (x16 : Vec F S256x128 .f32) (x17 : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare (out0_18 i x0 x1 x2 x3 x4 x5 x6 x7 x8 x9 x10 x11 x12 x13 x14 x15 x16 x17) ∗ owns (c : Thread nD τ) arg21 fullShare (out0_19 i x0 x1 x2 x3 x4 x5 x6 x7 x8 x9 x10 x11 x12 x13 x14 x15 x16 x17) ∗ owns (c : Thread nD τ) arg22 fullShare (out0_20 i x0 x1 x2 x3 x4 x5 x6 x7 x8 x9 x10 x11 x12 x13 x14 x15 x16 x17) ∗ owns (c : Thread nD τ) arg23 fullShare (out0_21 i x0 x1 x2 x3 x4 x5 x6 x7 x8 x9 x10 x11 x12 x13 x14 x15 x16 x17) ∗ owns (c : Thread nD τ) arg24 fullShare (out0_22 i x0 x1 x2 x3 x4 x5 x6 x7 x8 x9 x10 x11 x12 x13 x14 x15 x16 x17) ∗ owns (c : Thread nD τ) arg25 fullShare (out0_23 i x0 x1 x2 x3 x4 x5 x6 x7 x8 x9 x10 x11 x12 x13 x14 x15 x16 x17) ∗ owns (c : Thread nD τ) arg26 fullShare (out0_24 i x0 x1 x2 x3 x4 x5 x6 x7 x8 x9 x10 x11 x12 x13 x14 x15 x16 x17) ∗ owns (c : Thread nD τ) arg27 fullShare (out0_25 i x0 x1 x2 x3 x4 x5 x6 x7 x8 x9 x10 x11 x12 x13 x14 x15 x16 x17)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_in_proj_eq_skeleton]; unfold cc0_in_proj_skel
  simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _ _ _ _ _ _ _ _ _ _ _ _ _ _ _ _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

end Proj

end
-- ==== Proof.Proj.Run.lean ====
module

public import proofs.«01_k».proof.Proof.Proj.Body
public import proofs.«01_k».proof.Proof.Gen.Kernel6Ideal.Points
public import Idealize.ShloMosaic.Lib.Claim

@[expose] public section

/-! # The launch of the input projections

The set-up of the launch, its run, and the frame: it ends with the results at what the body leaves block by block and the arguments as they were. -/

set_option maxRecDepth 16384

noncomputable section

namespace Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes an argument. -/
theorem V_arg (c : Dev nD) (b : Ref sig .tc) (hb : b ∈ ([main_arg0, main_arg1, main_arg2, main_arg3, main_arg4, main_arg5, main_arg6,
    main_arg7, main_arg8, main_arg9, main_arg10, main_arg11, main_arg12] : List (Ref sig .tc))) : V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by revert hb; revert b; decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
/-! ## The pipeline's data -/

/-- An input's buffer keeps its block, an output's is what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves and finds, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at every point, as the library asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every array of the pipeline ends at what the data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the pipeline ends at what the data say. -/
theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 4000000 in
/-- The four results, and the arguments unchanged. -/
theorem run_results : θ_run defs (onTc (τ := τ) (main (F := F))) ⟨m, fun _ => 0, ρ⟩ (fun r => ∀ c : Dev nD,
      r.2.mem ((c.tc : Thread nD τ).loc main_v76_1) = (dats m 0 c).arrAt 19 cfg0.N
      ∧ r.2.mem ((c.tc : Thread nD τ).loc main_v76_4) = (dats m 0 c).arrAt 22 cfg0.N
      ∧ r.2.mem ((c.tc : Thread nD τ).loc main_v76_6) = (dats m 0 c).arrAt 24 cfg0.N
      ∧ r.2.mem ((c.tc : Thread nD τ).loc main_v76_7) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1 19, (h c).1 22, (h c).1 24, (h c).1 25,
      ((h c).1 0).trans (((dats m 0 c).arrAt_in 0 rfl _).trans ((A_eq m c 0).trans (V_arg m c _ (by decide)))),
      ((h c).1 1).trans (((dats m 0 c).arrAt_in 1 rfl _).trans ((A_eq m c 1).trans (V_arg m c _ (by decide)))),
      ((h c).1 2).trans (((dats m 0 c).arrAt_in 2 rfl _).trans ((A_eq m c 2).trans (V_arg m c _ (by decide)))),
      ((h c).1 3).trans (((dats m 0 c).arrAt_in 3 rfl _).trans ((A_eq m c 3).trans (V_arg m c _ (by decide)))),
      ((h c).1 4).trans (((dats m 0 c).arrAt_in 4 rfl _).trans ((A_eq m c 4).trans (V_arg m c _ (by decide)))),
      ((h c).1 5).trans (((dats m 0 c).arrAt_in 5 rfl _).trans ((A_eq m c 5).trans (V_arg m c _ (by decide)))),
      ((h c).1 6).trans (((dats m 0 c).arrAt_in 6 rfl _).trans ((A_eq m c 6).trans (V_arg m c _ (by decide)))),
      ((h c).1 7).trans (((dats m 0 c).arrAt_in 7 rfl _).trans ((A_eq m c 7).trans (V_arg m c _ (by decide)))),
      ((h c).1 8).trans (((dats m 0 c).arrAt_in 8 rfl _).trans ((A_eq m c 8).trans (V_arg m c _ (by decide)))),
      ((h c).1 9).trans (((dats m 0 c).arrAt_in 9 rfl _).trans ((A_eq m c 9).trans (V_arg m c _ (by decide)))),
      ((h c).1 10).trans (((dats m 0 c).arrAt_in 10 rfl _).trans ((A_eq m c 10).trans (V_arg m c _ (by decide)))),
      ((h c).1 12).trans (((dats m 0 c).arrAt_in 12 rfl _).trans ((A_eq m c 12).trans (V_arg m c _ (by decide)))),
      ((h c).1 13).trans (((dats m 0 c).arrAt_in 13 rfl _).trans ((A_eq m c 13).trans (V_arg m c _ (by decide))))⟩) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and ((θ_run defs _ _).mono (fun _ h c => (h c).2.2.2.2) (run_results m ρ))
    ((θ_run defs _ _).mono (fun _ h => h.2) (run_main_quiescent m ρ))

end Proj

end
-- ==== Proof.Proj.Tile.lean ====
module

public import proofs.«01_k».proof.Proof.Merge.Strand
public import proofs.«01_k».proof.Proof.Proj.Run

@[expose] public section

/-! # What a grid point of the input projections stores, operation by operation -/

set_option maxRecDepth 16384

noncomputable section

namespace Proj

open Cert.Kernel6Ideal Cert.Kernel6Ideal.Gen Idealize.ShloMosaic Idealize.ShloMosaic.TcCoe Idealize.SL.Sem
open Merge (input)
open Ffn (base)

variable {F : FTy → Type} [FloatOps F]

/-- Blocks of columns of the wide weight: the latent vector's, the scan's input, and the last 256, of which the second
half are the step sizes. -/
def latentCols (w : Vec F S1024x4608 .bf16) : Vec F S1024x256 .bf16 := View.ld w r0_12
def scanCols (w : Vec F S1024x4608 .bf16) : Vec F S1024x2048 .bf16 := View.ld w r0_44
def lastCols (w : Vec F S1024x4608 .bf16) : Vec F S1024x256 .bf16 := View.ld w r0_14

/-- Whole blocks, as loaded. -/
def latentGains (g : Vec F S1x256 .f32) : Vec F S1x256 .f32 := View.ld g r0_16
def latentWeight (w : Vec F S1024x256 .bf16) : Vec F S1024x256 .bf16 := View.ld w r0_18
def groupedWeight (w : Vec F S256x1024 .bf16) : Vec F S256x1024 .bf16 := View.ld w r0_20

/-- The product with 256 columns. -/
def narrow (u : FVec F S256x1024 .bf16) (w : FVec F S1024x256 .bf16) : FVec F S256x256 .f32 :=
  matmul dot_S256x1024_S1024x256_S256x256_1_0_0_1_n_n none u w (constant S256x256 .f32 0x00000000#32)

/-- The product with the columns of the scan's input. -/
def scanInput (u : FVec F S256x1024 .bf16) (w : FVec F S1024x2048 .bf16) : FVec F S1x256x2048 .f32 :=
  shapeCast S1x256x2048 (matmul dot_S256x1024_S1024x2048_S256x2048_1_0_0_1_n_n none u w (constant S256x2048 .f32 0x00000000#32))
    shapeCasts_S256x2048_S1x256x2048

/-- The second half of the last columns. -/
def steps (h : FVec F S256x256 .f32) : FVec F S1x256x128 .f32 :=
  shapeCast S1x256x128 (extractStridedSlice S256x128 ![0, 128] h slices_S256x256_o0_128_S256x128) shapeCasts_S256x128_S1x256x128

/-- The normalized latent rows. -/
def latentRows (h : FVec F S256x256 .f32) (g : FVec F S1x256 .f32) : FVec F S256x256 .bf16 :=
  truncf .bf16 (mulf (mulf h (broadcastTo S256x256 (rsqrt (addf (divf
      (shapeCast S256x1 (multiReduction .add [1] S256 (mulf h h) 0x00000000#32 reduces_S256x256_S256 (.inl rfl) rfl)
        shapeCasts_S256_S256x1)
      (broadcast S256x1 (Scalar.ofBits .f32 0x43800000#32)))
      (broadcast S256x1 (Scalar.ofBits .f32 0x358637BD#32)))) broadcasts_S256x1_S256x256))
    (broadcastTo S256x256 g broadcasts_S1x256_S256x256)) bitsLt_bf16_f32

/-- The values of the latent attention, a channel to a row. -/
def latentValues (c : FVec F S256x256 .bf16) (w : FVec F S1024x256 .bf16) : FVec F S1x1024x256 .bf16 :=
  shapeCast S1x1024x256 (truncf .bf16
    (matmul dot_S1024x256_S256x256_S1024x256_1_1_0_0_n_n none w c (constant S1024x256 .f32 0x00000000#32)) bitsLt_bf16_f32)
    shapeCasts_S1024x256_S1x1024x256

/-- The values of the grouped attention, a channel to a row. -/
def groupedValues (u : FVec F S256x1024 .bf16) (w : FVec F S256x1024 .bf16) : FVec F S1x256x256 .bf16 :=
  shapeCast S1x256x256 (truncf .bf16
    (matmul dot_S256x1024_S256x1024_S256x256_1_1_0_0_n_n none w u (constant S256x256 .f32 0x00000000#32)) bitsLt_bf16_f32)
    shapeCasts_S256x256_S1x256x256

section Outputs

variable (i : grid0.Coords) (x0 : Vec F S1x256x1024 .f32) (x1 : Vec F S1x9x1024 .f32) (x2 : Vec F S9x1024 .f32)
  (x3 : Vec F S1x1024 .f32) (x4 : Vec F S1024x4608 .bf16) (x5 : Vec F S256x1024 .bf16) (x6 : Vec F S1x256 .f32)
  (x7 : Vec F S256x2048 .bf16) (x8 : Vec F S1024x256 .bf16) (x9 : Vec F S1x512 .f32) (x10 : Vec F S512x2048 .bf16)
  (x11 : Vec F S1024x128 .bf16) (x12 : Vec F S1x512 .f32) (x13 : Vec F S1x1024 .f32) (x14 x15 x16 x17 : Vec F S256x128 .f32)

/-- What the body leaves in the four tiles. -/
theorem out_latent : out0_19 i x0 x1 x2 x3 x4 x5 x6 x7 x8 x9 x10 x11 x12 x13 x14 x15 x16 x17
    = View.canon [⟨r0_38, latentValues (latentRows (narrow (input (base (i 1).val 256 0) x0 x1 x2 x3) (latentCols x4)) (latentGains x6))
        (latentWeight x8)⟩] := rfl

theorem out_grouped : out0_22 i x0 x1 x2 x3 x4 x5 x6 x7 x8 x9 x10 x11 x12 x13 x14 x15 x16 x17
    = View.canon [⟨r0_43, groupedValues (input (base (i 1).val 256 0) x0 x1 x2 x3) (groupedWeight x5)⟩] := rfl

theorem out_scan : out0_24 i x0 x1 x2 x3 x4 x5 x6 x7 x8 x9 x10 x11 x12 x13 x14 x15 x16 x17
    = View.canon [⟨r0_15, scanInput (input (base (i 1).val 256 0) x0 x1 x2 x3) (scanCols x4)⟩] := rfl

theorem out_steps : out0_25 i x0 x1 x2 x3 x4 x5 x6 x7 x8 x9 x10 x11 x12 x13 x14 x15 x16 x17
    = View.canon [⟨r0_21, steps (narrow (input (base (i 1).val 256 0) x0 x1 x2 x3) (lastCols x4))⟩] := rfl

end Outputs

end Proj

end
-- ==== Proof.Proj.TileValue.lean ====
module

public import proofs.«01_k».proof.Proof.Proj.Math
public import proofs.«01_k».proof.Proof.Proj.Tile
public import proofs.«01_k».proof.Proof.Merge.StrandValue

@[expose] public section

/-! # What a grid point of the input projections stores, at an index -/

set_option maxRecDepth 16384

noncomputable section

namespace Proj

open Cert.Kernel6Ideal Cert.Kernel6Ideal.Gen Idealize.ShloMosaic Idealize.ShloMosaic.TcCoe Idealize.SL.Sem

theorem latentCols_at (w : FVec Ideal S1024x4608 .bf16) (k : Fin 1024) (f : Fin 256) :
    latentCols (F := Ideal) w (ix2 k f) = w (ix2 k ⟨f, by omega⟩) := by
  pointwise [latentCols]

theorem scanCols_at (w : FVec Ideal S1024x4608 .bf16) (k : Fin 1024) (f : Fin 2048) :
    scanCols (F := Ideal) w (ix2 k f) = w (ix2 k ⟨768 + f, by omega⟩) := by
  pointwise [scanCols]

theorem lastCols_at (w : FVec Ideal S1024x4608 .bf16) (k : Fin 1024) (f : Fin 256) :
    lastCols (F := Ideal) w (ix2 k f) = w (ix2 k ⟨4352 + f, by omega⟩) := by
  pointwise [lastCols]

theorem latentGains_at (g : FVec Ideal S1x256 .f32) (k : Fin 256) : latentGains (F := Ideal) g (ix2 0 k) = g (ix2 0 k) := by
  pointwise [latentGains]

theorem latentWeight_at (w : FVec Ideal S1024x256 .bf16) (l : Fin 1024) (k : Fin 256) :
    latentWeight (F := Ideal) w (ix2 l k) = w (ix2 l k) := by
  pointwise [latentWeight]

theorem groupedWeight_at (w : FVec Ideal S256x1024 .bf16) (l : Fin 256) (k : Fin 1024) :
    groupedWeight (F := Ideal) w (ix2 l k) = w (ix2 l k) := by
  pointwise [groupedWeight]

theorem narrow_at (u : FVec Ideal S256x1024 .bf16) (w : FVec Ideal S1024x256 .bf16) (r f : Fin 256) :
    narrow u w (ix2 r f) = ∑ k : Fin 1024, u (ix2 r k) * w (ix2 k f) := by
  pointwise [narrow]

theorem scanInput_at (u : FVec Ideal S256x1024 .bf16) (w : FVec Ideal S1024x2048 .bf16) (r : Fin 256) (f : Fin 2048) :
    scanInput u w (ix3 0 r f) = ∑ k : Fin 1024, u (ix2 r k) * w (ix2 k f) := by
  pointwise [scanInput]

theorem steps_at (h : FVec Ideal S256x256 .f32) (r : Fin 256) (f : Fin 128) :
    steps h (ix3 0 r f) = h (ix2 r ⟨128 + f, by omega⟩) := by
  pointwise [steps]

theorem latentRows_at (h : FVec Ideal S256x256 .f32) (g : FVec Ideal S1x256 .f32) (r l : Fin 256) :
    latentRows h g (ix2 r l) = normed latentWidth (fun k => h (ix2 r k)) (fun k => g (ix2 0 k)) l := by
  pointwise [latentRows]
  rfl

theorem latentValues_at (c : FVec Ideal S256x256 .bf16) (w : FVec Ideal S1024x256 .bf16) (l : Fin 1024) (r : Fin 256) :
    latentValues c w (ix3 0 l r) = ∑ k : Fin 256, c (ix2 r k) * w (ix2 l k) := by
  pointwise [latentValues]
  simp only [mul_comm]

theorem groupedValues_at (u w : FVec Ideal S256x1024 .bf16) (l r : Fin 256) :
    groupedValues u w (ix3 0 l r) = ∑ k : Fin 1024, u (ix2 r k) * w (ix2 l k) := by
  pointwise [groupedValues]
  simp only [mul_comm]

section Columns

variable (u : FVec Ideal S256x1024 .bf16) (w : FVec Ideal S1024x4608 .bf16) (r : Fin 256)

theorem latentValue_at (g : FVec Ideal S1x256 .f32) (wv : FVec Ideal S1024x256 .bf16) (l : Fin 1024) :
    latentValues (latentRows (narrow u (latentCols (F := Ideal) w)) (latentGains (F := Ideal) g)) (latentWeight (F := Ideal) wv) (ix3 0 l r)
      = latentValue (fun k => u (ix2 r k)) (fun k f => w (ix2 k f)) (fun k => g (ix2 0 k)) (fun l k => wv (ix2 l k)) l := by
  rw [latentValues_at]
  simp only [latentRows_at, narrow_at, latentCols_at, latentGains_at, latentWeight_at]
  rfl

theorem groupedValue_at (wv : FVec Ideal S256x1024 .bf16) (l : Fin 256) :
    groupedValues u (groupedWeight (F := Ideal) wv) (ix3 0 l r) = groupedValue (fun k => u (ix2 r k)) (fun l k => wv (ix2 l k)) l := by
  rw [groupedValues_at]
  simp only [groupedWeight_at]
  rfl

theorem scan_at (f : Fin 2048) : scanInput u (scanCols (F := Ideal) w) (ix3 0 r f)
    = column (fun k => u (ix2 r k)) (fun k f => w (ix2 k f)) ⟨768 + f, by omega⟩ := by
  rw [scanInput_at]
  simp only [scanCols_at]
  rfl

theorem step_at (f : Fin 128) : steps (narrow u (lastCols (F := Ideal) w)) (ix3 0 r f)
    = column (fun k => u (ix2 r k)) (fun k f => w (ix2 k f)) ⟨4480 + f, by omega⟩ := by
  rw [steps_at, narrow_at]
  simp only [lastCols_at]
  have h : (⟨4352 + (128 + f), by omega⟩ : Fin 4608) = ⟨4480 + f, by omega⟩ := Fin.ext (by show 4352 + (128 + (f : ℕ)) = 4480 + f; omega)
  exact Finset.sum_congr rfl fun k _ => congrArg (fun f => u (ix2 r k) * w (ix2 k f)) h

end Columns

end Proj

end
-- ==== Proof.Proj.Point.lean ====
module

public import proofs.«01_k».proof.Proof.Proj.TileValue
public import Idealize.ShloMosaic.Lib.Pipeline.ValueKit

@[expose] public section

/-! # The result arrays of the input projections

Every row of the scan's input and of the step sizes, and every column of the two values, is a token's; a latent token's
modulation is its batch element's, a context token's the context's. -/

set_option maxRecDepth 16384

noncomputable section

namespace Proj

open Cert.Kernel6Ideal Cert.Kernel6Ideal.Gen Idealize.ShloMosaic Idealize.ShloMosaic.TcCoe Idealize.SL.Sem
open Idealize.ShloMosaic.Pipeline (Dat)
open Ffn (modAt base_eq modulated)
open Merge (input input_at)

/-- Token `n` of batch element `b`, normalized and modulated. -/
def token (x : FVec Ideal S32x2304x1024 .f32) (modx : FVec Ideal S32x9x1024 .f32) (modc : FVec Ideal S9x1024 .f32)
    (g : FVec Ideal S1x1024 .f32) (b : Fin 32) (n : Fin 2304) : Fin 1024 → EReal :=
  modulated (fun l => x (ix3 b n l)) (fun l => g (ix2 0 l))
    (modAt (n : ℕ) (fun l => modc (ix2 4 l)) (fun l => modx (ix3 b 4 l)))
    (modAt (n : ℕ) (fun l => modc (ix2 3 l)) (fun l => modx (ix3 b 3 l)))

section Arrays

variable (u : Fin 32 → Fin 2304 → Fin 1024 → EReal) (w : FVec Ideal S1024x4608 .bf16)

/-- The results, from the modulated tokens. -/
def latentArray (g : FVec Ideal S1x256 .f32) (wv : FVec Ideal S1024x256 .bf16) : FVec Ideal S32x1024x2304 .bf16 := fun y =>
  latentValue (u (y 0) (y 2)) (fun k f => w (ix2 k f)) (fun k => g (ix2 0 k)) (fun l k => wv (ix2 l k)) (y 1)
def groupedArray (wv : FVec Ideal S256x1024 .bf16) : FVec Ideal S32x256x2304 .bf16 := fun y =>
  groupedValue (u (y 0) (y 2)) (fun l k => wv (ix2 l k)) (y 1)
def scanArray : FVec Ideal S32x2304x2048 .f32 := fun y =>
  column (u (y 0) (y 1)) (fun k f => w (ix2 k f)) ⟨768 + (y 2 : ℕ), by have : (y 2 : ℕ) < 2048 := (y 2).isLt; omega⟩
def stepArray : FVec Ideal S32x2304x128 .f32 := fun y =>
  column (u (y 0) (y 1)) (fun k f => w (ix2 k f)) ⟨4480 + (y 2 : ℕ), by have : (y 2 : ℕ) < 128 := (y 2).isLt; omega⟩

end Arrays

/-- Which block of each window a point holds: batch element `t / 9`, tile `t % 9`. -/
theorem idx6 : ∀ t : Fin cfg0.N, (grid0.coords t 1).val = t.val % 9 ∧ win0_0.index t = ![t.val / 9, t.val % 9, 0]
    ∧ win0_1.index t = ![t.val / 9, 0, 0] ∧ win0_2.index t = ![0, 0] ∧ win0_3.index t = ![0, 0] ∧ win0_4.index t = ![0, 0]
    ∧ win0_5.index t = ![0, 0] ∧ win0_6.index t = ![0, 0] ∧ win0_8.index t = ![0, 0]
    ∧ win0_19.index t = ![t.val / 9, 0, t.val % 9] ∧ win0_22.index t = ![t.val / 9, 0, t.val % 9]
    ∧ win0_24.index t = ![t.val / 9, t.val % 9, 0] ∧ win0_25.index t = ![t.val / 9, t.val % 9, 0] :=
  (by decide +kernel : ∀ t : Fin grid0.N, _)

variable (m : (ℓ : Loc nD τ sig) → Buf (Elt Ideal) ℓ) (c : Dev nD) (t : Fin cfg0.N)

/-- The blocks of a point. -/
abbrev blkX : FVec Ideal S1x256x1024 .f32 := iblk m c 0 t
abbrev blkModx : FVec Ideal S1x9x1024 .f32 := iblk m c 1 t
abbrev blkModc : FVec Ideal S9x1024 .f32 := iblk m c 2 t
abbrev blkG : FVec Ideal S1x1024 .f32 := iblk m c 3 t
abbrev blkW : FVec Ideal S1024x4608 .bf16 := iblk m c 4 t
abbrev blkGrouped : FVec Ideal S256x1024 .bf16 := iblk m c 5 t
abbrev blkGains : FVec Ideal S1x256 .f32 := iblk m c 6 t
abbrev blkLatent : FVec Ideal S1024x256 .bf16 := iblk m c 8 t

/-- The arguments. -/
abbrev argX : FVec Ideal S32x2304x1024 .f32 := m ((c : Thread nD τ).loc main_arg0)
abbrev argModx : FVec Ideal S32x9x1024 .f32 := m ((c : Thread nD τ).loc main_arg1)
abbrev argModc : FVec Ideal S9x1024 .f32 := m ((c : Thread nD τ).loc main_arg2)
abbrev argG : FVec Ideal S1x1024 .f32 := m ((c : Thread nD τ).loc main_arg3)
abbrev argW : FVec Ideal S1024x4608 .bf16 := m ((c : Thread nD τ).loc main_arg4)
abbrev argGrouped : FVec Ideal S256x1024 .bf16 := m ((c : Thread nD τ).loc main_arg5)
abbrev argGains : FVec Ideal S1x256 .f32 := m ((c : Thread nD τ).loc main_arg6)
abbrev argLatent : FVec Ideal S1024x256 .bf16 := m ((c : Thread nD τ).loc main_arg8)

section Tiles

variable (b : Fin 32) (T : Fin 9) (hb : (b : ℕ) = t.val / 9) (hT : (T : ℕ) = t.val % 9) (r : Fin 256) (l : Fin 1024)

include hb hT in
theorem blkX_at : blkX m c t (ix3 0 r l) = argX m c (ix3 b ⟨T * 256 + r, by omega⟩ l) := by
  refine Eq.trans (b := V m c main_arg0 (ix3 b ⟨T * 256 + r, by omega⟩ l)) ?_ (congrFun (V_arg m c _ (by decide)) _)
  blk_point [iblk, idx6 t]

include hb in
theorem blkModx_at (j : Fin 9) : blkModx m c t (ix3 0 j l) = argModx m c (ix3 b j l) := by
  refine Eq.trans (b := V m c main_arg1 (ix3 b j l)) ?_ (congrFun (V_arg m c _ (by decide)) _)
  blk_point [iblk, idx6 t]

end Tiles

theorem blkModc_at (j : Fin 9) (l : Fin 1024) : blkModc m c t (ix2 j l) = argModc m c (ix2 j l) := by
  refine Eq.trans (b := V m c main_arg2 (ix2 j l)) ?_ (congrFun (V_arg m c _ (by decide)) _)
  blk_point [iblk, idx6 t]

theorem blkG_at (l : Fin 1024) : blkG m c t (ix2 0 l) = argG m c (ix2 0 l) := by
  refine Eq.trans (b := V m c main_arg3 (ix2 0 l)) ?_ (congrFun (V_arg m c _ (by decide)) _)
  blk_point [iblk, idx6 t]

theorem blkW_at (k : Fin 1024) (f : Fin 4608) : blkW m c t (ix2 k f) = argW m c (ix2 k f) := by
  refine Eq.trans (b := V m c main_arg4 (ix2 k f)) ?_ (congrFun (V_arg m c _ (by decide)) _)
  blk_point [iblk, idx6 t]

theorem blkGrouped_at (l : Fin 256) (k : Fin 1024) : blkGrouped m c t (ix2 l k) = argGrouped m c (ix2 l k) := by
  refine Eq.trans (b := V m c main_arg5 (ix2 l k)) ?_ (congrFun (V_arg m c _ (by decide)) _)
  blk_point [iblk, idx6 t]

theorem blkGains_at (k : Fin 256) : blkGains m c t (ix2 0 k) = argGains m c (ix2 0 k) := by
  refine Eq.trans (b := V m c main_arg6 (ix2 0 k)) ?_ (congrFun (V_arg m c _ (by decide)) _)
  blk_point [iblk, idx6 t]

theorem blkLatent_at (l : Fin 1024) (k : Fin 256) : blkLatent m c t (ix2 l k) = argLatent m c (ix2 l k) := by
  refine Eq.trans (b := V m c main_arg8 (ix2 l k)) ?_ (congrFun (V_arg m c _ (by decide)) _)
  blk_point [iblk, idx6 t]

/-- The modulated tokens of the arguments. -/
abbrev argToken : Fin 32 → Fin 2304 → Fin 1024 → EReal := token (argX m c) (argModx m c) (argModc m c) (argG m c)

section Point

variable (b : Fin 32) (T : Fin 9) (hb : (b : ℕ) = t.val / 9) (hT : (T : ℕ) = t.val % 9) (r : Fin 256)

include hb hT in
/-- A row of the modulated tile. -/
theorem input_tile : (fun k => input (F := Ideal) (Ffn.base (grid0.coords t 1).val 256 0) (blkX m c t) (blkModx m c t) (blkModc m c t)
    (blkG m c t) (ix2 r k)) = argToken m c b ⟨T * 256 + r, by omega⟩ := by
  funext k
  rw [(idx6 t).1, ← hT, base_eq, input_at _ (by omega)]
  simp only [blkX_at m c t b T hb hT, blkModx_at m c t b hb, blkModc_at, blkG_at]
  rfl

variable (x7 : FVec Ideal S256x2048 .bf16) (x9 : FVec Ideal S1x512 .f32) (x10 : FVec Ideal S512x2048 .bf16)
  (x11 : FVec Ideal S1024x128 .bf16) (x12 : FVec Ideal S1x512 .f32) (x13 : FVec Ideal S1x1024 .f32) (x14 x15 x16 x17 : FVec Ideal S256x128 .f32)

include hb hT in
/-- What a point leaves, token by token. -/
theorem latent_point (l : Fin 1024) :
    out0_19 (F := Ideal) (grid0.coords t) (blkX m c t) (blkModx m c t) (blkModc m c t) (blkG m c t) (blkW m c t) (blkGrouped m c t)
        (blkGains m c t) x7 (blkLatent m c t) x9 x10 x11 x12 x13 x14 x15 x16 x17 (ix3 0 l r)
      = latentArray (argToken m c) (argW m c) (argGains m c) (argLatent m c) (ix3 b l ⟨T * 256 + r, by omega⟩) := by
  rw [out_latent, View.canon_unit_zero (by decide), latentValue_at, input_tile m c t b T hb hT r]
  simp only [blkW_at, blkGains_at, blkLatent_at]
  rfl

include hb hT in
theorem grouped_point (l : Fin 256) :
    out0_22 (F := Ideal) (grid0.coords t) (blkX m c t) (blkModx m c t) (blkModc m c t) (blkG m c t) (blkW m c t) (blkGrouped m c t)
        (blkGains m c t) x7 (blkLatent m c t) x9 x10 x11 x12 x13 x14 x15 x16 x17 (ix3 0 l r)
      = groupedArray (argToken m c) (argGrouped m c) (ix3 b l ⟨T * 256 + r, by omega⟩) := by
  rw [out_grouped, View.canon_unit_zero (by decide), groupedValue_at, input_tile m c t b T hb hT r]
  simp only [blkGrouped_at]
  rfl

include hb hT in
theorem scan_point (f : Fin 2048) :
    out0_24 (F := Ideal) (grid0.coords t) (blkX m c t) (blkModx m c t) (blkModc m c t) (blkG m c t) (blkW m c t) (blkGrouped m c t)
        (blkGains m c t) x7 (blkLatent m c t) x9 x10 x11 x12 x13 x14 x15 x16 x17 (ix3 0 r f)
      = scanArray (argToken m c) (argW m c) (ix3 b ⟨T * 256 + r, by omega⟩ f) := by
  rw [out_scan, View.canon_unit_zero (by decide), scan_at, input_tile m c t b T hb hT r]
  simp only [blkW_at]
  rfl

include hb hT in
theorem step_point (f : Fin 128) :
    out0_25 (F := Ideal) (grid0.coords t) (blkX m c t) (blkModx m c t) (blkModc m c t) (blkG m c t) (blkW m c t) (blkGrouped m c t)
        (blkGains m c t) x7 (blkLatent m c t) x9 x10 x11 x12 x13 x14 x15 x16 x17 (ix3 0 r f)
      = stepArray (argToken m c) (argW m c) (ix3 b ⟨T * 256 + r, by omega⟩ f) := by
  rw [out_steps, View.canon_unit_zero (by decide), step_at, input_tile m c t b T hb hT r]
  simp only [blkW_at]
  rfl

end Point

/-! ## The result arrays of the run -/

theorem latent_final : (dats m 0 c).arrAt 19 cfg0.N = latentArray (argToken m c) (argW m c) (argGains m c) (argLatent m c) := by
  refine (dats m 0 c).arrAt_eq_of_covers 19 _ (by decide +kernel) fun t _ y => ?_
  have hN : t.val < 288 := lt_of_lt_of_eq t.isLt (show cfg0.N = 288 from N_0)
  blk_simp
  rw [after0_19]
  idx_vars y
  obtain rfl : y0 = 0 := Subsingleton.elim _ _
  refine (latent_point m c t ⟨t.val / 9, by omega⟩ ⟨t.val % 9, by omega⟩ rfl rfl y2 _ _ _ _ _ _ _ _ _ _ y1).trans ?_
  refine congrArg _ ?_
  blk_ext [idx6 t]

theorem grouped_final : (dats m 0 c).arrAt 22 cfg0.N = groupedArray (argToken m c) (argGrouped m c) := by
  refine (dats m 0 c).arrAt_eq_of_covers 22 _ (by decide +kernel) fun t _ y => ?_
  have hN : t.val < 288 := lt_of_lt_of_eq t.isLt (show cfg0.N = 288 from N_0)
  blk_simp
  rw [after0_22]
  idx_vars y
  obtain rfl : y0 = 0 := Subsingleton.elim _ _
  refine (grouped_point m c t ⟨t.val / 9, by omega⟩ ⟨t.val % 9, by omega⟩ rfl rfl y2 _ _ _ _ _ _ _ _ _ _ y1).trans ?_
  refine congrArg _ ?_
  blk_ext [idx6 t]

theorem scan_final : (dats m 0 c).arrAt 24 cfg0.N = scanArray (argToken m c) (argW m c) := by
  refine (dats m 0 c).arrAt_eq_of_covers 24 _ (by decide +kernel) fun t _ y => ?_
  have hN : t.val < 288 := lt_of_lt_of_eq t.isLt (show cfg0.N = 288 from N_0)
  blk_simp
  rw [after0_24]
  idx_vars y
  obtain rfl : y0 = 0 := Subsingleton.elim _ _
  refine (scan_point m c t ⟨t.val / 9, by omega⟩ ⟨t.val % 9, by omega⟩ rfl rfl y1 _ _ _ _ _ _ _ _ _ _ y2).trans ?_
  refine congrArg _ ?_
  blk_ext [idx6 t]

theorem step_final : (dats m 0 c).arrAt 25 cfg0.N = stepArray (argToken m c) (argW m c) := by
  refine (dats m 0 c).arrAt_eq_of_covers 25 _ (by decide +kernel) fun t _ y => ?_
  have hN : t.val < 288 := lt_of_lt_of_eq t.isLt (show cfg0.N = 288 from N_0)
  blk_simp
  rw [after0_25]
  idx_vars y
  obtain rfl : y0 = 0 := Subsingleton.elim _ _
  refine (step_point m c t ⟨t.val / 9, by omega⟩ ⟨t.val % 9, by omega⟩ rfl rfl y1 _ _ _ _ _ _ _ _ _ _ y2).trans ?_
  refine congrArg _ ?_
  blk_ext [idx6 t]

end Proj

end
-- ==== Proof.Proj.Arrays.lean ====
module

public import proofs.«01_k».proof.Proof.Proj.Point

@[expose] public section

/-! # What the input projections leave -/

noncomputable section

namespace Proj

open Cert.Kernel6Ideal Cert.Kernel6Ideal.Gen Idealize.ShloMosaic Idealize.ShloMosaic.TcCoe Idealize.SL.Sem

variable (m : (ℓ : Loc nD τ sig) → Buf (Elt Ideal) ℓ)

/-- The kernel leaves the four arrays and keeps its arguments. -/
theorem run_kernel (ρ : Dev nD → PrngReg) : θ_run defs (onTc (τ := τ) (main (F := Ideal))) ⟨m, fun _ => 0, ρ⟩ fun r => ∀ c : Dev nD,
    r.2.mem ((c.tc : Thread nD τ).loc main_v76_1) = latentArray (argToken m c) (argW m c) (argGains m c) (argLatent m c)
      ∧ r.2.mem ((c.tc : Thread nD τ).loc main_v76_4) = groupedArray (argToken m c) (argGrouped m c)
      ∧ r.2.mem ((c.tc : Thread nD τ).loc main_v76_6) = scanArray (argToken m c) (argW m c)
      ∧ r.2.mem ((c.tc : Thread nD τ).loc main_v76_7) = stepArray (argToken m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (latent_final m c), (h c).2.1.trans (grouped_final m c), (h c).2.2.1.trans (scan_final m c),
    (h c).2.2.2.1.trans (step_final m c), (h c).2.2.2.2⟩) (run_results m ρ)

end Proj

end
-- ==== Proof.Proj.Reference.lean ====
module

public import proofs.«01_k».proof.Proof.Proj.Host
public import proofs.«01_k».proof.Proof.Proj.Arrays

@[expose] public section

/-! # The reference's input projections are those of the kernel -/

set_option maxRecDepth 16384

noncomputable section

namespace Proj

open Cert.Reference6Ideal Cert.Reference6Ideal.Gen Idealize.ShloMosaic Idealize.ShloMosaic.TcCoe Idealize.SL.Sem
open Merge (modulatedH_at tokenRows_at modx3_at modx4_at modc3_at modc4_at gainRows_at)

theorem tokens_at (x : FVec Ideal S32x2304x1024 .f32) (modx : FVec Ideal S32x9x1024 .f32) (modc : FVec Ideal S9x1024 .f32)
    (g : FVec Ideal S1x1024 .f32) (b : Fin 32) (n : Fin 2304) :
    (fun k => tokens x modx modc g (ix3 b n k)) = token x modx modc g b n := by
  funext k
  rw [tokens, modulatedH_at]
  simp only [tokenRows_at, modx3_at, modx4_at, modc3_at, modc4_at, gainRows_at]
  rfl

theorem tokens_apply (x : FVec Ideal S32x2304x1024 .f32) (modx : FVec Ideal S32x9x1024 .f32) (modc : FVec Ideal S9x1024 .f32)
    (g : FVec Ideal S1x1024 .f32) (b : Fin 32) (n : Fin 2304) (k : Fin 1024) :
    tokens x modx modc g (ix3 b n k) = token x modx modc g b n k := congrFun (tokens_at x modx modc g b n) k

variable (m : (ℓ : Loc nD τ sig) → Buf (Elt Ideal) ℓ) (c : Dev nD)

/-- The modulated tokens of the reference's arguments. -/
abbrev refToken : Fin 32 → Fin 2304 → Fin 1024 → EReal := token (m ((c : Thread nD τ).loc main_arg0)) (m ((c : Thread nD τ).loc main_arg1))
  (m ((c : Thread nD τ).loc main_arg2)) (m ((c : Thread nD τ).loc main_arg3))

theorem latent_eq : latentValuesH (normedH (latentH (argColumns m c)) (m ((c : Thread nD τ).loc main_arg6))) (m ((c : Thread nD τ).loc main_arg8)) = latentArray (refToken m c) (m ((c : Thread nD τ).loc main_arg4))
    (m ((c : Thread nD τ).loc main_arg6)) (m ((c : Thread nD τ).loc main_arg8)) := by
  funext y
  idx_vars y
  rw [latentValuesH_at]
  simp only [argColumns, argTokens, normedH_at, latentH_at, columnsH_at, tokens_at]
  rfl

theorem grouped_eq : groupedValuesH (argTokens m c) (m ((c : Thread nD τ).loc main_arg5)) = groupedArray (refToken m c) (m ((c : Thread nD τ).loc main_arg5)) := by
  funext y
  idx_vars y
  rw [groupedValuesH_at]
  simp only [argTokens, tokens_apply]
  rfl

theorem scan_eq : scanH (argColumns m c) = scanArray (refToken m c) (m ((c : Thread nD τ).loc main_arg4)) := by
  funext y
  idx_vars y
  rw [scanH_at, argColumns, columnsH_at, argTokens, tokens_at]
  rfl

theorem steps_eq : stepsH (argColumns m c) = stepArray (refToken m c) (m ((c : Thread nD τ).loc main_arg4)) := by
  funext y
  idx_vars y
  rw [stepsH_at, argColumns, columnsH_at, argTokens, tokens_at]
  rfl

/-- The reference leaves the four arrays and keeps its arguments. -/
theorem run_reference (ρ : Dev nD → PrngReg) : θ_run defs (onTc (τ := τ) (main (F := Ideal))) ⟨m, fun _ => 0, ρ⟩ fun r => ∀ c : Dev nD,
    r.2.mem ((c.tc : Thread nD τ).loc main_v60) = latentArray (refToken m c) (m ((c : Thread nD τ).loc main_arg4)) (m ((c : Thread nD τ).loc main_arg6)) (m ((c : Thread nD τ).loc main_arg8))
      ∧ r.2.mem ((c.tc : Thread nD τ).loc main_v62) = groupedArray (refToken m c) (m ((c : Thread nD τ).loc main_arg5))
      ∧ r.2.mem ((c.tc : Thread nD τ).loc main_v37) = scanArray (refToken m c) (m ((c : Thread nD τ).loc main_arg4))
      ∧ r.2.mem ((c.tc : Thread nD τ).loc main_v38) = stepArray (refToken m c) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (latent_eq m c), (h c).2.1.trans (grouped_eq m c), (h c).2.2.1.trans (scan_eq m c),
    (h c).2.2.2.1.trans (steps_eq m c), (h c).2.2.2.2⟩) (Value.run m ρ)

end Proj

end
-- ==== Proof.lean ====
/- The claims about the calls of one trunk layer. -/
module

public import proofs.«01_k».proof.Defs
public import proofs.«01_k».proof.Proof.Gen.Kernel
public import proofs.«01_k».proof.Proof.Bits.Frame
public import proofs.«01_k».proof.Proof.Gen.KernelIdeal
public import proofs.«01_k».proof.Proof.Final
public import proofs.«01_k».proof.Proof.Gen.ReferenceIdeal
public import proofs.«01_k».proof.Proof.ReferenceEq
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Ffn.Point2
public import proofs.«01_k».proof.Proof.Gen.Reference2Ideal
public import proofs.«01_k».proof.Proof.Gen.Reference2Ideal.Run
public import proofs.«01_k».proof.Proof.Ffn.Reference2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Ffn.Point3
public import proofs.«01_k».proof.Proof.Gen.Reference3Ideal
public import proofs.«01_k».proof.Proof.Gen.Reference3Ideal.Run
public import proofs.«01_k».proof.Proof.Ffn.Reference3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Merge.Point
public import proofs.«01_k».proof.Proof.Gen.Reference4Ideal
public import proofs.«01_k».proof.Proof.Gen.Reference4Ideal.Run
public import proofs.«01_k».proof.Proof.Merge.Reference
public import proofs.«01_k».proof.Proof.Gen.Kernel5
public import proofs.«01_k».proof.Proof.Grouped.Bits.Frame
public import proofs.«01_k».proof.Proof.Gen.Kernel5Ideal
public import proofs.«01_k».proof.Proof.Grouped.Ideal.Frame
public import proofs.«01_k».proof.Proof.Grouped.Final
public import proofs.«01_k».proof.Proof.Gen.Reference5Ideal
public import proofs.«01_k».proof.Proof.Grouped.Reference
public import proofs.«01_k».proof.Proof.Gen.Pre_finite_grouped_scores
public import proofs.«01_k».proof.Proof.Gen.Kernel6
public import proofs.«01_k».proof.Proof.Gen.Kernel6.Launch
public import proofs.«01_k».proof.Proof.Gen.Kernel6Ideal
public import proofs.«01_k».proof.Proof.Gen.Kernel6Ideal.Launch
public import proofs.«01_k».proof.Proof.Proj.Bits.Run
public import proofs.«01_k».proof.Proof.Proj.Reference
public import proofs.«01_k».proof.Proof.Gen.Reference6Ideal
public import proofs.«01_k».proof.Proof.Gen.Reference6Ideal.Run
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The kernel over the reals and the reference leave the same result: both are the attention of the arguments. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  pair_intro
  · run_from Cert.KernelIdeal.Value.run_blocks m g
  · run_from Cert.ReferenceIdeal.Value.run m' g'
    obtain ⟨hq, hk⟩ := Attn.finite_of_pre _ _ _ (hpre c)
    obtain ⟨e0, e1, e2⟩ := hagree c
    refine Eq.trans ?_ (Cert.KernelIdeal.Value.final m c hq hk).symm
    refine (Cert.ReferenceIdeal.Value.reference_eq m' c (e0 ▸ hq) (e1 ▸ hk)).trans ?_
    rw [e0, e1, e2]

/-- The reference terminates, keeps its arguments and has no counter that could end away from zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2))
        ∧ r.2.sem = fun _ => 0 :=
  (θ_run _ _ _).mono (fun r h => ⟨fun c => (h c).2, sem_eq_zero_of_no_sems (by decide) r.2⟩) (Cert.ReferenceIdeal.Value.run m g)

/-- The first half step of a layer: kernel and reference agree. -/
theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    obtain ⟨e0, e1, e2, e3, e4, e5, e6, e7⟩ := hagree c
    refine Eq.trans ?_ (Ffn.final2 m c).symm
    refine (Ffn.reference2_eq m' c).trans ?_
    rw [e0, e1, e2, e3, e4, e5, e6, e7]

/-- The last half step: kernel and reference agree. -/
theorem algebraic3 : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · run_from Cert.Reference3Ideal.Value.run m' g'
    obtain ⟨e0, e1, _, e3, e4, e5, e6, e7⟩ := hagree c
    refine Eq.trans ?_ (Ffn.final3 m c).symm
    refine (Ffn.reference3_eq m' c).trans ?_
    rw [e0, e1, e3, e4, e5, e6, e7]

/-- The merge of the mixers: kernel and reference agree. -/
theorem algebraic4 : Cert.algebraic_Kernel4Ideal_Reference4Ideal (hKernel4Ideal := Cert.Kernel4Ideal.Gen.facts) (hReference4Ideal := Cert.Reference4Ideal.Gen.facts) := by
  pair_intro
  · run_from Cert.Kernel4Ideal.Value.run_blocks m g
  · run_from Cert.Reference4Ideal.Value.run m' g'
    obtain ⟨e0, e1, e2, e3, e4, e5, e6, e7, e8, e9, e10, e11, e12, e13⟩ := hagree c
    refine Eq.trans ?_ (Merge.final m c).symm
    refine (Merge.reference_eq m' c).trans ?_
    rw [e0, e1, e2, e3, e4, e5, e6, e7, e8, e9, e10, e11, e12, e13]

/-- The grouped attention: kernel and reference agree. -/
theorem algebraic5 : Cert.algebraic_Kernel5Ideal_Reference5Ideal_pre_finite_grouped_scores (hKernel5Ideal := Cert.Kernel5Ideal.Gen.facts)
    (hReference5Ideal := Cert.Reference5Ideal.Gen.facts) (hPre_finite_grouped_scores := Cert.Pre_finite_grouped_scores.Gen.facts) := by
  pair_intro
  · run_from Cert.Kernel5Ideal.Value.run_blocks m g
  · run_from Cert.Reference5Ideal.Value.run m' g'
    obtain ⟨hq, hk⟩ := Grouped.finite_of_pre _ _ _ (hpre c)
    obtain ⟨e0, e1, e2⟩ := hagree c
    refine Eq.trans ?_ (Grouped.final m c hq hk).symm
    refine (Grouped.reference_eq m' c (e0 ▸ hq) (e1 ▸ hk)).trans ?_
    rw [e0, e1, e2]

/-- The input projections: kernel and reference agree on the four results. -/
theorem algebraic6 : Cert.algebraic_Kernel6Ideal_Reference6Ideal (hKernel6Ideal := Cert.Kernel6Ideal.Gen.facts) (hReference6Ideal := Cert.Reference6Ideal.Gen.facts) := by
  pair_intro
  · run_from Proj.run_kernel m g
  · run_from Proj.run_reference m' g'
    all_goals
      obtain ⟨e0, e1, e2, e3, _⟩ := hagree c
      rw [Proj.refToken, e0, e1, e2, e3]

theorem reference_frame2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ fun r => (∀ c : Dev Cert.Reference2Ideal.nD,
        r.2.mem ((c.tc : Thread _ Cert.Reference2Ideal.τ).loc Cert.Reference2Ideal.main_arg0) = m ((c.tc : Thread _ Cert.Reference2Ideal.τ).loc Cert.Reference2Ideal.main_arg0)
        ∧ r.2.mem ((c.tc : Thread _ Cert.Reference2Ideal.τ).loc Cert.Reference2Ideal.main_arg1) = m ((c.tc : Thread _ Cert.Reference2Ideal.τ).loc Cert.Reference2Ideal.main_arg1)
        ∧ r.2.mem ((c.tc : Thread _ Cert.Reference2Ideal.τ).loc Cert.Reference2Ideal.main_arg2) = m ((c.tc : Thread _ Cert.Reference2Ideal.τ).loc Cert.Reference2Ideal.main_arg2)
        ∧ r.2.mem ((c.tc : Thread _ Cert.Reference2Ideal.τ).loc Cert.Reference2Ideal.main_arg3) = m ((c.tc : Thread _ Cert.Reference2Ideal.τ).loc Cert.Reference2Ideal.main_arg3)
        ∧ r.2.mem ((c.tc : Thread _ Cert.Reference2Ideal.τ).loc Cert.Reference2Ideal.main_arg4) = m ((c.tc : Thread _ Cert.Reference2Ideal.τ).loc Cert.Reference2Ideal.main_arg4)
        ∧ r.2.mem ((c.tc : Thread _ Cert.Reference2Ideal.τ).loc Cert.Reference2Ideal.main_arg5) = m ((c.tc : Thread _ Cert.Reference2Ideal.τ).loc Cert.Reference2Ideal.main_arg5)
        ∧ r.2.mem ((c.tc : Thread _ Cert.Reference2Ideal.τ).loc Cert.Reference2Ideal.main_arg6) = m ((c.tc : Thread _ Cert.Reference2Ideal.τ).loc Cert.Reference2Ideal.main_arg6)
        ∧ r.2.mem ((c.tc : Thread _ Cert.Reference2Ideal.τ).loc Cert.Reference2Ideal.main_arg7) = m ((c.tc : Thread _ Cert.Reference2Ideal.τ).loc Cert.Reference2Ideal.main_arg7))
        ∧ r.2.sem = fun _ => 0 :=
  (θ_run _ _ _).mono (fun r h => ⟨fun c => (h c).2, sem_eq_zero_of_no_sems (by decide) r.2⟩) (Cert.Reference2Ideal.Value.run m g)

theorem reference_frame3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ fun r => (∀ c : Dev Cert.Reference3Ideal.nD,
        r.2.mem ((c.tc : Thread _ Cert.Reference3Ideal.τ).loc Cert.Reference3Ideal.main_arg0) = m ((c.tc : Thread _ Cert.Reference3Ideal.τ).loc Cert.Reference3Ideal.main_arg0)
        ∧ r.2.mem ((c.tc : Thread _ Cert.Reference3Ideal.τ).loc Cert.Reference3Ideal.main_arg1) = m ((c.tc : Thread _ Cert.Reference3Ideal.τ).loc Cert.Reference3Ideal.main_arg1)
        ∧ r.2.mem ((c.tc : Thread _ Cert.Reference3Ideal.τ).loc Cert.Reference3Ideal.main_arg2) = m ((c.tc : Thread _ Cert.Reference3Ideal.τ).loc Cert.Reference3Ideal.main_arg2)
        ∧ r.2.mem ((c.tc : Thread _ Cert.Reference3Ideal.τ).loc Cert.Reference3Ideal.main_arg3) = m ((c.tc : Thread _ Cert.Reference3Ideal.τ).loc Cert.Reference3Ideal.main_arg3)
        ∧ r.2.mem ((c.tc : Thread _ Cert.Reference3Ideal.τ).loc Cert.Reference3Ideal.main_arg4) = m ((c.tc : Thread _ Cert.Reference3Ideal.τ).loc Cert.Reference3Ideal.main_arg4)
        ∧ r.2.mem ((c.tc : Thread _ Cert.Reference3Ideal.τ).loc Cert.Reference3Ideal.main_arg5) = m ((c.tc : Thread _ Cert.Reference3Ideal.τ).loc Cert.Reference3Ideal.main_arg5)
        ∧ r.2.mem ((c.tc : Thread _ Cert.Reference3Ideal.τ).loc Cert.Reference3Ideal.main_arg6) = m ((c.tc : Thread _ Cert.Reference3Ideal.τ).loc Cert.Reference3Ideal.main_arg6)
        ∧ r.2.mem ((c.tc : Thread _ Cert.Reference3Ideal.τ).loc Cert.Reference3Ideal.main_arg7) = m ((c.tc : Thread _ Cert.Reference3Ideal.τ).loc Cert.Reference3Ideal.main_arg7))
        ∧ r.2.sem = fun _ => 0 :=
  (θ_run _ _ _).mono (fun r h => ⟨fun c => (h c).2, sem_eq_zero_of_no_sems (by decide) r.2⟩) (Cert.Reference3Ideal.Value.run m g)

theorem reference_frame4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ fun r => (∀ c : Dev Cert.Reference4Ideal.nD,
        r.2.mem ((c.tc : Thread _ Cert.Reference4Ideal.τ).loc Cert.Reference4Ideal.main_arg0) = m ((c.tc : Thread _ Cert.Reference4Ideal.τ).loc Cert.Reference4Ideal.main_arg0)
        ∧ r.2.mem ((c.tc : Thread _ Cert.Reference4Ideal.τ).loc Cert.Reference4Ideal.main_arg1) = m ((c.tc : Thread _ Cert.Reference4Ideal.τ).loc Cert.Reference4Ideal.main_arg1)
        ∧ r.2.mem ((c.tc : Thread _ Cert.Reference4Ideal.τ).loc Cert.Reference4Ideal.main_arg2) = m ((c.tc : Thread _ Cert.Reference4Ideal.τ).loc Cert.Reference4Ideal.main_arg2)
        ∧ r.2.mem ((c.tc : Thread _ Cert.Reference4Ideal.τ).loc Cert.Reference4Ideal.main_arg3) = m ((c.tc : Thread _ Cert.Reference4Ideal.τ).loc Cert.Reference4Ideal.main_arg3)
        ∧ r.2.mem ((c.tc : Thread _ Cert.Reference4Ideal.τ).loc Cert.Reference4Ideal.main_arg4) = m ((c.tc : Thread _ Cert.Reference4Ideal.τ).loc Cert.Reference4Ideal.main_arg4)
        ∧ r.2.mem ((c.tc : Thread _ Cert.Reference4Ideal.τ).loc Cert.Reference4Ideal.main_arg5) = m ((c.tc : Thread _ Cert.Reference4Ideal.τ).loc Cert.Reference4Ideal.main_arg5)
        ∧ r.2.mem ((c.tc : Thread _ Cert.Reference4Ideal.τ).loc Cert.Reference4Ideal.main_arg6) = m ((c.tc : Thread _ Cert.Reference4Ideal.τ).loc Cert.Reference4Ideal.main_arg6)
        ∧ r.2.mem ((c.tc : Thread _ Cert.Reference4Ideal.τ).loc Cert.Reference4Ideal.main_arg7) = m ((c.tc : Thread _ Cert.Reference4Ideal.τ).loc Cert.Reference4Ideal.main_arg7)
        ∧ r.2.mem ((c.tc : Thread _ Cert.Reference4Ideal.τ).loc Cert.Reference4Ideal.main_arg8) = m ((c.tc : Thread _ Cert.Reference4Ideal.τ).loc Cert.Reference4Ideal.main_arg8)
        ∧ r.2.mem ((c.tc : Thread _ Cert.Reference4Ideal.τ).loc Cert.Reference4Ideal.main_arg9) = m ((c.tc : Thread _ Cert.Reference4Ideal.τ).loc Cert.Reference4Ideal.main_arg9)
        ∧ r.2.mem ((c.tc : Thread _ Cert.Reference4Ideal.τ).loc Cert.Reference4Ideal.main_arg10) = m ((c.tc : Thread _ Cert.Reference4Ideal.τ).loc Cert.Reference4Ideal.main_arg10)
        ∧ r.2.mem ((c.tc : Thread _ Cert.Reference4Ideal.τ).loc Cert.Reference4Ideal.main_arg11) = m ((c.tc : Thread _ Cert.Reference4Ideal.τ).loc Cert.Reference4Ideal.main_arg11)
        ∧ r.2.mem ((c.tc : Thread _ Cert.Reference4Ideal.τ).loc Cert.Reference4Ideal.main_arg12) = m ((c.tc : Thread _ Cert.Reference4Ideal.τ).loc Cert.Reference4Ideal.main_arg12)
        ∧ r.2.mem ((c.tc : Thread _ Cert.Reference4Ideal.τ).loc Cert.Reference4Ideal.main_arg13) = m ((c.tc : Thread _ Cert.Reference4Ideal.τ).loc Cert.Reference4Ideal.main_arg13))
        ∧ r.2.sem = fun _ => 0 :=
  (θ_run _ _ _).mono (fun r h => ⟨fun c => (h c).2, sem_eq_zero_of_no_sems (by decide) r.2⟩) (Cert.Reference4Ideal.Value.run m g)

theorem reference_frame5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ fun r => (∀ c : Dev Cert.Reference5Ideal.nD,
        r.2.mem ((c.tc : Thread _ Cert.Reference5Ideal.τ).loc Cert.Reference5Ideal.main_arg0) = m ((c.tc : Thread _ Cert.Reference5Ideal.τ).loc Cert.Reference5Ideal.main_arg0)
        ∧ r.2.mem ((c.tc : Thread _ Cert.Reference5Ideal.τ).loc Cert.Reference5Ideal.main_arg1) = m ((c.tc : Thread _ Cert.Reference5Ideal.τ).loc Cert.Reference5Ideal.main_arg1)
        ∧ r.2.mem ((c.tc : Thread _ Cert.Reference5Ideal.τ).loc Cert.Reference5Ideal.main_arg2) = m ((c.tc : Thread _ Cert.Reference5Ideal.τ).loc Cert.Reference5Ideal.main_arg2))
        ∧ r.2.sem = fun _ => 0 :=
  (θ_run _ _ _).mono (fun r h => ⟨fun c => (h c).2, sem_eq_zero_of_no_sems (by decide) r.2⟩) (Cert.Reference5Ideal.Value.run m g)

theorem reference_frame6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal)))
      ⟨m, fun _ => 0, g⟩ fun r => (∀ c : Dev Cert.Reference6Ideal.nD,
        r.2.mem ((c.tc : Thread _ Cert.Reference6Ideal.τ).loc Cert.Reference6Ideal.main_arg0) = m ((c.tc : Thread _ Cert.Reference6Ideal.τ).loc Cert.Reference6Ideal.main_arg0)
        ∧ r.2.mem ((c.tc : Thread _ Cert.Reference6Ideal.τ).loc Cert.Reference6Ideal.main_arg1) = m ((c.tc : Thread _ Cert.Reference6Ideal.τ).loc Cert.Reference6Ideal.main_arg1)
        ∧ r.2.mem ((c.tc : Thread _ Cert.Reference6Ideal.τ).loc Cert.Reference6Ideal.main_arg2) = m ((c.tc : Thread _ Cert.Reference6Ideal.τ).loc Cert.Reference6Ideal.main_arg2)
        ∧ r.2.mem ((c.tc : Thread _ Cert.Reference6Ideal.τ).loc Cert.Reference6Ideal.main_arg3) = m ((c.tc : Thread _ Cert.Reference6Ideal.τ).loc Cert.Reference6Ideal.main_arg3)
        ∧ r.2.mem ((c.tc : Thread _ Cert.Reference6Ideal.τ).loc Cert.Reference6Ideal.main_arg4) = m ((c.tc : Thread _ Cert.Reference6Ideal.τ).loc Cert.Reference6Ideal.main_arg4)
        ∧ r.2.mem ((c.tc : Thread _ Cert.Reference6Ideal.τ).loc Cert.Reference6Ideal.main_arg5) = m ((c.tc : Thread _ Cert.Reference6Ideal.τ).loc Cert.Reference6Ideal.main_arg5)
        ∧ r.2.mem ((c.tc : Thread _ Cert.Reference6Ideal.τ).loc Cert.Reference6Ideal.main_arg6) = m ((c.tc : Thread _ Cert.Reference6Ideal.τ).loc Cert.Reference6Ideal.main_arg6)
        ∧ r.2.mem ((c.tc : Thread _ Cert.Reference6Ideal.τ).loc Cert.Reference6Ideal.main_arg7) = m ((c.tc : Thread _ Cert.Reference6Ideal.τ).loc Cert.Reference6Ideal.main_arg7)
        ∧ r.2.mem ((c.tc : Thread _ Cert.Reference6Ideal.τ).loc Cert.Reference6Ideal.main_arg8) = m ((c.tc : Thread _ Cert.Reference6Ideal.τ).loc Cert.Reference6Ideal.main_arg8)
        ∧ r.2.mem ((c.tc : Thread _ Cert.Reference6Ideal.τ).loc Cert.Reference6Ideal.main_arg9) = m ((c.tc : Thread _ Cert.Reference6Ideal.τ).loc Cert.Reference6Ideal.main_arg9)
        ∧ r.2.mem ((c.tc : Thread _ Cert.Reference6Ideal.τ).loc Cert.Reference6Ideal.main_arg10) = m ((c.tc : Thread _ Cert.Reference6Ideal.τ).loc Cert.Reference6Ideal.main_arg10)
        ∧ r.2.mem ((c.tc : Thread _ Cert.Reference6Ideal.τ).loc Cert.Reference6Ideal.main_arg11) = m ((c.tc : Thread _ Cert.Reference6Ideal.τ).loc Cert.Reference6Ideal.main_arg11)
        ∧ r.2.mem ((c.tc : Thread _ Cert.Reference6Ideal.τ).loc Cert.Reference6Ideal.main_arg12) = m ((c.tc : Thread _ Cert.Reference6Ideal.τ).loc Cert.Reference6Ideal.main_arg12))
        ∧ r.2.sem = fun _ => 0 :=
  (θ_run _ _ _).mono (fun r h => ⟨fun c => (h c).2.2.2.2, sem_eq_zero_of_no_sems (by decide) r.2⟩) (Cert.Reference6Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_scores.Gen.facts, Cert.Pre_finite_grouped_scores.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  fun m ρ _ => reference_frame2 m ρ,
  fun m ρ _ => Cert.Kernel3.Gen.frame m ρ,
  fun m ρ _ => Cert.Kernel3Ideal.Gen.frame m ρ,
  fun m ρ _ => reference_frame3 m ρ,
  fun m ρ _ => Cert.Kernel4.Gen.frame m ρ,
  fun m ρ _ => Cert.Kernel4Ideal.Gen.frame m ρ,
  fun m ρ _ => reference_frame4 m ρ,
  fun m ρ _ => Cert.Kernel5.Gen.frame m ρ,
  fun m ρ _ => Cert.Kernel5Ideal.Gen.frame m ρ,
  fun m ρ _ => Cert.Kernel5Ideal.Gen.frame m ρ,
  fun m ρ _ => reference_frame5 m ρ,
  fun m ρ _ => reference_frame5 m ρ,
  fun m ρ _ => Proj.Bits.frame m ρ,
  fun m ρ _ => Proj.frame m ρ,
  fun m ρ _ => reference_frame6 m ρ,
  trivial, algebraic, trivial, algebraic2, trivial, algebraic3, trivial, algebraic4, trivial, algebraic5, trivial, algebraic6⟩

end Cert.Proof

end
